-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = Layout.block ⟨3, ![2, 256, 512]⟩ ⟨3, ![16, 256, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S2x256x512 : Shape := ⟨3, ![2, 256, 512]⟩
abbrev S512x256 : Shape := ⟨2, ![512, 256]⟩
abbrev S16x256x32x64 : Shape := ⟨4, ![16, 256, 32, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S16x256x32x64 : S_.BroadcastsInDim S16x256x32x64 (![] : Fin 0 → Fin S16x256x32x64.rank)
  reducesTo_S16x256x32x64_S_d0_1_2_3 : S16x256x32x64.ReducesTo [0, 1, 2, 3] S_

variable [Facts]

def fn {F : FTy → Type} [FloatOps F] (main_arg0 : FVec F S2x256x512 .bf16) (main_arg1 : FVec F S512x256 .bf16) (main_arg2 : FVec F S16x256x32x64 .bf16) (main_arg3 : FVec F S16x256x32x64 .bf16) (main_arg4 : FVec F S256x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S16x256x32x64 .bf16 := Host.absf main_arg2
  let main_cst_2 : FVec F S_ .bf16 := constant S_ .bf16 0x7F80#16
  let main_v10 : FVec F S16x256x32x64 .bf16 := broadcastInDim S16x256x32x64 ![] bcast_S_S16x256x32x64 main_cst_2
  let main_v11 : IVec S16x256x32x64 1 := cmpf .olt main_v9 main_v10
  let main_c_3 : IVec S_ 1 := constantI S_ 1 1#1
  let main_v12 : IVec S_ 1 := (fun x v => Host.reduce IntOp.andi x v reducesTo_S16x256x32x64_S_d0_1_2_3 h_S_) main_v11 main_c_3
  let main_v13 : IVec S_ 1 := andi main_v8 main_v12
  main_v13
-- ==== Pre_finite_inputs_ReferenceIdeal.lean ====
abbrev S16x256x512 : Shape := ⟨3, ![16, 256, 512]⟩
abbrev S512x2048 : Shape := ⟨2, ![512, 2048]⟩
abbrev S16x256x32x64 : Shape := ⟨4, ![16, 256, 32, 64]⟩
abbrev S2048x512 : Shape := ⟨2, ![2048, 512]⟩
abbrev S_ : Shape := ⟨0, ![]⟩

class Facts : Prop where
  bcast_S_S16x256x512 : S_.BroadcastsInDim S16x256x512 (![] : Fin 0 → Fin S16x256x512.rank)
  reducesTo_S16x256x512_S_d0_1_2 : S16x256x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S16x256x32x64 : S_.BroadcastsInDim S16x256x32x64 (![] : Fin 0 → Fin S16x256x32x64.rank)
  reducesTo_S16x256x32x64_S_d0_1_2_3 : S16x256x32x64.ReducesTo [0, 1, 2, 3] S_

variable [Facts]

def fn {F : FTy → Type} [FloatOps F] (main_arg0 : FVec F S16x256x512 .bf16) (main_arg1 : FVec F S512x2048 .bf16) (main_arg2 : FVec F S16x256x32x64 .bf16) (main_arg3 : FVec F S16x256x32x64 .bf16) (main_arg4 : FVec F S2048x512 .bf16) : IVec S_ 1 :=
  let main_v0 : FVec F S16x256x512 .bf16 := Host.absf main_arg0
  let main_cst : FVec F S_ .bf16 := constant S_ .bf16 0x7F80#16
  let main_v1 : FVec F S16x256x512 .bf16 := broadcastInDim S16x256x512 ![] bcast_S_S16x256x512 main_cst
  let main_v2 : IVec S16x256x512 1 := cmpf .olt main_v0 main_v1
  let main_c : IVec S_ 1 := constantI S_ 1 1#1
  let main_v3 : IVec S_ 1 := (fun x v => Host.reduce IntOp.andi x v reducesTo_S16x256x512_S_d0_1_2 h_S_) main_v2 main_c
  let main_v4 : FVec F S512x2048 .bf16 := Host.absf main_arg1
  let main_cst_0 : FVec F S_ .bf16 := constant S_ .bf16 0x7F80#16
  let main_v5 : FVec F S512x2048 .bf16 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S16x256x32x64 .bf16 := Host.absf main_arg2
  let main_cst_2 : FVec F S_ .bf16 := constant S_ .bf16 0x7F80#16
  let main_v10 : FVec F S16x256x32x64 .bf16 := broadcastInDim S16x256x32x64 ![] bcast_S_S16x256x32x64 main_cst_2
  let main_v11 : IVec S16x256x32x64 1 := cmpf .olt main_v9 main_v10
  let main_c_3 : IVec S_ 1 := constantI S_ 1 1#1
  let main_v12 : IVec S_ 1 := (fun x v => Host.reduce IntOp.andi x v reducesTo_S16x256x32x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S16x256x32x64 : Shape := ⟨4, ![16, 256, 32, 64]⟩
abbrev S256x512 : Shape := ⟨2, ![256, 512]⟩
abbrev S_ : Shape := ⟨0, ![]⟩
abbrev S2x256x32x64 : Shape := ⟨4, ![2, 256, 32, 64]⟩
abbrev S2x32x256x64 : Shape := ⟨4, ![2, 32, 256, 64]⟩
abbrev S512x2048 : Shape := ⟨2, ![512, 2048]⟩
abbrev S2048x512 : Shape := ⟨2, ![2048, 512]⟩
abbrev S4x7 : Shape := ⟨2, ![4, 7]⟩
abbrev S256x256 : Shape := ⟨2, ![256, 256]⟩
abbrev S1x256x256 : Shape := ⟨3, ![1, 256, 256]⟩
abbrev S1x256x512 : Shape := ⟨3, ![1, 256, 512]⟩
abbrev S1x1 : Shape := ⟨2, ![1, 1]⟩
abbrev S256x64 : Shape := ⟨2, ![256, 64]⟩
abbrev S1x256x64 : Shape := ⟨3, ![1, 256, 64]⟩
abbrev S4x256x64 : Shape := ⟨3, ![4, 256, 64]⟩
abbrev S1x4x256x64 : Shape := ⟨4, ![1, 4, 256, 64]⟩
abbrev S4x256x256 : Shape := ⟨3, ![4, 256, 256]⟩
abbrev S4x256 : Shape := ⟨2, ![4, 256]⟩
abbrev S4x256x1 : Shape := ⟨3, ![4, 256, 1]⟩

abbrev nBuf : Space → Nat
  | .hbm => 36
  | .vmem => 8
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S16x256x32x64, .bf16⟩
  | .hbm, ⟨3, _⟩ => ⟨S16x256x32x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x32x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x256x32x64, .bf16⟩
  | .hbm, ⟨33, _⟩ => ⟨S2x32x256x64, .bf16⟩
  | .hbm, ⟨34, _⟩ => ⟨S2x32x256x64, .bf16⟩
  | .hbm, ⟨35, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x32x256x64, .bf16⟩
  | .local _ .vmem, ⟨3, _⟩ => ⟨S2x32x256x64, .bf16⟩
  | .local _ .vmem, ⟨4, _⟩ => ⟨S256x512, .bf16⟩
  | .local _ .vmem, ⟨5, _⟩ => ⟨S2x256x512, .f32⟩
  | .local _ .vmem, ⟨6, _⟩ => ⟨S512x2048, .bf16⟩
  | .local _ .vmem, ⟨7, _⟩ => ⟨S2048x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_13 : BitVec 32 := 1#32
  let v19 : BitVec 32 := Scalar.muli v7 c1_i32_13
  let v20 : BitVec 32 := Scalar.addi c0_i32 v19
  v20.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_15 : BitVec 32 := 1#32
  let v21 : BitVec 32 := Scalar.muli v4 c1_i32_15
  let v22 : BitVec 32 := Scalar.addi c0_i32_16 v21
  v22.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_39 : BitVec 32 := 1#32
  let v79 : BitVec 32 := Scalar.muli v4 c1_i32_39
  let v80 : BitVec 32 := Scalar.addi c0_i32_40 v79
  v80.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_47 : BitVec 32 := 1#32
  let v87 : BitVec 32 := Scalar.muli v7 c1_i32_47
  let v88 : BitVec 32 := Scalar.addi c0_i32_48 v87
  v88.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_55 : BitVec 32 := 1#32
  let v95 : BitVec 32 := Scalar.muli v4 c1_i32_55
  let v96 : BitVec 32 := Scalar.addi c0_i32_56 v95
  v96.toNat
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_65 : BitVec 32 := 1#32
  let v103 : BitVec 32 := Scalar.muli v7 c1_i32_65
  let v104 : BitVec 32 := Scalar.addi c0_i32_66 v103
  v104.toNat
def k0_off1 (d0 : Dev nD) (c0_i32_72 : BitVec 32) : Fin 4 → Nat :=
  let c0_77 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_71 : BitVec 32 := 8#32
  let v111 : BitVec 32 := Scalar.addi v2 c8_i32_71
  let v112 : BitVec 32 := Scalar.subi v111 c0_i32_72
  let c8_i32_73 : BitVec 32 := 8#32
  let v113 : BitVec 32 := Scalar.remsi v112 c8_i32_73
  let c4_i32_76 : BitVec 32 := 4#32
  let v126 : BitVec 32 := Scalar.muli v113 c4_i32_76
  let v127 : Index := Scalar.indexCast v126
  let c0_78 : Index := 0#32
  let c0_79 : Index := 0#32
  ![0, v127.toNat, 0, 0]
def k0_off2 (d0 : Dev nD) (c0_i32_72 : BitVec 32) : Fin 4 → Nat :=
  let c1_100 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_71 : BitVec 32 := 8#32
  let v111 : BitVec 32 := Scalar.addi v2 c8_i32_71
  let v112 : BitVec 32 := Scalar.subi v111 c0_i32_72
  let c8_i32_73 : BitVec 32 := 8#32
  let v113 : BitVec 32 := Scalar.remsi v112 c8_i32_73
  let c4_i32_99 : BitVec 32 := 4#32
  let v177 : BitVec 32 := Scalar.muli v113 c4_i32_99
  let v178 : Index := Scalar.indexCast v177
  let c0_101 : Index := 0#32
  let c0_102 : Index := 0#32
  ![1, v178.toNat, 0, 0]
def k0_dev7 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_133 : BitVec 32 := 1#32
  let v222 : BitVec 32 := Scalar.muli v4 c1_i32_133
  let v223 : BitVec 32 := Scalar.addi c0_i32_134 v222
  v223.toNat
def k0_dev8 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_152 : BitVec 32 := 1#32
  let v236 : BitVec 32 := Scalar.muli v4 c1_i32_152
  let v237 : BitVec 32 := Scalar.addi c0_i32_153 v236
  v237.toNat
def k0_dev9 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_171 : BitVec 32 := 1#32
  let v250 : BitVec 32 := Scalar.muli v7 c1_i32_171
  let v251 : BitVec 32 := Scalar.addi c0_i32_172 v250
  v251.toNat
def k0_dev10 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_190 : BitVec 32 := 1#32
  let v264 : BitVec 32 := Scalar.muli v7 c1_i32_190
  let v265 : BitVec 32 := Scalar.addi c0_i32_191 v264
  v265.toNat
def k0_dev11 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_317 : BitVec 32 := 1#32
  let v500 : BitVec 32 := Scalar.muli v4 c1_i32_317
  let v501 : BitVec 32 := Scalar.addi c0_i32_318 v500
  v501.toNat
def k0_dev12 (d0 : Dev nD) : Nat :=
  let c0_i32_337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_336 : BitVec 32 := 1#32
  let v514 : BitVec 32 := Scalar.muli v4 c1_i32_336
  let v515 : BitVec 32 := Scalar.addi c0_i32_337 v514
  v515.toNat
def k0_dev13 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_355 : BitVec 32 := 1#32
  let v528 : BitVec 32 := Scalar.muli v7 c1_i32_355
  let v529 : BitVec 32 := Scalar.addi c0_i32_356 v528
  v529.toNat
def k0_dev14 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_374 : BitVec 32 := 1#32
  let v542 : BitVec 32 := Scalar.muli v7 c1_i32_374
  let v543 : BitVec 32 := Scalar.addi c0_i32_375 v542
  v543.toNat
def k0_dev15 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_502 : BitVec 32 := 1#32
  let v778 : BitVec 32 := Scalar.muli v4 c1_i32_502
  let v779 : BitVec 32 := Scalar.addi c0_i32_503 v778
  v779.toNat
def k0_dev16 (d0 : Dev nD) : Nat :=
  let c0_i32_522 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_521 : BitVec 32 := 1#32
  let v792 : BitVec 32 := Scalar.muli v4 c1_i32_521
  let v793 : BitVec 32 := Scalar.addi c0_i32_522 v792
  v793.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16x256x512 : Shape := ⟨3, ![16, 256, 512]⟩
abbrev S512x2048 : Shape := ⟨2, ![512, 2048]⟩
abbrev S16x256x32x64 : Shape := ⟨4, ![16, 256, 32, 64]⟩
abbrev S2048x512 : Shape := ⟨2, ![2048, 512]⟩
abbrev S16x256x2048 : Shape := ⟨3, ![16, 256, 2048]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S16x32x256x256 : Shape := ⟨4, ![16, 32, 256, 256]⟩
abbrev S1x1x256x256 : Shape := ⟨4, ![1, 1, 256, 256]⟩
abbrev S16x32x256 : Shape := ⟨3, ![16, 32, 256]⟩
abbrev S16x32x256x1 : Shape := ⟨4, ![16, 32, 256, 1]⟩
abbrev S1x1x256x1 : Shape := ⟨4, ![1, 1, 256, 1]⟩
abbrev S16x32x64x256 : Shape := ⟨4, ![16, 32, 64, 256]⟩

abbrev nBuf : Space → Nat
  | .hbm => 94
  | .vmem => 0
  | .smem => 0
  | _ => 0

abbrev bufTy : (tb : Table) → Fin (tcTables nBuf tb) → BufTy
  | .hbm, ⟨0, _⟩ => ⟨S16x256x512, .bf16⟩
  | .hbm, ⟨1, _⟩ => ⟨S512x2048, .bf16⟩
  | .hbm, ⟨2, _⟩ => ⟨S16x256x32x64, .bf16⟩
  | .hbm, ⟨3, _⟩ => ⟨S16x256x32x64, .bf16⟩
  | .hbm, ⟨4, _⟩ => ⟨S2048x512, .bf16⟩
  | .hbm, ⟨5, _⟩ => ⟨S16x256x2048, .f32⟩
  | .hbm, ⟨6, _⟩ => ⟨S16x256x2048, .bf16⟩
  | .hbm, ⟨7, _⟩ => ⟨S16x256x32x64, .bf16⟩
  | .hbm, ⟨8, _⟩ => ⟨S256, .i32⟩
  | .hbm, ⟨9, _⟩ => ⟨S_, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S256, .i32⟩
  | .hbm, ⟨29, _⟩ => ⟨S_, .i32⟩
  | .hbm, ⟨30, _⟩ => ⟨S_, .i32⟩
  | .hbm, ⟨31, _⟩ => ⟨S256, .i32⟩
  | .hbm, ⟨32, _⟩ => ⟨S256, .i32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S256, .i1⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S256, .i32⟩
  | .hbm, ⟨47, _⟩ => ⟨S1x256, .i32⟩
  | .hbm, ⟨48, _⟩ => ⟨S256x256, .i32⟩
  | .hbm, ⟨49, _⟩ => ⟨S256x256, .i32⟩
  | .hbm, ⟨50, _⟩ => ⟨S256x256, .i1⟩
  | .hbm, ⟨51, _⟩ => ⟨S16x32x256x256, .f32⟩
  | .hbm, ⟨52, _⟩ => ⟨S16x32x256x256, .bf16⟩
  | .hbm, ⟨53, _⟩ => ⟨S16x32x256x256, .f32⟩
  | .hbm, ⟨54, _⟩ => ⟨S_, .f32⟩
  | .hbm, ⟨55, _⟩ => ⟨S16x32x256x256, .f32⟩
  | .hbm, ⟨56, _⟩ => ⟨S16x32x256x256, .f32⟩
  | .hbm, ⟨57, _⟩ => ⟨S1x1x256x256, .i1⟩
  | .hbm, ⟨58, _⟩ => ⟨S_, .f32⟩
  | .hbm, ⟨59, _⟩ => ⟨S_, .f32⟩
  | .hbm, ⟨60, _⟩ => ⟨S16x32x256x256, .i1⟩
  | .hbm, ⟨61, _⟩ => ⟨S16x32x256x256, .f32⟩
  | .hbm, ⟨62, _⟩ => ⟨S16x32x256x256, .f32⟩
  | .hbm, ⟨63, _⟩ => ⟨S_, .f32⟩
  | .hbm, ⟨64, _⟩ => ⟨S16x32x256, .f32⟩
  | .hbm, ⟨65, _⟩ => ⟨S16x32x256x1, .f32⟩
  | .hbm, ⟨66, _⟩ => ⟨S16x32x256x256, .f32⟩
  | .hbm, ⟨67, _⟩ => ⟨S16x32x256x256, .f32⟩
  | .hbm, ⟨68, _⟩ => ⟨S16x32x256x256, .f32⟩
  | .hbm, ⟨69, _⟩ => ⟨S_, .i1⟩
  | .hbm, ⟨70, _⟩ => ⟨S256, .i1⟩
  | .hbm, ⟨71, _⟩ => ⟨S1x1x256x1, .i1⟩
  | .hbm, ⟨72, _⟩ => ⟨S_, .f32⟩
  | .hbm, ⟨73, _⟩ => ⟨S16x32x256, .f32⟩
  | .hbm, ⟨74, _⟩ => ⟨S16x32x256x1, .f32⟩
  | .hbm, ⟨75, _⟩ => ⟨S_, .f32⟩
  | .hbm, ⟨76, _⟩ => ⟨S_, .f32⟩
  | .hbm, ⟨77, _⟩ => ⟨S16x32x256x1, .i1⟩
  | .hbm, ⟨78, _⟩ => ⟨S16x32x256x1, .f32⟩
  | .hbm, ⟨79, _⟩ => ⟨S16x32x256x1, .f32⟩
  | .hbm, ⟨80, _⟩ => ⟨S16x32x256x256, .f32⟩
  | .hbm, ⟨81, _⟩ => ⟨S16x32x256x256, .f32⟩
  | .hbm, ⟨82, _⟩ => ⟨S1x1x256x1, .i1⟩
  | .hbm, ⟨83, _⟩ => ⟨S_, .f32⟩
  | .hbm, ⟨84, _⟩ => ⟨S_, .f32⟩
  | .hbm, ⟨85, _⟩ => ⟨S16x32x256x256, .i1⟩
  | .hbm, ⟨86, _⟩ => ⟨S16x32x256x256, .f32⟩
  | .hbm, ⟨87, _⟩ => ⟨S16x32x256x256, .f32⟩
  | .hbm, ⟨88, _⟩ => ⟨S16x256x32x64, .f32⟩
  | .hbm, ⟨89, _⟩ => ⟨S16x32x64x256, .f32⟩
  | .hbm, ⟨90, _⟩ => ⟨S16x256x32x64, .f32⟩
  | .hbm, ⟨91, _⟩ => ⟨S16x256x2048, .f32⟩
  | .hbm, ⟨92, _⟩ => ⟨S2048x512, .f32⟩
  | .hbm, ⟨93, _⟩ => ⟨S16x256x512, .f32⟩
  | _, _ => ⟨S16x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_3 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩

abbrev nD : Nat := 1
abbrev τ : Topo := Topo.v7x

variable {F : FTy → Type} [FloatOps F]
-- ==== Proof.Protocol.lean ====
/-
  The protocol of the kernel's ring of copies.

  Eight devices stand on a ring. Each of the two gathered weights travels around it block by block: four hops to the
  right neighbour and three to the left one. A hop is named by the weight it carries (`0` the query projection, `1` the
  output projection) and its column `s` in the table of semaphores: `s = 0 .. 3` are the hops to the right, `4 .. 6`
  those to the left. Slot `r` of device `c`'s gather buffer ends at the block of device `c - r`.
-/
module

public import proofs.«01_k».proof.Proof.Gen.KernelIdeal.Skeleton
public import proofs.«01_k».proof.Proof.Gen.KernelIdeal.Regions
public import Idealize.ShloMosaic.Lib.Pipeline.Regions
public import Idealize.ShloMosaic.Lib.Pipeline.Kit
public import Idealize.ShloMosaic.Lib.Rounds
public import Idealize.ShloMosaic.Lib.Tactic
public import Idealize.ShloMosaic.Lib.Pointwise.Index
public import Idealize.ShloMosaic.Lib.Pipeline.RegionTalk

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

/-! ## The ring and the hops -/

/-- The right neighbour. -/
def rt (c : Dev nD) : Dev nD := ⟨(c.val + 1) % 8, Nat.mod_lt _ (by decide)⟩
/-- The left neighbour. -/
def lf (c : Dev nD) : Dev nD := ⟨(c.val + 7) % 8, Nat.mod_lt _ (by decide)⟩
/-- The device `r` places to the left. -/
def back (r : Fin 8) (c : Dev nD) : Dev nD := ⟨(c.val + 8 - r.val) % 8, Nat.mod_lt _ (by decide)⟩

theorem rt_lf (c : Dev nD) : rt (lf c) = c := by revert c; decide
theorem lf_rt (c : Dev nD) : lf (rt c) = c := by revert c; decide

/-- A hop: the weight it carries, and its column in the table of semaphores. -/
abbrev Hop : Type := Fin 2 × Fin 7

/-- Whom hop `s` goes to. -/
def dest (s : Fin 7) (c : Dev nD) : Dev nD := if s.val < 4 then rt c else lf c
/-- Whom hop `s` comes from. -/
def orig (s : Fin 7) (c : Dev nD) : Dev nD := if s.val < 4 then lf c else rt c
/-- The slot hop `s` reads, and the one it writes. -/
def srcS (s : Fin 7) : Fin 8 := ![0, 1, 2, 3, 0, 7, 6] s
def dstS (s : Fin 7) : Fin 8 := ![1, 2, 3, 4, 7, 6, 5] s
/-- How many hops in its direction come before it. -/
def hopNo (s : Fin 7) : ℕ := if s.val < 4 then s.val else s.val - 4

theorem dest_orig (s : Fin 7) (c : Dev nD) : dest s (orig s c) = c := by revert s c; decide
theorem orig_dest (s : Fin 7) (c : Dev nD) : orig s (dest s c) = c := by revert s c; decide
theorem back_dst (s : Fin 7) (c : Dev nD) : back (dstS s) (dest s c) = back (srcS s) c := by revert s c; decide
theorem back_zero (c : Dev nD) : back 0 c = c := by revert c; decide

/-! ## Buffers and slots -/

abbrev wqM : Memref sig .tc .vmem S512x2048 .bf16 := Memref.whole cc0_scratch0
abbrev woM : Memref sig .tc .vmem S2048x512 .bf16 := Memref.whole cc0_scratch1

theorem inbQ (r : Fin 8) : ∀ a, (![0, 256 * r.val] : Fin 2 → ℕ) a + S512x256.size a ≤ S512x2048.size a := by revert r; decide
theorem inbO (r : Fin 8) : ∀ a, (![256 * r.val, 0] : Fin 2 → ℕ) a + S256x512.size a ≤ S2048x512.size a := by revert r; decide

/-- Slot `r`'s rectangle in each gather buffer. -/
abbrev rectQ (r : Fin 8) : Rect S512x2048 := Rect.unit (s := S512x2048) ![0, 256 * r.val] S512x256.size (inbQ r)
abbrev rectO (r : Fin 8) : Rect S2048x512 := Rect.unit (s := S2048x512) ![256 * r.val, 0] S256x512.size (inbO r)

/-- Slot `r` of each gather buffer. -/
abbrev wqS (r : Fin 8) : Memref sig .tc .vmem S512x256 .bf16 := wqM.slice (rectQ r) (fun _ => rfl)
abbrev woS (r : Fin 8) : Memref sig .tc .vmem S256x512 .bf16 := woM.slice (rectO r) (fun _ => rfl)

/-- One device's block of each gathered weight, device by device. -/
structure Blocks (F : FTy → Type) [FloatOps F] where
  wq : Dev nD → Vec F S512x256 .bf16
  wo : Dev nD → Vec F S256x512 .bf16

variable (B : Blocks F)

/-- What device `c`'s gather buffers hold at the end: in slot `r` the block of the device `r` places to the left. -/
def WqG (c : Dev nD) : Vec F S512x2048 .bf16 := fun i =>
  B.wq (back ⟨(i 1).val / 256, Nat.div_lt_of_lt_mul (i 1).isLt⟩ c)
    (ix2 (i 0) (⟨(i 1).val % 256, Nat.mod_lt _ (by decide)⟩ : Fin 256))
def WoG (c : Dev nD) : Vec F S2048x512 .bf16 := fun i =>
  B.wo (back ⟨(i 0).val / 256, Nat.div_lt_of_lt_mul (i 0).isLt⟩ c)
    (ix2 (⟨(i 0).val % 256, Nat.mod_lt _ (by decide)⟩ : Fin 256) (i 1))

theorem read_WqG (c : Dev nD) (r : Fin 8) : (wqS r).view.read (Elt F) (WqG B c) = B.wq (back r c) := by
  funext x
  have h1 : (x 1).val < 256 := (x 1).isLt
  have e0 : ((rectQ r).emb x 0).val = (x 0).val := by
    rw [Rect.emb_apply]; show 0 + 1 * (x 0).val = _; omega
  have e1 : ((rectQ r).emb x 1).val = 256 * r.val + (x 1).val := by
    rw [Rect.emb_apply]; show 256 * r.val + 1 * (x 1).val = _; omega
  show WqG B c ((rectQ r).emb x) = _
  unfold WqG
  congr 1
  · congr 2; show ((rectQ r).emb x 1).val / 256 = r.val; rw [e1]; omega
  · rw [eq_ix2 x]; congr 1
    · exact Fin.ext e0
    · apply Fin.ext; show ((rectQ r).emb x 1).val % 256 = (x 1).val; rw [e1]; omega

theorem read_WoG (c : Dev nD) (r : Fin 8) : (woS r).view.read (Elt F) (WoG B c) = B.wo (back r c) := by
  funext x
  have h1 : (x 0).val < 256 := (x 0).isLt
  have e1 : ((rectO r).emb x 1).val = (x 1).val := by
    rw [Rect.emb_apply]; show 0 + 1 * (x 1).val = _; omega
  have e0 : ((rectO r).emb x 0).val = 256 * r.val + (x 0).val := by
    rw [Rect.emb_apply]; show 256 * r.val + 1 * (x 0).val = _; omega
  show WoG B c ((rectO r).emb x) = _
  unfold WoG
  congr 1
  · congr 2; show ((rectO r).emb x 0).val / 256 = r.val; rw [e0]; omega
  · rw [eq_ix2 x]; congr 1
    · apply Fin.ext; show ((rectO r).emb x 0).val % 256 = (x 0).val; rw [e0]; omega
    · exact Fin.ext e1

/-- What is written through a slot agrees on the slot with any contents that read as what was written. -/
theorem write_agrees {κ} {sp : Space} {s : Shape} {e : EltTy} (v : View sig κ sp s e)
    (f g : v.ty.Contents (Elt F)) (w : s.Idx → Elt F e) (h : v.read (Elt F) g = w) :
    ∀ i ∈ v.set, v.write (Elt F) f w Finset.univ i = g i := fun i hi => by
  subst h; rw [View.write_read_eq_piecewise]; exact Finset.piecewise_eq_of_mem _ _ _ hi

/-! ## Cells -/

/-- The resource algebra: the pipeline's copy, and the ring's with two duties per cell at most. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

abbrev 𝒱₀ : Variants := Variants.none

/-- The barrier semaphore, and each hop's semaphore at its two ends. -/
abbrev barS : Sem sig := (SemArray.scalar (sig.barrier 0 rfl) : Sems sig S_).sem
abbrev sendS (j : Hop) : DmaSem sig := ⟨6 + 7 * (2 * j.1.val) + j.2.val, by revert j; decide⟩
abbrev recvS (j : Hop) : DmaSem sig := ⟨6 + 7 * (2 * j.1.val + 1) + j.2.val, by revert j; decide⟩

abbrev barCell (c : Dev nD) : GSem nD τ sig := ((c : Thread nD τ), .reg barS)
abbrev sendCell (c : Dev nD) (j : Hop) : GSem nD τ sig := ((c : Thread nD τ), .dma (sendS j))
abbrev recvCell (c : Dev nD) (j : Hop) : GSem nD τ sig := ((c : Thread nD τ), .dma (recvS j))

/-- What a semaphore serves. -/
inductive Role where
  | bar | send (j : Hop) | recv (j : Hop) | other
  deriving DecidableEq

/-- A semaphore's role, read off its number. -/
def role : SemLoc sig → Role
  | .reg _ => .bar
  | .dma k =>
    if 6 ≤ k.val then
      if (k.val - 6) / 7 % 2 = 0 then .send (⟨(k.val - 6) / 14 % 2, Nat.mod_lt _ (by decide)⟩, ⟨(k.val - 6) % 7, Nat.mod_lt _ (by decide)⟩)
      else .recv (⟨(k.val - 6) / 14 % 2, Nat.mod_lt _ (by decide)⟩, ⟨(k.val - 6) % 7, Nat.mod_lt _ (by decide)⟩)
    else .other

theorem role_bar : role (.reg barS) = .bar := rfl
theorem role_send (j : Hop) : role (.dma (sendS j)) = .send j := by revert j; decide
theorem role_recv (j : Hop) : role (.dma (recvS j)) = .recv j := by revert j; decide

/-- What a hop adds to each of its two semaphores. -/
def amt (t : Fin 2) : ℕ := if t = 0 then (wqS 0).view.dmaCredit else (woS 0).view.dmaCredit
theorem amt_pos (t : Fin 2) : 0 < amt t := by
  unfold amt; split
  · exact View.dmaCredit_pos _ (by decide)
  · exact View.dmaCredit_pos _ (by decide)

/-! ## Slots held -/

/-- Slot `r` of device `c`'s first gather buffer held at share `q` and contents `f`; of its second one. -/
abbrev ptQ (r : Fin 8) (c : Dev nD) (q : PosShare TreeShare) (f : Vec F S512x2048 .bf16) : sProp 𝕄 :=
  (wqS r).view.loc (c : Thread nD τ) ↦[(wqS r).view.set]{q} f
abbrev ptO (r : Fin 8) (c : Dev nD) (q : PosShare TreeShare) (f : Vec F S2048x512 .bf16) : sProp 𝕄 :=
  (woS r).view.loc (c : Thread nD τ) ↦[(woS r).view.set]{q} f

/-- Slot `r` of weight `t`'s gather buffer on device `c`, at the block it ends with; -/
def slot (t : Fin 2) (r : Fin 8) (c : Dev nD) (q : PosShare TreeShare) : sProp 𝕄 :=
  if t = 0 then ptQ r c q (WqG B c) else ptO r c q (WoG B c)
/-- at contents not chosen. -/
def slotAny (t : Fin 2) (r : Fin 8) (c : Dev nD) : sProp (MT nD τ sig Unit (Elt F) ℕ UU ℕ) :=
  if t = 0 then iprop(∃ f, ptQ r c fullShare f) else iprop(∃ f, ptO r c fullShare f)

/-- The share of its source slot a hop borrows: slot 0 feeds two hops, every other slot one, and half of each slot
    stays with the device. -/
def qs (s : Fin 7) : PosShare TreeShare :=
  if s = 0 then fullShare.left.left else if s = 4 then fullShare.left.right else fullShare.left

/-- What hop `j` of device `c` needs from whom it goes to: the slot it writes, and that the receiving semaphore's round
    is open. -/
def landing (j : Hop) (c : Dev nD) : sProp (MT nD τ sig Unit (Elt F) ℕ UU ℕ) :=
  iprop(slotAny j.1 (dstS j.2) (dest j.2 c) ∗ reached ER (recvCell (dest j.2 c) j) 0)

/-- What a neighbour's signal brings device `d`: from the right one (`true`) the landings of the hops to the right, from
    the left one those of the hops to the left. -/
def barPay (d : Dev nD) (b : Bool) : sProp (MT nD τ sig Unit (Elt F) ℕ UU ℕ) :=
  if b then iprop(landing (0, 0) d ∗ landing (0, 1) d ∗ landing (0, 2) d ∗ landing (0, 3) d
    ∗ landing (1, 0) d ∗ landing (1, 1) d ∗ landing (1, 2) d ∗ landing (1, 3) d)
  else iprop(landing (0, 4) d ∗ landing (0, 5) d ∗ landing (0, 6) d ∗ landing (1, 4) d ∗ landing (1, 5) d ∗ landing (1, 6) d)

instance slot_storable (t : Fin 2) (r : Fin 8) (c : Dev nD) (q : PosShare TreeShare) :
    BI.Storable (upEmb : UEmb _ 𝕄) (slot B t r c q) := by unfold slot; split <;> infer_instance
instance slotAny_storable (t : Fin 2) (r : Fin 8) (c : Dev nD) :
    BI.Storable (upEmb : UEmb _ 𝕄) (slotAny (F := F) t r c) := by unfold slotAny; split <;> infer_instance
instance landing_storable (j : Hop) (c : Dev nD) :
    BI.Storable (upEmb : UEmb _ 𝕄) (landing (F := F) j c) := by unfold landing; infer_instance
instance barPay_storable (d : Dev nD) (b : Bool) :
    BI.Storable (upEmb : UEmb _ 𝕄) (barPay (F := F) d b) := by unfold barPay; split <;> infer_instance

/-! ## The schedule -/

/-- Round 0 only: two duties on every barrier semaphore, one on every hop's semaphore at either end. -/
def rd : Rounds.Schedule (GSem nD τ sig) Bool 𝕄 where
  duties g r := if r = 0 ∧ g.1.2 = .tc then (match role g.2 with | .bar => Finset.univ | .send _ => {false} | .recv _ => {false} | .other => ∅) else ∅
  unitless _ := False
  amount g _ _ := match role g.2 with | .bar => 1 | .send j => amt j.1 | .recv j => amt j.1 | .other => 1
  payload g _ d := match role g.2 with
    | .bar => barPay g.1.1 d
    | .send j => slot B j.1 (srcS j.2) g.1.1 (qs j.2)
    | .recv j => slot B j.1 (dstS j.2) g.1.1 fullShare
    | .other => iprop(emp)
  amount_pos g _ _ _ := by
    cases h : role g.2 <;> simp only [h] <;> first | exact Nat.one_pos | exact amt_pos _

instance rd_payload_storable (g : GSem nD τ sig) (r : ℕ) (d : Bool) :
    BI.Storable (upEmb : UEmb _ 𝕄) ((rd B).payload g r d) := by
  show BI.Storable upEmb (match role g.2 with
    | .bar => barPay g.1.1 d
    | .send j => slot B j.1 (srcS j.2) g.1.1 (qs j.2)
    | .recv j => slot B j.1 (dstS j.2) g.1.1 fullShare
    | .other => iprop(emp))
  split <;> infer_instance

theorem duties_bar (c : Dev nD) : (rd B).duties (barCell c) 0 = Finset.univ := by
  dsimp only [rd]; rw [if_pos ⟨rfl, rfl⟩]; rfl
theorem duties_send (c : Dev nD) (j : Hop) : (rd B).duties (sendCell c j) 0 = {false} := by
  dsimp only [rd]; rw [if_pos ⟨rfl, rfl⟩, role_send]
theorem duties_recv (c : Dev nD) (j : Hop) : (rd B).duties (recvCell c j) 0 = {false} := by
  dsimp only [rd]; rw [if_pos ⟨rfl, rfl⟩, role_recv]
theorem duties_later (g : GSem nD τ sig) : ∀ r, 1 ≤ r → (rd B).duties g r = ∅ :=
  fun r hr => by dsimp only [rd]; rw [if_neg (fun h => by omega)]

theorem amount_bar (c : Dev nD) (d : Bool) : (rd B).amount (barCell c) 0 d = 1 := rfl
theorem amount_send (c : Dev nD) (j : Hop) (d : Bool) : (rd B).amount (sendCell c j) 0 d = amt j.1 := by
  dsimp only [rd]; rw [role_send]
theorem amount_recv (c : Dev nD) (j : Hop) (d : Bool) : (rd B).amount (recvCell c j) 0 d = amt j.1 := by
  dsimp only [rd]; rw [role_recv]

theorem payload_bar (c : Dev nD) (d : Bool) : (rd B).payload (barCell c) 0 d = barPay c d := rfl
theorem payload_send (c : Dev nD) (j : Hop) (d : Bool) : (rd B).payload (sendCell c j) 0 d = slot B j.1 (srcS j.2) c (qs j.2) := by
  dsimp only [rd]; rw [role_send]
theorem payload_recv (c : Dev nD) (j : Hop) (d : Bool) : (rd B).payload (recvCell c j) 0 d = slot B j.1 (dstS j.2) c fullShare := by
  dsimp only [rd]; rw [role_recv]

theorem expect_bar (c : Dev nD) : (rd B).expect (barCell c) 0 = 2 := by
  unfold Schedule.expect Schedule.amountOf; rw [duties_bar]; rfl
theorem expect_send (c : Dev nD) (j : Hop) : (rd B).expect (sendCell c j) 0 = amt j.1 := by
  unfold Schedule.expect Schedule.amountOf; rw [duties_send, Finset.sum_singleton, amount_send]
theorem expect_recv (c : Dev nD) (j : Hop) : (rd B).expect (recvCell c j) 0 = amt j.1 := by
  unfold Schedule.expect Schedule.amountOf; rw [duties_recv, Finset.sum_singleton, amount_recv]

theorem rest_bar (c : Dev nD) : bigSep ((rd B).duties (barCell c) 0 \ ∅) (fun d => (rd B).payload (barCell c) 0 d)
    = iprop(barPay c true ∗ barPay c false) := by
  rw [Finset.sdiff_empty, duties_bar]
  exact bigSep_univ_eq_bigSepL [true, false] (by decide) (by decide) _
theorem rest_send (c : Dev nD) (j : Hop) : bigSep ((rd B).duties (sendCell c j) 0 \ ∅) (fun d => (rd B).payload (sendCell c j) 0 d)
    = slot B j.1 (srcS j.2) c (qs j.2) := by
  rw [Finset.sdiff_empty, duties_send, bigSep_singleton, payload_send]
theorem rest_recv (c : Dev nD) (j : Hop) : bigSep ((rd B).duties (recvCell c j) 0 \ ∅) (fun d => (rd B).payload (recvCell c j) 0 d)
    = slot B j.1 (dstS j.2) c fullShare := by
  rw [Finset.sdiff_empty, duties_recv, bigSep_singleton, payload_recv]

/-! ## What a device owes, and the order of waits -/

/-- What device `c` owes while the hops of the list are still to be started: each one's credit at its far end. -/
def owedL (c : Dev nD) : List Hop → CellTallies nD τ sig Unit
  | [] => 0
  | j :: l => owedL c l + tallyAt (recvCell (dest j.2 c) j) () (amt j.1)

/-- The order in which a device starts its hops. -/
abbrev order : List Hop :=
  [(0, 0), (0, 4), (1, 0), (1, 4), (0, 1), (1, 1), (0, 5), (1, 5), (0, 2), (1, 2), (0, 6), (1, 6), (0, 3), (1, 3)]

/-- At launch a device owes every hop's credit and one unit to each neighbour's barrier. -/
def O₀ (c : Dev nD) : CellTallies nD τ sig Unit :=
  owedL c order + tallyAt (barCell (rt c)) () 1 + tallyAt (barCell (lf c)) () 1

def L (g : GSem nD τ sig) : Finset Unit := if g.1.2 = .tc then {()} else ∅
/-- The barrier first, then the hops in the order they travel. -/
def lv (g : GSem nD τ sig) (_ : Unit) : ℕ := match role g.2 with | .bar => 1 | .recv j => 2 + hopNo j.2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (j : Hop) : lv (recvCell c j) () = 2 + hopNo j.2 := by dsimp only [lv]; rw [role_recv]

/-- A cell at which the list's debts are positive is the far end of one of its hops. -/
theorem owedL_pos (c : Dev nD) (l : List Hop) (g : GSem nD τ sig) (u : Unit) (h : 0 < owedL c l g u) :
    ∃ j ∈ l, g = recvCell (dest j.2 c) j := by
  induction l with
  | nil => exact absurd h (Nat.lt_irrefl 0)
  | cons j l ih =>
    have h' : 0 < owedL c l g u + tallyAt (recvCell (dest j.2 c) j) () (amt j.1) g u := h
    rw [tallyAt_apply] at h'
    by_cases hg : g = recvCell (dest j.2 c) j ∧ u = ()
    · exact ⟨j, List.mem_cons_self, hg.1⟩
    · rw [if_neg hg] at h'
      obtain ⟨j', hj', e⟩ := ih h'
      exact ⟨j', List.mem_cons_of_mem _ hj', e⟩

/-- A device may wait at a semaphore whose level is below that of every hop still to be started. -/
theorem mayWait_owed (c : Dev nD) (sm : SemLoc sig) (l : List Hop)
    (h : ∀ j ∈ l, lv ((c : Thread nD τ), sm) () < 2 + hopNo j.2) :
    (levAts L lv : sProp 𝕄) ⊢ MayWait (c : Thread nD τ) sm () (owedL c l) :=
  MayOwe.of_cut (L := L) (lev := lv) (lv ((c : Thread nD τ), sm) ())
    (fun p hp => by rw [Finset.mem_singleton.mp hp, L_tc]; exact Finset.mem_singleton_self _)
    (fun g u hg => by
      obtain ⟨j, -, e⟩ := owedL_pos c l g u hg
      rw [e, L_tc]; exact Finset.mem_singleton_self _)
    (fun p hp => by rw [Finset.mem_singleton.mp hp])
    (fun g u hg => by
      obtain ⟨j, hj, e⟩ := owedL_pos c l g u hg
      rw [e]; exact (h j hj).trans_eq (lv_recv _ _).symm)

end Cert.KernelIdeal
end
-- ==== Proof.Hops.lean ====
/-
  One hop at a time: a device's signals and wait at the barrier, a hop's start, the wait for its arrival and the wait
  for its source, each as one rule at a device `c` and a hop `j`.
-/
module

public import proofs.«01_k».proof.Proof.Protocol

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F] (B : Blocks F)

local notation "𝕄" => MT nD τ sig Unit (Elt F) ℕ UU ℕ

/-- Device `c` runs the kernel's program `p` to the postcondition `Kt`. -/
abbrev runs (c : Dev nD) {α : Type} (p : Prog (TpuEff nD τ sig (Elt F) Λ₀ .tc) α) (Kt : α → sProp 𝕄) : sProp 𝕄 :=
  wp frame (wpE (defs₀ (F := F)) 𝒱₀ (c : Thread nD τ) none) Set.univ p Kt

/-! ## What is known for good -/

/-- The invariants of all the ring's cells, at the names `K`. -/
def invs (K : GSem nD τ sig → ℕ) : sProp 𝕄 :=
  bigSep Finset.univ fun c : Dev nD => iprop(cellInv ER (rd B) (K (barCell c)) (barCell c)
    ∗ (bigSep Finset.univ fun j : Hop => cellInv ER (rd B) (K (sendCell c j)) (sendCell c j))
    ∗ bigSep Finset.univ fun j : Hop => cellInv ER (rd B) (K (recvCell c j)) (recvCell c j))

instance invs_persistent (K : GSem nD τ sig → ℕ) : BI.Persistent (invs B K) := by unfold invs; infer_instance

/-- Device `c`'s own hops' cells are open at both their ends, and its neighbours' barriers are. -/
def opens (c : Dev nD) : sProp (MT nD τ sig Unit (Elt F) ℕ UU ℕ) :=
  iprop((bigSep Finset.univ fun j : Hop => iprop(reached ER (sendCell c j) 0 ∗ reached ER (recvCell c j) 0))
    ∗ reached ER (barCell (rt c)) 0 ∗ reached ER (barCell (lf c)) 0)

instance opens_persistent (c : Dev nD) : BI.Persistent (opens (F := F) c) := by unfold opens; infer_instance

theorem sep_fst {P Q : sProp 𝕄} : iprop(P ∗ Q) ⊢ P := by iintro ⟨H, -⟩; iexact H
theorem sep_snd {P Q : sProp 𝕄} : iprop(P ∗ Q) ⊢ Q := by iintro ⟨-, H⟩; iexact H

theorem inv_bar (K : GSem nD τ sig → ℕ) (c : Dev nD) : invs B K ⊢ cellInv ER (rd B) (K (barCell c)) (barCell c) := by
  unfold invs; exact (bigSep_elim (Finset.mem_univ c)).trans sep_fst
theorem inv_send (K : GSem nD τ sig → ℕ) (c : Dev nD) (j : Hop) :
    invs B K ⊢ cellInv ER (rd B) (K (sendCell c j)) (sendCell c j) := by
  unfold invs
  exact (bigSep_elim (Finset.mem_univ c)).trans (sep_snd.trans (sep_fst.trans (bigSep_elim (Finset.mem_univ j))))
theorem inv_recv (K : GSem nD τ sig → ℕ) (c : Dev nD) (j : Hop) :
    invs B K ⊢ cellInv ER (rd B) (K (recvCell c j)) (recvCell c j) := by
  unfold invs
  exact (bigSep_elim (Finset.mem_univ c)).trans (sep_snd.trans (sep_snd.trans (bigSep_elim (Finset.mem_univ j))))
theorem open_send (c : Dev nD) (j : Hop) : opens (F := F) c ⊢ reached ER (sendCell c j) 0 := by
  unfold opens
  exact sep_fst.trans ((bigSep_elim (Finset.mem_univ j)).trans sep_fst)
theorem open_recv (c : Dev nD) (j : Hop) : opens (F := F) c ⊢ reached ER (recvCell c j) 0 := by
  unfold opens
  exact sep_fst.trans ((bigSep_elim (Finset.mem_univ j)).trans sep_snd)
theorem open_rt (c : Dev nD) : opens (F := F) c ⊢ reached ER (barCell (rt c)) 0 := by
  unfold opens; exact sep_snd.trans sep_fst
theorem open_lf (c : Dev nD) : opens (F := F) c ⊢ reached ER (barCell (lf c)) 0 := by
  unfold opens; exact sep_snd.trans sep_snd

/-! ## A hop's rights, before and after its start -/

/-- What starting hop `j` and later awaiting its source takes. -/
def toSend (c : Dev nD) (j : Hop) : sProp (MT nD τ sig Unit (Elt F) ℕ UU ℕ) :=
  iprop(dutyTok ER (sendCell c j) 0 false ∗ dutyTok ER (recvCell (dest j.2 c) j) 0 false ∗ atPos ER (sendCell c j) 0 ∅ 0)
/-- The hop is under way: its source is awaited. -/
def sent (c : Dev nD) (j : Hop) : sProp (MT nD τ sig Unit (Elt F) ℕ UU ℕ) :=
  iprop(cred (tallyAt (sendCell c j) () (amt j.1)) ∗ atPos ER (sendCell c j) 0 ∅ 0)
/-- What awaiting the arrival of hop `j` takes. -/
def toRecv (c : Dev nD) (j : Hop) : sProp (MT nD τ sig Unit (Elt F) ℕ UU ℕ) :=
  iprop(cred (tallyAt (recvCell c j) () (amt j.1)) ∗ atPos ER (recvCell c j) 0 ∅ 0)
/-- The hops of the list are still to be started. -/
def owing (c : Dev nD) (l : List Hop) : sProp (MT nD τ sig Unit (Elt F) ℕ UU ℕ) :=
  iprop(∃ W, owes (c : Thread nD τ) (owedL c l) W)

/-! ## The rules -/

theorem slot_zero (r : Fin 8) (c : Dev nD) (q : PosShare TreeShare) : slot B 0 r c q = ptQ r c q (WqG B c) := if_pos rfl
theorem slot_one (r : Fin 8) (c : Dev nD) (q : PosShare TreeShare) : slot B 1 r c q = ptO r c q (WoG B c) := if_neg (by decide)
theorem slotAny_zero (r : Fin 8) (c : Dev nD) : slotAny (F := F) 0 r c = iprop(∃ f, ptQ r c fullShare f) := if_pos rfl
theorem slotAny_one (r : Fin 8) (c : Dev nD) : slotAny (F := F) 1 r c = iprop(∃ f, ptO r c fullShare f) := if_neg (by decide)

/-- What has landed in a slot is what the slot ends with. -/
theorem landQ (j : Hop) (hj : j.1 = 0) (c : Dev nD) (f : Vec F S512x2048 .bf16) :
    ptQ (dstS j.2) (dest j.2 c) fullShare ((wqS (dstS j.2)).view.write (Elt F) f ((wqS (srcS j.2)).view.read (Elt F) (WqG B c)) Finset.univ)
      = slot B j.1 (dstS j.2) (dest j.2 c) fullShare := by
  unfold slot; rw [if_pos hj]
  exact pointsTo_congr (write_agrees (wqS (dstS j.2)).view f (WqG B (dest j.2 c)) _ (by rw [read_WqG, read_WqG, back_dst]))
theorem landO (j : Hop) (hj : j.1 ≠ 0) (c : Dev nD) (f : Vec F S2048x512 .bf16) :
    ptO (dstS j.2) (dest j.2 c) fullShare ((woS (dstS j.2)).view.write (Elt F) f ((woS (srcS j.2)).view.read (Elt F) (WoG B c)) Finset.univ)
      = slot B j.1 (dstS j.2) (dest j.2 c) fullShare := by
  unfold slot; rw [if_neg hj]
  exact pointsTo_congr (write_agrees (woS (dstS j.2)).view f (WoG B (dest j.2 c)) _ (by rw [read_WoG, read_WoG, back_dst]))

/-- Starting a hop of the first weight. -/
theorem hopQ (K : GSem nD τ sig → ℕ) (c : Dev nD) (s : Fin 7) (l : List Hop)
    {src dst : Memref sig .tc .vmem S512x256 .bf16} {d : Dev nD} {sS sR : DmaSem sig}
    {h1 : src.view.WordExact} {h2 : dst.view.WordExact} {h3 : dst.view.ref.isScScratch = false}
    {h4 : DmaTarget.Typed .vmem (.dma sR) (.remote (Dev.tc d) dst (.dma sS) h3)}
    {α : Type} {k : PUnit → Prog (TpuEff nD τ sig (Elt F) Λ₀ .tc) α} {Kt : α → sProp 𝕄}
    (e1 : src = wqS (srcS s)) (e2 : dst = wqS (dstS s)) (e3 : d = dest s c) (e4 : sS = sendS (0, s)) (e5 : sR = recvS (0, s)) :
    iprop(invs B K ∗ opens c ∗ toSend c (0, s) ∗ landing (0, s) c ∗ slot B 0 (srcS s) c (qs s) ∗ owing c ((0, s) :: l))
      ⊢ iprop(((sent c (0, s) ∗ owing c l) -∗ runs c (k ⟨⟩) Kt)
        -∗ runs c (.op (.enqueueDma src (.remote (Dev.tc d) dst (.dma sS) h3) (.dma sR) h1 h2 h4) k) Kt) := by
  subst e1 e2 e3 e4 e5
  unfold toSend landing owing
  rw [slotAny_zero]
  iintro ⟨#HI, #HO, ⟨HtS, HtR, Hat⟩, ⟨⟨%f, Hd⟩, #HrR⟩, Hs, ⟨%W, Ho⟩⟩ Hk
  iapply (Rounds.wp_send_pointsTo 𝒱₀ ER (rd B) (c : Thread nD τ) none (c' := (dest s c : Thread nD τ)) (src := wqS (srcS s)) (dst := wqS (dstS s))
      (sS := .dma (sendS (0, s))) (sem := .dma (recvS (0, s))) (q := qs s) (fs := WqG B c)
      (κ₁ := K (sendCell c (0, s))) (κ₂ := K (recvCell (dest s c) (0, s)))
      (r₁ := 0) (r₂ := 0) (d₁ := false) (d₂ := false) (fd := f)
      (by rw [duties_send]; exact Finset.mem_singleton_self _) (by rw [duties_recv]; exact Finset.mem_singleton_self _)
      () () (amt 0) rfl (amount_send B c (0, s) _) (amount_recv B (dest s c) (0, s) _) (owedL c l) rfl (W := W)
      (by rw [payload_send]; exact Entails.of_eq (slot_zero B _ _ _).symm)
      (by rw [payload_recv]; exact Entails.of_eq (landQ B (0, s) rfl c f))) $$ [Hd Hs Ho HtS HtR]
  · isplitr; · iapply (inv_send B K c (0, s)); iexact HI
    isplitr; · iapply (inv_recv B K (dest s c) (0, s)); iexact HI
    isplitl [Hs]; · iapply (Entails.of_eq (slot_zero B (srcS s) c (qs s))); iexact Hs
    isplitl [Hd]; · iexact Hd
    isplitl [Ho]; · iexact Ho
    isplitl [HtS]; · iexact HtS
    isplitr; · iapply (open_send c (0, s)); iexact HO
    isplitl [HtR]; · iexact HtR
    iexact HrR
  iintro ⟨Hc, Ho⟩
  iapply Hk
  isplitl [Hc Hat]
  · unfold sent; isplitl [Hc] <;> iassumption
  iexists W; iexact Ho

/-- Starting a hop of the second weight. -/
theorem hopO (K : GSem nD τ sig → ℕ) (c : Dev nD) (s : Fin 7) (l : List Hop)
    {src dst : Memref sig .tc .vmem S256x512 .bf16} {d : Dev nD} {sS sR : DmaSem sig}
    {h1 : src.view.WordExact} {h2 : dst.view.WordExact} {h3 : dst.view.ref.isScScratch = false}
    {h4 : DmaTarget.Typed .vmem (.dma sR) (.remote (Dev.tc d) dst (.dma sS) h3)}
    {α : Type} {k : PUnit → Prog (TpuEff nD τ sig (Elt F) Λ₀ .tc) α} {Kt : α → sProp 𝕄}
    (e1 : src = woS (srcS s)) (e2 : dst = woS (dstS s)) (e3 : d = dest s c) (e4 : sS = sendS (1, s)) (e5 : sR = recvS (1, s)) :
    iprop(invs B K ∗ opens c ∗ toSend c (1, s) ∗ landing (1, s) c ∗ slot B 1 (srcS s) c (qs s) ∗ owing c ((1, s) :: l))
      ⊢ iprop(((sent c (1, s) ∗ owing c l) -∗ runs c (k ⟨⟩) Kt)
        -∗ runs c (.op (.enqueueDma src (.remote (Dev.tc d) dst (.dma sS) h3) (.dma sR) h1 h2 h4) k) Kt) := by
  subst e1 e2 e3 e4 e5
  unfold toSend landing owing
  rw [slotAny_one]
  iintro ⟨#HI, #HO, ⟨HtS, HtR, Hat⟩, ⟨⟨%f, Hd⟩, #HrR⟩, Hs, ⟨%W, Ho⟩⟩ Hk
  iapply (Rounds.wp_send_pointsTo 𝒱₀ ER (rd B) (c : Thread nD τ) none (c' := (dest s c : Thread nD τ)) (src := woS (srcS s)) (dst := woS (dstS s))
      (sS := .dma (sendS (1, s))) (sem := .dma (recvS (1, s))) (q := qs s) (fs := WoG B c)
      (κ₁ := K (sendCell c (1, s))) (κ₂ := K (recvCell (dest s c) (1, s)))
      (r₁ := 0) (r₂ := 0) (d₁ := false) (d₂ := false) (fd := f)
      (by rw [duties_send]; exact Finset.mem_singleton_self _) (by rw [duties_recv]; exact Finset.mem_singleton_self _)
      () () (amt 1) rfl (amount_send B c (1, s) _) (amount_recv B (dest s c) (1, s) _) (owedL c l) rfl (W := W)
      (by rw [payload_send]; exact Entails.of_eq (slot_one B _ _ _).symm)
      (by rw [payload_recv]; exact Entails.of_eq (landO B (1, s) (Fin.ne_of_val_ne (Nat.one_ne_zero)) c f))) $$ [Hd Hs Ho HtS HtR]
  · isplitr; · iapply (inv_send B K c (1, s)); iexact HI
    isplitr; · iapply (inv_recv B K (dest s c) (1, s)); iexact HI
    isplitl [Hs]; · iapply (Entails.of_eq (slot_one B (srcS s) c (qs s))); iexact Hs
    isplitl [Hd]; · iexact Hd
    isplitl [Ho]; · iexact Ho
    isplitl [HtS]; · iexact HtS
    isplitr; · iapply (open_send c (1, s)); iexact HO
    isplitl [HtR]; · iexact HtR
    iexact HrR
  iintro ⟨Hc, Ho⟩
  iapply Hk
  isplitl [Hc Hat]
  · unfold sent; isplitl [Hc] <;> iassumption
  iexists W; iexact Ho

/-- Awaiting the arrival of a hop: its slot, at the block it ends with, and its counter back at zero. -/
theorem arrive (K : GSem nD τ sig → ℕ) (c : Dev nD) (j : Hop) (l : List Hop) (hl : ∀ i ∈ l, hopNo j.2 < hopNo i.2)
    {sp sp' : Space} {s s' : Shape} {e e' : EltTy} {src : Memref sig .tc sp s e} {dst : Memref sig .tc sp' s' e'} {sR : DmaSem sig}
    {h1 : src.view.WordExact} {h2 : dst.view.WordExact}
    {α : Type} {k : PUnit → Prog (TpuEff nD τ sig (Elt F) Λ₀ .tc) α} {Kt : α → sProp 𝕄}
    (e1 : dst.view.dmaCredit = amt j.1) (e5 : sR = recvS j) :
    iprop(invs B K ∗ levAts L lv ∗ toRecv c j ∗ owing c l)
      ⊢ iprop(((slot B j.1 (dstS j.2) c fullShare ∗ semVal (recvCell c j) 0 ∗ owing c l)
          -∗ runs c (k ⟨⟩) Kt)
        -∗ runs c (.op (.waitDma2 sR src dst h1 h2) k) Kt) := by
  subst e5
  unfold toRecv owing
  rw [← e1]
  iintro ⟨#HI, #Hlev, ⟨Hc, Hat⟩, ⟨%W, Ho⟩⟩ Hk
  iapply (Rounds.wp_wait_rest_token 𝒱₀ ER (rd B) (c : Thread nD τ) none (κ := K (recvCell c j))
      (wpE_waitDma2_eq 𝒱₀ (c : Thread nD τ) none Set.univ) (Set.mem_univ _) () (O := owedL c l) (W := W) (R := 0) (m := 0) (T := ∅)
      ((Nat.zero_add _).trans (e1.trans (expect_recv B c j).symm))) $$ [Hc Ho Hat]
  · isplitr; · iapply (inv_recv B K c j); iexact HI
    isplitl [Hc]; · iexact Hc
    isplitl [Ho]; · iexact Ho
    isplitr
    · iapply (mayWait_owed c (.dma (recvS j)) l (fun i hi => by rw [lv_recv]; have := hl i hi; omega)); iexact Hlev
    iexact Hat
  iintro ⟨Ho, Hat, -, Hp⟩
  ihave Hs := (Entails.of_eq (rest_recv B c j)) $$ Hp
  imod (Rounds.cell_close ER (rd B) (g := recvCell c j) (Set.mem_univ (K (recvCell c j))) id (duties_later B _)) $$ [Hat] with Hv
  · isplitr; · iapply (inv_recv B K c j); iexact HI
    iexact Hat
  iapply Hk
  isplitl [Hs]; · iexact Hs
  isplitl [Hv]; · iexact Hv
  iexists _; iexact Ho

/-- Awaiting a hop's source, every hop started: the share it borrowed, and its counter back at zero. -/
theorem depart (K : GSem nD τ sig → ℕ) (c : Dev nD) (j : Hop)
    {sp sp' : Space} {s s' : Shape} {e e' : EltTy} {src : Memref sig .tc sp s e} {dst : Memref sig .tc sp' s' e'} {sR : DmaSem sig}
    {h1 : src.view.WordExact} {h2 : dst.view.WordExact}
    {α : Type} {k : PUnit → Prog (TpuEff nD τ sig (Elt F) Λ₀ .tc) α} {Kt : α → sProp 𝕄}
    (e1 : dst.view.dmaCredit = amt j.1) (e5 : sR = sendS j) :
    iprop(invs B K ∗ sent c j ∗ owing c [])
      ⊢ iprop(((slot B j.1 (srcS j.2) c (qs j.2) ∗ semVal (sendCell c j) 0 ∗ owing c [])
          -∗ runs c (k ⟨⟩) Kt)
        -∗ runs c (.op (.waitDma2 sR src dst h1 h2) k) Kt) := by
  subst e5
  unfold sent owing
  rw [← e1]
  iintro ⟨#HI, ⟨Hc, Hat⟩, ⟨%W, Ho⟩⟩ Hk
  iapply (Rounds.wp_wait_rest_token 𝒱₀ ER (rd B) (c : Thread nD τ) none (κ := K (sendCell c j))
      (wpE_waitDma2_eq 𝒱₀ (c : Thread nD τ) none Set.univ) (Set.mem_univ _) () (O := owedL c []) (W := W) (R := 0) (m := 0) (T := ∅)
      ((Nat.zero_add _).trans (e1.trans (expect_send B c j).symm))) $$ [Hc Ho Hat]
  · isplitr; · iapply (inv_send B K c j); iexact HI
    isplitl [Hc]; · iexact Hc
    isplitl [Ho]; · iexact Ho
    isplitr; · unfold owedL; rw [MayWait_zero]; iempintro
    iexact Hat
  iintro ⟨Ho, Hat, -, Hp⟩
  ihave Hs := (Entails.of_eq (rest_send B c j)) $$ Hp
  imod (Rounds.cell_close ER (rd B) (g := sendCell c j) (Set.mem_univ (K (sendCell c j))) id (duties_later B _)) $$ [Hat] with Hv
  · isplitr; · iapply (inv_send B K c j); iexact HI
    iexact Hat
  iapply Hk
  isplitl [Hs]; · iexact Hs
  isplitl [Hv]; · iexact Hv
  iexists _; iexact Ho

end Cert.KernelIdeal
end
-- ==== Proof.Access.lean ====
/-
  The kernel's reads and writes of its buffers, each as one rule that names what is read: the two batches of the input,
  a device's heads of the keys and values, a slot of a gather buffer, and the two batches of the output.
-/
module

public import proofs.«01_k».proof.Proof.Hops

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (B : Blocks F)

local notation "𝕄" => MT nD τ sig Unit (Elt F) ℕ UU ℕ

/-! ## Whole buffers -/

abbrev xM : Memref sig .tc .vmem S2x256x512 .bf16 := Memref.whole cc0_stg0_0
abbrev wqInM : Memref sig .tc .vmem S512x256 .bf16 := Memref.whole cc0_stg1_0
abbrev kM : Memref sig .tc .vmem S2x32x256x64 .bf16 := Memref.whole cc0_stg2_0
abbrev vM : Memref sig .tc .vmem S2x32x256x64 .bf16 := Memref.whole cc0_stg3_0
abbrev woInM : Memref sig .tc .vmem S256x512 .bf16 := Memref.whole cc0_stg4_0
abbrev outM : Memref sig .tc .vmem S2x256x512 .f32 := Memref.whole cc0_stg5_0

abbrev ptX (c : Dev nD) (f : Vec F S2x256x512 .bf16) : sProp 𝕄 := ((c : Thread nD τ).loc cc0_stg0_0) ↦{fullShare} f
abbrev ptWq (c : Dev nD) (f : Vec F S512x256 .bf16) : sProp 𝕄 := ((c : Thread nD τ).loc cc0_stg1_0) ↦{fullShare} f
abbrev ptK (c : Dev nD) (f : Vec F S2x32x256x64 .bf16) : sProp 𝕄 := ((c : Thread nD τ).loc cc0_stg2_0) ↦{fullShare} f
abbrev ptV (c : Dev nD) (f : Vec F S2x32x256x64 .bf16) : sProp 𝕄 := ((c : Thread nD τ).loc cc0_stg3_0) ↦{fullShare} f
abbrev ptWo (c : Dev nD) (f : Vec F S256x512 .bf16) : sProp 𝕄 := ((c : Thread nD τ).loc cc0_stg4_0) ↦{fullShare} f
abbrev ptOut (c : Dev nD) (f : Vec F S2x256x512 .f32) : sProp 𝕄 := ((c : Thread nD τ).loc cc0_stg5_0) ↦{fullShare} f

/-! ## What is read -/

theorem inbB (b : Fin 2) : ∀ a, (![b.val, 0, 0] : Fin 3 → ℕ) a + S1x256x512.size a ≤ S2x256x512.size a := by revert b; decide

/-- Batch `b` of a buffer of two batches. -/
abbrev rectB (b : Fin 2) : Rect S2x256x512 := Rect.unit (s := S2x256x512) ![b.val, 0, 0] S1x256x512.size (inbB b)

/-- Batch `b` of the input. -/
def xB (b : Fin 2) (X : Vec F S2x256x512 .bf16) : Vec F S1x256x512 .bf16 := (xM.access (rectB b)).read (Elt F) X

/-- Four heads of one batch, from `off` on, out of keys or values. -/
def headsAt (off : Fin 4 → ℕ) (inb : ∀ a, off a + S1x4x256x64.size a ≤ S2x32x256x64.size a) (X : Vec F S2x32x256x64 .bf16) :
    Vec F S1x4x256x64 .bf16 :=
  (kM.access (Rect.unit (s := S2x32x256x64) off S1x4x256x64.size inb)).read (Elt F) X

/-- The heads of the device `r` places to the left, of the first batch and of the second. -/
abbrev heads0 (c : Dev nD) (r : Fin 8) (X : Vec F S2x32x256x64 .bf16) : Vec F S1x4x256x64 .bf16 :=
  headsAt (k0_off1 c (BitVec.ofNat 32 r.val)) (k0_off1_inb c r) X
abbrev heads1 (c : Dev nD) (r : Fin 8) (X : Vec F S2x32x256x64 .bf16) : Vec F S1x4x256x64 .bf16 :=
  headsAt (k0_off2 c (BitVec.ofNat 32 r.val)) (k0_off2_inb c r) X

/-! ## The output as its two batches -/

def outB (a0 a1 : Vec F S1x256x512 .f32) : Vec F S2x256x512 .f32 := fun i =>
  if (i 0).val = 0 then a0 (ix3 (0 : Fin 1) (i 1) (i 2)) else a1 (ix3 (0 : Fin 1) (i 1) (i 2))

theorem rectB_emb0 (b : Fin 2) (x : S1x256x512.Idx) : ((rectB b).emb x 0).val = b.val := by
  have h : (x 0).val < 1 := (x 0).isLt
  rw [Rect.emb_apply]; show b.val + 1 * (x 0).val = _; omega
theorem rectB_emb1 (b : Fin 2) (x : S1x256x512.Idx) : ((rectB b).emb x 1).val = (x 1).val := by
  rw [Rect.emb_apply]; show 0 + 1 * (x 1).val = _; omega
theorem rectB_emb2 (b : Fin 2) (x : S1x256x512.Idx) : ((rectB b).emb x 2).val = (x 2).val := by
  rw [Rect.emb_apply]; show 0 + 1 * (x 2).val = _; omega

theorem rectB_ix (b : Fin 2) (x : S1x256x512.Idx) :
    ix3 (n0 := 1) (n1 := 256) (n2 := 512) 0 ((rectB b).emb x 1) ((rectB b).emb x 2) = x := by
  funext a
  match a with
  | 0 => apply Fin.ext; have h : (x 0).val < 1 := (x 0).isLt; show 0 = (x 0).val; omega
  | 1 => exact Fin.ext (rectB_emb1 b x)
  | 2 => exact Fin.ext (rectB_emb2 b x)

theorem mem_rectB (b : Fin 2) (i : S2x256x512.Idx) (h : (i 0).val = b.val) : i ∈ (outM.access (rectB b)).set := by
  have e : (outM.access (rectB b)).emb (ix3 (n0 := 1) (n1 := 256) (n2 := 512) 0 (i 1) (i 2)) = i := by
    funext a
    apply Fin.ext
    match a with
    | 0 => exact (rectB_emb0 b _).trans h.symm
    | 1 => exact rectB_emb1 b _
    | 2 => exact rectB_emb2 b _
  rw [← e]; exact View.emb_mem_set _ _

theorem read_out0 (a0 a1 : Vec F S1x256x512 .f32) : (outM.access (rectB 0)).read (Elt F) (outB a0 a1) = a0 := by
  funext x
  show (if ((rectB 0).emb x 0).val = 0 then a0 _ else a1 _) = _
  exact (if_pos (rectB_emb0 0 x)).trans (congrArg a0 (rectB_ix 0 x))
theorem read_out1 (a0 a1 : Vec F S1x256x512 .f32) : (outM.access (rectB 1)).read (Elt F) (outB a0 a1) = a1 := by
  funext x
  show (if ((rectB 1).emb x 0).val = 0 then a0 _ else a1 _) = _
  exact (if_neg (by rw [rectB_emb0]; decide)).trans (congrArg a1 (rectB_ix 1 x))

theorem write_out (b : Fin 2) (f g : Vec F S2x256x512 .f32) (w : Vec F S1x256x512 .f32)
    (h : (outM.access (rectB b)).read (Elt F) g = w) (h' : ∀ i : S2x256x512.Idx, (i 0).val ≠ b.val → f i = g i) :
    (outM.access (rectB b)).write (Elt F) f w Finset.univ = g := by
  funext i
  by_cases hi : i ∈ (outM.access (rectB b)).set
  · exact write_agrees (outM.access (rectB b)) f g w h i hi
  · rw [View.write_of_not_mem _ _ _ hi]; exact h' i fun e => hi (mem_rectB b i e)

theorem write_out0 (a0 a1 w : Vec F S1x256x512 .f32) :
    (outM.access (rectB 0)).write (Elt F) (outB a0 a1) w Finset.univ = outB w a1 :=
  write_out 0 _ _ _ (read_out0 _ _) fun i hi => by
    exact (if_neg hi).trans (if_neg (c := (i 0).val = 0) hi).symm
theorem write_out1 (a0 a1 w : Vec F S1x256x512 .f32) :
    (outM.access (rectB 1)).write (Elt F) (outB a0 a1) w Finset.univ = outB a0 w :=
  write_out 1 _ _ _ (read_out1 _ _) fun i hi => by
    have h2 : (i 0).val < 2 := (i 0).isLt
    have h0 : (i 0).val = 0 := by have : (i 0).val ≠ 1 := hi; omega
    exact (if_pos h0).trans (if_pos (c := (i 0).val = 0) h0).symm

/-- Any contents of the output are those of its two batches. -/
theorem outB_eta (f : Vec F S2x256x512 .f32) :
    f = outB ((outM.access (rectB 0)).read (Elt F) f) ((outM.access (rectB 1)).read (Elt F) f) := by
  rw [← write_out (F := F) 0 f (outB ((outM.access (rectB 0)).read (Elt F) f) ((outM.access (rectB 1)).read (Elt F) f)) _ (read_out0 _ _)]
  · rw [View.write_read_eq_piecewise]; funext i
    by_cases h : i ∈ (outM.access (rectB 0)).setOn Finset.univ
    · rw [Finset.piecewise_eq_of_mem _ _ _ h]
    · rw [Finset.piecewise_eq_of_notMem _ _ _ h]
  · intro i hi
    have h2 : (i 0).val < 2 := (i 0).isLt
    have h1 : (i 0).val = (1 : Fin 2).val := by have : (i 0).val ≠ 0 := hi; show _ = 1; omega
    have hm := mem_rectB 1 i h1
    obtain ⟨x, -, rfl⟩ := Finset.mem_map.mp hm
    exact (congrFun (read_out1 (F := F) ((outM.access (rectB 0)).read (Elt F) f) ((outM.access (rectB 1)).read (Elt F) f)) x).symm

end Cert.KernelIdeal
end
-- ==== Proof.Rules.lean ====
/-
  The rules of the kernel's reads and writes of its buffers, and of its barrier.
-/
module

public import proofs.«01_k».proof.Proof.Access

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (B : Blocks F)

local notation "𝕄" => MT nD τ sig Unit (Elt F) ℕ UU ℕ

/-! ## The rules -/

section Rules

variable (c : Dev nD) {α : Type}

/-- A batch of the input is read; -/
theorem load_x (b : Fin 2) (X : Vec F S2x256x512 .bf16) {off} {inb} (e : off = ![b.val, 0, 0])
    {hl : xM.view.LoadsAt (Rect.unit (s := S2x256x512) off S1x256x512.size inb).toLoadRect}
    {k : Vec F S1x256x512 .bf16 → Prog (TpuEff nD τ sig (Elt F) Λ₀ .tc) α} {Kt : α → sProp 𝕄} :
    ptX c X ⊢ iprop((ptX c X -∗ runs c (k (xB b X)) Kt)
      -∗ runs c (.op (.load xM (Rect.unit (s := S2x256x512) off S1x256x512.size inb).toLoadRect hl) k) Kt) := by
  subst e
  exact wp_load_rect 𝒱₀ (c : Thread nD τ) none Set.univ (m := xM) (r := rectB b) (S := Finset.univ) (Finset.subset_univ _)

/-- the device's block of the first weight, whole; -/
theorem load_wqIn (X : Vec F S512x256 .bf16) {inb} {hl : wqInM.view.LoadsAt (Rect.unit (s := S512x256) ![0, 0] S512x256.size inb).toLoadRect}
    {k : Vec F S512x256 .bf16 → Prog (TpuEff nD τ sig (Elt F) Λ₀ .tc) α} {Kt : α → sProp 𝕄} :
    ptWq c X ⊢ iprop((ptWq c X -∗ runs c (k X) Kt)
      -∗ runs c (.op (.load wqInM (Rect.unit (s := S512x256) ![0, 0] S512x256.size inb).toLoadRect hl) k) Kt) := by
  have h := wp_load_rect (defs := defs₀ (F := F)) (Γ := .empty) (Q := Kt) (k := k) (hl := hl) (f := X) (q := fullShare) 𝒱₀ (c : Thread nD τ) none Set.univ (m := wqInM)
    (r := Rect.unit (s := S512x256) ![0, 0] S512x256.size inb) (S := Finset.univ) (Finset.subset_univ _)
  rw [show (wqInM.access (Rect.unit (s := S512x256) ![0, 0] S512x256.size inb)).read (Elt F) X = X from
    Memref.read_access_unit_zero (Elt F) cc0_stg1_0 (by decide) _ _] at h
  exact h

/-- that of the second; -/
theorem load_woIn (X : Vec F S256x512 .bf16) {inb} {hl : woInM.view.LoadsAt (Rect.unit (s := S256x512) ![0, 0] S256x512.size inb).toLoadRect}
    {k : Vec F S256x512 .bf16 → Prog (TpuEff nD τ sig (Elt F) Λ₀ .tc) α} {Kt : α → sProp 𝕄} :
    ptWo c X ⊢ iprop((ptWo c X -∗ runs c (k X) Kt)
      -∗ runs c (.op (.load woInM (Rect.unit (s := S256x512) ![0, 0] S256x512.size inb).toLoadRect hl) k) Kt) := by
  have h := wp_load_rect (defs := defs₀ (F := F)) (Γ := .empty) (Q := Kt) (k := k) (hl := hl) (f := X) (q := fullShare) 𝒱₀ (c : Thread nD τ) none Set.univ (m := woInM)
    (r := Rect.unit (s := S256x512) ![0, 0] S256x512.size inb) (S := Finset.univ) (Finset.subset_univ _)
  rw [show (woInM.access (Rect.unit (s := S256x512) ![0, 0] S256x512.size inb)).read (Elt F) X = X from
    Memref.read_access_unit_zero (Elt F) cc0_stg4_0 (by decide) _ _] at h
  exact h

/-- four heads of the keys; -/
theorem load_k (off : Fin 4 → ℕ) (inb) (X : Vec F S2x32x256x64 .bf16)
    {hl : kM.view.LoadsAt (Rect.unit (s := S2x32x256x64) off S1x4x256x64.size inb).toLoadRect}
    {k : Vec F S1x4x256x64 .bf16 → Prog (TpuEff nD τ sig (Elt F) Λ₀ .tc) α} {Kt : α → sProp 𝕄} :
    ptK c X ⊢ iprop((ptK c X -∗ runs c (k (headsAt off inb X)) Kt)
      -∗ runs c (.op (.load kM (Rect.unit (s := S2x32x256x64) off S1x4x256x64.size inb).toLoadRect hl) k) Kt) := by
  have h := wp_load_rect (defs := defs₀ (F := F)) (Γ := .empty) (Q := Kt) (k := k) (hl := hl) (f := X) (q := fullShare) 𝒱₀ (c : Thread nD τ) none Set.univ (m := kM)
    (r := Rect.unit (s := S2x32x256x64) off S1x4x256x64.size inb) (S := Finset.univ) (Finset.subset_univ _)
  exact h

/-- four heads of the values. -/
theorem load_v (off : Fin 4 → ℕ) (inb) (X : Vec F S2x32x256x64 .bf16)
    {hl : vM.view.LoadsAt (Rect.unit (s := S2x32x256x64) off S1x4x256x64.size inb).toLoadRect}
    {k : Vec F S1x4x256x64 .bf16 → Prog (TpuEff nD τ sig (Elt F) Λ₀ .tc) α} {Kt : α → sProp 𝕄} :
    ptV c X ⊢ iprop((ptV c X -∗ runs c (k (headsAt off inb X)) Kt)
      -∗ runs c (.op (.load vM (Rect.unit (s := S2x32x256x64) off S1x4x256x64.size inb).toLoadRect hl) k) Kt) := by
  have h := wp_load_rect (defs := defs₀ (F := F)) (Γ := .empty) (Q := Kt) (k := k) (hl := hl) (f := X) (q := fullShare) 𝒱₀ (c : Thread nD τ) none Set.univ (m := vM)
    (r := Rect.unit (s := S2x32x256x64) off S1x4x256x64.size inb) (S := Finset.univ) (Finset.subset_univ _)
  exact h

/-- A slot of the first gather buffer, held at any share, reads as the block it ends with. -/
theorem load_wq (r : Fin 8) (q : PosShare TreeShare) {off} {inb} (e : off = ![0, 256 * r.val])
    {hl : wqM.view.LoadsAt (Rect.unit (s := S512x2048) off S512x256.size inb).toLoadRect}
    {k : Vec F S512x256 .bf16 → Prog (TpuEff nD τ sig (Elt F) Λ₀ .tc) α} {Kt : α → sProp 𝕄} :
    slot B 0 r c q ⊢ iprop((slot B 0 r c q -∗ runs c (k (B.wq (back r c))) Kt)
      -∗ runs c (.op (.load wqM (Rect.unit (s := S512x2048) off S512x256.size inb).toLoadRect hl) k) Kt) := by
  subst e
  have h := wp_load_rect (defs := defs₀ (F := F)) (Γ := .empty) (Q := Kt) (k := k) (hl := hl) (f := WqG B c) (q := q) 𝒱₀ (c : Thread nD τ) none Set.univ (m := wqM)
    (r := rectQ r) (S := (wqS r).view.set) (fun _ h => h)
  rw [show (wqM.access (rectQ r)).read (Elt F) (WqG B c) = B.wq (back r c) from read_WqG B c r] at h
  rw [slot_zero]; exact h

/-- What its slot 0 holds before the device's own block is stored there is read once, and not used. -/
theorem load_any_q {inb} {hl : wqM.view.LoadsAt (Rect.unit (s := S512x2048) ![0, 0] S512x256.size inb).toLoadRect}
    {k : Vec F S512x256 .bf16 → Prog (TpuEff nD τ sig (Elt F) Λ₀ .tc) α} {Kt : α → sProp 𝕄} :
    slotAny 0 0 c ⊢ iprop((slotAny 0 0 c -∗ ∀ w, runs c (k w) Kt)
      -∗ runs c (.op (.load wqM (Rect.unit (s := S512x2048) ![0, 0] S512x256.size inb).toLoadRect hl) k) Kt) := by
  rw [slotAny_zero]
  iintro ⟨%f, H⟩ Hk
  iapply (wp_load_rect 𝒱₀ (c : Thread nD τ) none Set.univ (m := wqM) (r := rectQ 0) (S := (wqS 0).view.set) (fun _ h => h)) $$ [H]
  · iexact H
  iintro H
  ihave Hk := Hk $$ [H]
  · iexists f; iexact H
  iapply Hk

/-- Storing the device's own block there leaves the slot as it ends. -/
theorem store_wq (w : Vec F S512x256 .bf16) (hw : w = B.wq c) {inb}
    {hx : (wqM.access (Rect.unit (s := S512x2048) ![0, 0] S512x256.size inb)).Stores Finset.univ} {hm}
    {k : PUnit → Prog (TpuEff nD τ sig (Elt F) Λ₀ .tc) α} {Kt : α → sProp 𝕄} :
    slotAny 0 0 c ⊢ iprop((slot B 0 0 c fullShare -∗ runs c (k ⟨⟩) Kt)
      -∗ runs c (.op (.store wqM (Rect.unit (s := S512x2048) ![0, 0] S512x256.size inb) w Finset.univ hx hm) k) Kt) := by
  rw [slotAny_zero, slot_zero]
  iintro ⟨%f, H⟩ Hk
  iapply (wp_store 𝒱₀ (c : Thread nD τ) none Set.univ (m := wqM) (r := rectQ 0) (S := (wqS 0).view.set) (fun _ h => h)) $$ [H]
  · iexact H
  iintro H
  iapply Hk
  iapply (Entails.of_eq (pointsTo_congr (write_agrees (wqS 0).view f (WqG B c) w (by rw [read_WqG, back_zero, hw]))))
  iexact H

/-- A slot of the second gather buffer, held at any share, reads as the block it ends with. -/
theorem load_wo (r : Fin 8) (q : PosShare TreeShare) {off} {inb} (e : off = ![256 * r.val, 0])
    {hl : woM.view.LoadsAt (Rect.unit (s := S2048x512) off S256x512.size inb).toLoadRect}
    {k : Vec F S256x512 .bf16 → Prog (TpuEff nD τ sig (Elt F) Λ₀ .tc) α} {Kt : α → sProp 𝕄} :
    slot B 1 r c q ⊢ iprop((slot B 1 r c q -∗ runs c (k (B.wo (back r c))) Kt)
      -∗ runs c (.op (.load woM (Rect.unit (s := S2048x512) off S256x512.size inb).toLoadRect hl) k) Kt) := by
  subst e
  have h := wp_load_rect (defs := defs₀ (F := F)) (Γ := .empty) (Q := Kt) (k := k) (hl := hl) (f := WoG B c) (q := q) 𝒱₀ (c : Thread nD τ) none Set.univ (m := woM)
    (r := rectO r) (S := (woS r).view.set) (fun _ h => h)
  rw [show (woM.access (rectO r)).read (Elt F) (WoG B c) = B.wo (back r c) from read_WoG B c r] at h
  rw [slot_one]; exact h

/-- What its slot 0 holds before the device's own block is stored there is read once, and not used. -/
theorem load_any_o {inb} {hl : woM.view.LoadsAt (Rect.unit (s := S2048x512) ![0, 0] S256x512.size inb).toLoadRect}
    {k : Vec F S256x512 .bf16 → Prog (TpuEff nD τ sig (Elt F) Λ₀ .tc) α} {Kt : α → sProp 𝕄} :
    slotAny 1 0 c ⊢ iprop((slotAny 1 0 c -∗ ∀ w, runs c (k w) Kt)
      -∗ runs c (.op (.load woM (Rect.unit (s := S2048x512) ![0, 0] S256x512.size inb).toLoadRect hl) k) Kt) := by
  rw [slotAny_one]
  iintro ⟨%f, H⟩ Hk
  iapply (wp_load_rect 𝒱₀ (c : Thread nD τ) none Set.univ (m := woM) (r := rectO 0) (S := (woS 0).view.set) (fun _ h => h)) $$ [H]
  · iexact H
  iintro H
  ihave Hk := Hk $$ [H]
  · iexists f; iexact H
  iapply Hk

/-- Storing the device's own block there leaves the slot as it ends. -/
theorem store_wo (w : Vec F S256x512 .bf16) (hw : w = B.wo c) {inb}
    {hx : (woM.access (Rect.unit (s := S2048x512) ![0, 0] S256x512.size inb)).Stores Finset.univ} {hm}
    {k : PUnit → Prog (TpuEff nD τ sig (Elt F) Λ₀ .tc) α} {Kt : α → sProp 𝕄} :
    slotAny 1 0 c ⊢ iprop((slot B 1 0 c fullShare -∗ runs c (k ⟨⟩) Kt)
      -∗ runs c (.op (.store woM (Rect.unit (s := S2048x512) ![0, 0] S256x512.size inb) w Finset.univ hx hm) k) Kt) := by
  rw [slotAny_one, slot_one]
  iintro ⟨%f, H⟩ Hk
  iapply (wp_store 𝒱₀ (c : Thread nD τ) none Set.univ (m := woM) (r := rectO 0) (S := (woS 0).view.set) (fun _ h => h)) $$ [H]
  · iexact H
  iintro H
  iapply Hk
  iapply (Entails.of_eq (pointsTo_congr (write_agrees (woS 0).view f (WoG B c) w (by rw [read_WoG, back_zero, hw]))))
  iexact H

/-- Batch 0 of the output is read; -/
theorem load_out0 (a0 a1 : Vec F S1x256x512 .f32) {inb} {hl : outM.view.LoadsAt (Rect.unit (s := S2x256x512) ![0, 0, 0] S1x256x512.size inb).toLoadRect}
    {k : Vec F S1x256x512 .f32 → Prog (TpuEff nD τ sig (Elt F) Λ₀ .tc) α} {Kt : α → sProp 𝕄} :
    ptOut c (outB a0 a1) ⊢ iprop((ptOut c (outB a0 a1) -∗ runs c (k a0) Kt) -∗ runs c (.op (.load outM (Rect.unit (s := S2x256x512) ![0, 0, 0] S1x256x512.size inb).toLoadRect hl) k) Kt) := by
  have h := wp_load_rect (defs := defs₀ (F := F)) (Γ := .empty) (Q := Kt) (k := k) (hl := hl) (f := outB a0 a1) (q := fullShare) 𝒱₀ (c : Thread nD τ) none Set.univ (m := outM)
    (r := rectB 0) (S := Finset.univ) (Finset.subset_univ _)
  rw [read_out0] at h; exact h

/-- and written. -/
theorem store_out0 (a0 a1 w : Vec F S1x256x512 .f32) {inb} {hx : (outM.access (Rect.unit (s := S2x256x512) ![0, 0, 0] S1x256x512.size inb)).Stores Finset.univ} {hm}
    {k : PUnit → Prog (TpuEff nD τ sig (Elt F) Λ₀ .tc) α} {Kt : α → sProp 𝕄} :
    ptOut c (outB a0 a1) ⊢ iprop((ptOut c (outB w a1) -∗ runs c (k ⟨⟩) Kt)
      -∗ runs c (.op (.store outM (Rect.unit (s := S2x256x512) ![0, 0, 0] S1x256x512.size inb) w Finset.univ hx hm) k) Kt) := by
  have h := wp_store (defs := defs₀ (F := F)) (Γ := .empty) (Q := Kt) (k := k) (hx := hx) (hm := hm) (f := outB a0 a1) (w := w) 𝒱₀ (c : Thread nD τ) none Set.univ (m := outM)
    (r := rectB 0) (S := Finset.univ) (Finset.subset_univ _)
  rw [write_out0] at h; exact h

/-- Batch 1 of the output is read; -/
theorem load_out1 (a0 a1 : Vec F S1x256x512 .f32) {inb} {hl : outM.view.LoadsAt (Rect.unit (s := S2x256x512) ![1, 0, 0] S1x256x512.size inb).toLoadRect}
    {k : Vec F S1x256x512 .f32 → Prog (TpuEff nD τ sig (Elt F) Λ₀ .tc) α} {Kt : α → sProp 𝕄} :
    ptOut c (outB a0 a1) ⊢ iprop((ptOut c (outB a0 a1) -∗ runs c (k a1) Kt) -∗ runs c (.op (.load outM (Rect.unit (s := S2x256x512) ![1, 0, 0] S1x256x512.size inb).toLoadRect hl) k) Kt) := by
  have h := wp_load_rect (defs := defs₀ (F := F)) (Γ := .empty) (Q := Kt) (k := k) (hl := hl) (f := outB a0 a1) (q := fullShare) 𝒱₀ (c : Thread nD τ) none Set.univ (m := outM)
    (r := rectB 1) (S := Finset.univ) (Finset.subset_univ _)
  rw [read_out1] at h; exact h

/-- and written. -/
theorem store_out1 (a0 a1 w : Vec F S1x256x512 .f32) {inb} {hx : (outM.access (Rect.unit (s := S2x256x512) ![1, 0, 0] S1x256x512.size inb)).Stores Finset.univ} {hm}
    {k : PUnit → Prog (TpuEff nD τ sig (Elt F) Λ₀ .tc) α} {Kt : α → sProp 𝕄} :
    ptOut c (outB a0 a1) ⊢ iprop((ptOut c (outB a0 w) -∗ runs c (k ⟨⟩) Kt)
      -∗ runs c (.op (.store outM (Rect.unit (s := S2x256x512) ![1, 0, 0] S1x256x512.size inb) w Finset.univ hx hm) k) Kt) := by
  have h := wp_store (defs := defs₀ (F := F)) (Γ := .empty) (Q := Kt) (k := k) (hx := hx) (hm := hm) (f := outB a0 a1) (w := w) 𝒱₀ (c : Thread nD τ) none Set.univ (m := outM)
    (r := rectB 1) (S := Finset.univ) (Finset.subset_univ _)
  rw [write_out1] at h; exact h

/-! ### The barrier -/

theorem landing_of (j : Hop) (c d : Dev nD) (e : dest j.2 d = c) :
    iprop(slotAny (F := F) j.1 (dstS j.2) c ∗ opens c) ⊢ landing j d := by
  unfold landing; rw [e]
  iintro ⟨H, #HO⟩
  isplitl [H]; · iexact H
  iapply (open_recv c j); iexact HO

/-- What a device hands its left neighbour: its slots the hops to the right write. -/
theorem signal_left (K : GSem nD τ sig → ℕ) {k : PUnit → Prog (TpuEff nD τ sig (Elt F) Λ₀ .tc) α} {Kt : α → sProp 𝕄} {d : Dev nD} (e : d = lf c) (W : Waits sig Unit)
    {n : ℤ} (hn : n = ((1 : ℕ) : ℤ)) :
    iprop(invs B K ∗ opens c ∗ owes (c : Thread nD τ) (O₀ c) W ∗ dutyTok ER (barCell (lf c)) 0 true ∗ slotAny 0 1 c ∗ slotAny 0 2 c ∗ slotAny 0 3 c ∗ slotAny 0 4 c ∗ slotAny 1 1 c ∗ slotAny 1 2 c ∗ slotAny 1 3 c ∗ slotAny 1 4 c)
      ⊢ iprop((owes (c : Thread nD τ) (owedL c order + tallyAt (barCell (rt c)) () 1) W -∗ runs c (k ⟨⟩) Kt)
        -∗ runs c (.op (.semSignal (Dev.tc d) barS n) k) Kt) := by
  subst e hn
  iintro ⟨#HI, #HO, Ho, Ht, H01, H02, H03, H04, H11, H12, H13, H14⟩ Hk
  iapply (Rounds.wp_signal 𝒱₀ ER (rd B) (c : Thread nD τ) none (dst := (lf c : Thread nD τ)) (sem := barS) (r := 0) (d := true) (κ := K (barCell (lf c)))
      (by rw [duties_bar]; exact Finset.mem_univ _) (amount_bar B (lf c) true) () (owedL c order + tallyAt (barCell (rt c)) () 1) rfl)
    $$ [Ho Ht H01 H02 H03 H04 H11 H12 H13 H14]
  · isplitr; · iapply (inv_bar B K (lf c)); iexact HI
    isplitl [Ho]; · iexact Ho
    isplitl [Ht]; · iexact Ht
    isplitl
    · rw [payload_bar]; unfold barPay; first | rw [if_pos rfl] | rw [if_neg (by decide)]
      isplitl [H01]
      · iapply (landing_of (0, 0) c (lf c) (rt_lf c)); isplitl; · iexact H01
        iexact HO
      isplitl [H02]
      · iapply (landing_of (0, 1) c (lf c) (rt_lf c)); isplitl; · iexact H02
        iexact HO
      isplitl [H03]
      · iapply (landing_of (0, 2) c (lf c) (rt_lf c)); isplitl; · iexact H03
        iexact HO
      isplitl [H04]
      · iapply (landing_of (0, 3) c (lf c) (rt_lf c)); isplitl; · iexact H04
        iexact HO
      isplitl [H11]
      · iapply (landing_of (1, 0) c (lf c) (rt_lf c)); isplitl; · iexact H11
        iexact HO
      isplitl [H12]
      · iapply (landing_of (1, 1) c (lf c) (rt_lf c)); isplitl; · iexact H12
        iexact HO
      isplitl [H13]
      · iapply (landing_of (1, 2) c (lf c) (rt_lf c)); isplitl; · iexact H13
        iexact HO
      · iapply (landing_of (1, 3) c (lf c) (rt_lf c)); isplitl; · iexact H14
        iexact HO
    · iapply (open_lf c); iexact HO
  iexact Hk

/-- What it hands its right neighbour: its slots the hops to the left write. -/
theorem signal_right (K : GSem nD τ sig → ℕ) {k : PUnit → Prog (TpuEff nD τ sig (Elt F) Λ₀ .tc) α} {Kt : α → sProp 𝕄} {d : Dev nD} (e : d = rt c) (W : Waits sig Unit)
    {n : ℤ} (hn : n = ((1 : ℕ) : ℤ)) :
    iprop(invs B K ∗ opens c ∗ owes (c : Thread nD τ) (owedL c order + tallyAt (barCell (rt c)) () 1) W ∗ dutyTok ER (barCell (rt c)) 0 false ∗ slotAny 0 7 c ∗ slotAny 0 6 c ∗ slotAny 0 5 c ∗ slotAny 1 7 c ∗ slotAny 1 6 c ∗ slotAny 1 5 c)
      ⊢ iprop((owes (c : Thread nD τ) (owedL c order) W -∗ runs c (k ⟨⟩) Kt)
        -∗ runs c (.op (.semSignal (Dev.tc d) barS n) k) Kt) := by
  subst e hn
  iintro ⟨#HI, #HO, Ho, Ht, H07, H06, H05, H17, H16, H15⟩ Hk
  iapply (Rounds.wp_signal 𝒱₀ ER (rd B) (c : Thread nD τ) none (dst := (rt c : Thread nD τ)) (sem := barS) (r := 0) (d := false) (κ := K (barCell (rt c)))
      (by rw [duties_bar]; exact Finset.mem_univ _) (amount_bar B (rt c) false) () (owedL c order) rfl)
    $$ [Ho Ht H07 H06 H05 H17 H16 H15]
  · isplitr; · iapply (inv_bar B K (rt c)); iexact HI
    isplitl [Ho]; · iexact Ho
    isplitl [Ht]; · iexact Ht
    isplitl
    · rw [payload_bar]; unfold barPay; first | rw [if_pos rfl] | rw [if_neg (by decide)]
      isplitl [H07]
      · iapply (landing_of (0, 4) c (rt c) (lf_rt c)); isplitl; · iexact H07
        iexact HO
      isplitl [H06]
      · iapply (landing_of (0, 5) c (rt c) (lf_rt c)); isplitl; · iexact H06
        iexact HO
      isplitl [H05]
      · iapply (landing_of (0, 6) c (rt c) (lf_rt c)); isplitl; · iexact H05
        iexact HO
      isplitl [H17]
      · iapply (landing_of (1, 4) c (rt c) (lf_rt c)); isplitl; · iexact H17
        iexact HO
      isplitl [H16]
      · iapply (landing_of (1, 5) c (rt c) (lf_rt c)); isplitl; · iexact H16
        iexact HO
      · iapply (landing_of (1, 6) c (rt c) (lf_rt c)); isplitl; · iexact H15
        iexact HO
    · iapply (open_rt c); iexact HO
  iexact Hk

/-- The wait at the barrier: both neighbours' slots, and the counter back at zero. -/
theorem wait_bar (K : GSem nD τ sig → ℕ) {k : PUnit → Prog (TpuEff nD τ sig (Elt F) Λ₀ .tc) α} {Kt : α → sProp 𝕄} (W : Waits sig Unit)
    {n : ℤ} (hn : n = ((2 : ℕ) : ℤ)) :
    iprop(invs B K ∗ levAts L lv ∗ owes (c : Thread nD τ) (owedL c order) W ∗ cred (tallyAt (barCell c) () 2) ∗ atPos ER (barCell c) 0 ∅ 0)
      ⊢ iprop(((barPay c true ∗ barPay c false ∗ semVal (barCell c) 0 ∗ owing c order) -∗ runs c (k ⟨⟩) Kt)
        -∗ runs c (.op (.semWait barS n) k) Kt) := by
  subst hn
  unfold owing
  iintro ⟨#HI, #Hlev, Ho, Hc, Hat⟩ Hk
  iapply (Rounds.wp_wait_rest_token 𝒱₀ ER (rd B) (c : Thread nD τ) none (κ := K (barCell c))
      (wpE_semWait_eq 𝒱₀ (c : Thread nD τ) none Set.univ) (Set.mem_univ _) () (O := owedL c order) (W := W) (R := 0) (m := 0) (T := ∅)
      ((Nat.zero_add _).trans (expect_bar B c).symm)) $$ [Hc Ho Hat]
  · isplitr; · iapply (inv_bar B K c); iexact HI
    isplitl [Hc]; · iexact Hc
    isplitl [Ho]; · iexact Ho
    isplitr
    · iapply (mayWait_owed c (.reg barS) order (fun i _ => by rw [lv_bar]; omega)); iexact Hlev
    iexact Hat
  iintro ⟨Ho, Hat, -, Hp⟩
  ihave Hs := (Entails.of_eq (rest_bar B c)) $$ Hp
  icases Hs with ⟨Hs1, Hs2⟩
  imod (Rounds.cell_close ER (rd B) (g := barCell c) (Set.mem_univ (K (barCell c))) id (duties_later B _)) $$ [Hat] with Hv
  · isplitr; · iapply (inv_bar B K c); iexact HI
    iexact Hat
  iapply Hk
  isplitl [Hs1]; · iexact Hs1
  isplitl [Hs2]; · iexact Hs2
  isplitl [Hv]; · iexact Hv
  iexists _; iexact Ho

end Rules

end Cert.KernelIdeal
end
-- ==== Proof.Steps.lean ====
/-
  What the walk through the kernel's parts shares: the staged arguments, and a slot divided between the hops that read it
  and the device.
-/
module

public import proofs.«01_k».proof.Proof.Rules

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (B : Blocks F)

local notation "𝕄" => MT nD τ sig Unit (Elt F) ℕ UU ℕ

/-- A program that only returns. -/
theorem runs_ret (c : Dev nD) {α : Type} (a : α) (Kt : α → sProp 𝕄) : Kt a ⊢ runs (F := F) c (.ret a) Kt := fupd_intro

/-- A program and what follows it. -/
theorem runs_bind (c : Dev nD) {α β : Type} (p : Prog (TpuEff nD τ sig (Elt F) Λ₀ .tc) α)
    (k : α → Prog (TpuEff nD τ sig (Elt F) Λ₀ .tc) β) (Kt : β → sProp 𝕄) :
    runs c p (fun a => runs c (k a) Kt) ⊢ runs c (p >>= k) Kt := Entails.of_eq (wp_bind _ _ _ p k Kt).symm

theorem slot_half (t : Fin 2) (r : Fin 8) (c : Dev nD) (q : PosShare TreeShare) :
    slot B t r c q ⊢ iprop(slot B t r c q.left ∗ slot B t r c q.right) := by
  unfold slot; split
  · exact (pointsTo_share (PosShare.mem_left_op_right q)).1
  · exact (pointsTo_share (PosShare.mem_left_op_right q)).1
theorem slot_whole (t : Fin 2) (r : Fin 8) (c : Dev nD) (q : PosShare TreeShare) :
    iprop(slot B t r c q.left ∗ slot B t r c q.right) ⊢ slot B t r c q := by
  unfold slot; split
  · exact (pointsTo_share (PosShare.mem_left_op_right q)).2
  · exact (pointsTo_share (PosShare.mem_left_op_right q)).2

/-- What a hop borrows of a slot other than slot 0, and what stays. -/
theorem slot_two (t : Fin 2) (r : Fin 8) (c : Dev nD) (s : Fin 7) (hs : s ≠ 0 ∧ s ≠ 4) :
    slot B t r c fullShare ⊢ iprop(slot B t r c (qs s) ∗ slot B t r c fullShare.right) := by
  unfold qs; rw [if_neg hs.1, if_neg hs.2]; exact slot_half B t r c fullShare
theorem slot_two_back (t : Fin 2) (r : Fin 8) (c : Dev nD) (s : Fin 7) (hs : s ≠ 0 ∧ s ≠ 4) :
    iprop(slot B t r c (qs s) ∗ slot B t r c fullShare.right) ⊢ slot B t r c fullShare := by
  unfold qs; rw [if_neg hs.1, if_neg hs.2]; exact slot_whole B t r c fullShare

/-- Slot 0 lends to two hops. -/
theorem slot_third (t : Fin 2) (c : Dev nD) :
    slot B t 0 c fullShare ⊢ iprop(slot B t 0 c (qs 0) ∗ slot B t 0 c (qs 4) ∗ slot B t 0 c fullShare.right) := by
  iintro H
  ihave H := (slot_half B t 0 c fullShare) $$ H
  icases H with ⟨H, Hr⟩
  ihave H := (slot_half B t 0 c fullShare.left) $$ H
  icases H with ⟨Ha, Hb⟩
  isplitl [Ha]; · iexact Ha
  isplitl [Hb]; · iexact Hb
  iexact Hr
theorem slot_third_back (t : Fin 2) (c : Dev nD) :
    iprop(slot B t 0 c (qs 0) ∗ slot B t 0 c (qs 4) ∗ slot B t 0 c fullShare.right) ⊢ slot B t 0 c fullShare := by
  iintro ⟨Ha, Hb, Hr⟩
  iapply (slot_whole B t 0 c fullShare)
  isplitl [Ha Hb]
  · iapply (slot_whole B t 0 c fullShare.left)
    isplitl [Ha]; · iexact Ha
    iexact Hb
  iexact Hr

/-! ## The rules of a hop, its slot and share named -/

section
variable (K : GSem nD τ sig → ℕ) (c : Dev nD) {α : Type}

theorem arriveAt (t : Fin 2) (s : Fin 7) (r : Fin 8) (l : List Hop) (hl : ∀ i ∈ l, hopNo s < hopNo i.2) (hr : dstS s = r)
    {sp sp' : Space} {s₁ s₂ : Shape} {e e' : EltTy} {src : Memref sig .tc sp s₁ e} {dst : Memref sig .tc sp' s₂ e'} {sR : DmaSem sig}
    {k : PUnit → Prog (TpuEff nD τ sig (Elt F) Λ₀ .tc) α} {Kt : α → sProp 𝕄}
    {h1 : src.view.WordExact} {h2 : dst.view.WordExact} (e1 : dst.view.dmaCredit = amt t) (e5 : sR = recvS (t, s)) :
    iprop(invs B K ∗ levAts L lv ∗ toRecv c (t, s) ∗ owing c l)
      ⊢ iprop(((slot B t r c fullShare ∗ semVal (recvCell c (t, s)) 0 ∗ owing c l) -∗ runs c (k ⟨⟩) Kt)
        -∗ runs c (.op (.waitDma2 sR src dst h1 h2) k) Kt) := by
  subst hr; exact arrive B K c (t, s) l hl e1 e5

theorem departAt (t : Fin 2) (s : Fin 7) (r : Fin 8) (hr : srcS s = r)
    {sp sp' : Space} {s₁ s₂ : Shape} {e e' : EltTy} {src : Memref sig .tc sp s₁ e} {dst : Memref sig .tc sp' s₂ e'} {sR : DmaSem sig}
    {k : PUnit → Prog (TpuEff nD τ sig (Elt F) Λ₀ .tc) α} {Kt : α → sProp 𝕄}
    {h1 : src.view.WordExact} {h2 : dst.view.WordExact} (e1 : dst.view.dmaCredit = amt t) (e5 : sR = sendS (t, s)) :
    iprop(invs B K ∗ sent c (t, s) ∗ owing c [])
      ⊢ iprop(((slot B t r c (qs s) ∗ semVal (sendCell c (t, s)) 0 ∗ owing c []) -∗ runs c (k ⟨⟩) Kt)
        -∗ runs c (.op (.waitDma2 sR src dst h1 h2) k) Kt) := by
  subst hr; exact depart B K c (t, s) e1 e5

theorem hopQAt (s : Fin 7) (r : Fin 8) (l : List Hop) (hr : srcS s = r)
    {src dst : Memref sig .tc .vmem S512x256 .bf16} {d : Dev nD} {sS sR : DmaSem sig}
    {k : PUnit → Prog (TpuEff nD τ sig (Elt F) Λ₀ .tc) α} {Kt : α → sProp 𝕄}
    {h1 : src.view.WordExact} {h2 : dst.view.WordExact} {h3 : dst.view.ref.isScScratch = false}
    {h4 : DmaTarget.Typed .vmem (.dma sR) (.remote (Dev.tc d) dst (.dma sS) h3)}
    (e1 : src = wqS (srcS s)) (e2 : dst = wqS (dstS s)) (e3 : d = dest s c) (e4 : sS = sendS (0, s)) (e5 : sR = recvS (0, s)) :
    iprop(invs B K ∗ opens c ∗ toSend c (0, s) ∗ landing (0, s) c ∗ slot B 0 r c (qs s) ∗ owing c ((0, s) :: l))
      ⊢ iprop(((sent c (0, s) ∗ owing c l) -∗ runs c (k ⟨⟩) Kt)
        -∗ runs c (.op (.enqueueDma src (.remote (Dev.tc d) dst (.dma sS) h3) (.dma sR) h1 h2 h4) k) Kt) := by
  subst hr; exact hopQ B K c s l e1 e2 e3 e4 e5

theorem hopOAt (s : Fin 7) (r : Fin 8) (l : List Hop) (hr : srcS s = r)
    {src dst : Memref sig .tc .vmem S256x512 .bf16} {d : Dev nD} {sS sR : DmaSem sig}
    {k : PUnit → Prog (TpuEff nD τ sig (Elt F) Λ₀ .tc) α} {Kt : α → sProp 𝕄}
    {h1 : src.view.WordExact} {h2 : dst.view.WordExact} {h3 : dst.view.ref.isScScratch = false}
    {h4 : DmaTarget.Typed .vmem (.dma sR) (.remote (Dev.tc d) dst (.dma sS) h3)}
    (e1 : src = woS (srcS s)) (e2 : dst = woS (dstS s)) (e3 : d = dest s c) (e4 : sS = sendS (1, s)) (e5 : sR = recvS (1, s)) :
    iprop(invs B K ∗ opens c ∗ toSend c (1, s) ∗ landing (1, s) c ∗ slot B 1 r c (qs s) ∗ owing c ((1, s) :: l))
      ⊢ iprop(((sent c (1, s) ∗ owing c l) -∗ runs c (k ⟨⟩) Kt)
        -∗ runs c (.op (.enqueueDma src (.remote (Dev.tc d) dst (.dma sS) h3) (.dma sR) h1 h2 h4) k) Kt) := by
  subst hr; exact hopO B K c s l e1 e2 e3 e4 e5

end

end Cert.KernelIdeal
end
-- ==== Proof.Sums.lean ====
/-
  What the kernel computes: one slot's contribution to a batch of the output, named once, and every stretch of the printed
  program that computes such a contribution equal to it.
-/
module

public import proofs.«01_k».proof.Proof.Steps

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## One contribution -/

/-- A device's four heads of queries: the batch times its block of the first weight, cut by head. -/
def qHeads (xb : FVec F S256x512 .bf16) (wq : Vec F S512x256 .bf16) : FVec F S4x256x64 .bf16 :=
  let q : FVec F S256x256 .bf16 := truncf .bf16
    (matmul dot_S256x512_S512x256_S256x256_1_0_0_1_n_n none xb wq (constant S256x256 .f32 0x00000000#32)) bitsLt_bf16_f32
  concatenate S4x256x64 0
    [⟨S1x256x64, shapeCast S1x256x64 (extractStridedSlice S256x64 ![0, 0] q slices_S256x256_o0_0_S256x64) shapeCasts_S256x64_S1x256x64⟩,
     ⟨S1x256x64, shapeCast S1x256x64 (extractStridedSlice S256x64 ![0, 64] q slices_S256x256_o0_64_S256x64) shapeCasts_S256x64_S1x256x64⟩,
     ⟨S1x256x64, shapeCast S1x256x64 (extractStridedSlice S256x64 ![0, 128] q slices_S256x256_o0_128_S256x64) shapeCasts_S256x64_S1x256x64⟩,
     ⟨S1x256x64, shapeCast S1x256x64 (extractStridedSlice S256x64 ![0, 192] q slices_S256x256_o0_192_S256x64) shapeCasts_S256x64_S1x256x64⟩]
    concatenates_S1x256x64_S1x256x64_S1x256x64_S1x256x64_S4x256x64_d0

/-- The exponentials of the scaled scores, zero where the mask is off. -/
def expScores (m : IVec S1x256x256 1) (q : FVec F S4x256x64 .bf16) (k : Vec F S1x4x256x64 .bf16) : FVec F S4x256x256 .f32 :=
  select (broadcastTo S4x256x256 (shapeCast S1x256x256 m shapeCasts_S1x256x256_S1x256x256) broadcasts_S1x256x256_S4x256x256)
    (exp (mulf (matmul dot_S4x256x64_S4x256x64_S4x256x256_2_2_1_1_0_0 none q
        (shapeCast S4x256x64 k shapeCasts_S1x4x256x64_S4x256x64) (constant S4x256x256 .f32 0x00000000#32))
      (broadcast S4x256x256 (Scalar.ofBits .f32 0x3E000000#32))))
    (broadcast S4x256x256 (Scalar.ofBits .f32 0x00000000#32))

/-- Each row times one over its sum. -/
def normRows (e : FVec F S4x256x256 .f32) : FVec F S4x256x256 .f32 :=
  mulf e (broadcastTo S4x256x256
    (divf (broadcast S4x256x1 (Scalar.ofBits .f32 0x3F800000#32))
      (shapeCast S4x256x1 (multiReduction .add [2] S4x256 e 0x00000000#32 reduces_S4x256x256_S4x256 (.inl rfl) rfl) shapeCasts_S4x256_S4x256x1))
    broadcasts_S4x256x1_S4x256x256)

/-- The weighted values, head by head. -/
def ctxHeads (w : FVec F S4x256x256 .f32) (v : Vec F S1x4x256x64 .bf16) : FVec F S4x256x64 .f32 :=
  matmul dot_S4x256x256_S4x256x64_S4x256x64_2_1_1_2_0_0 none (truncf .bf16 w bitsLt_bf16_f32)
    (shapeCast S4x256x64 v shapeCasts_S1x4x256x64_S4x256x64) (constant S4x256x64 .f32 0x00000000#32)

/-- The four heads side by side. -/
def joinHeads (x : FVec F S4x256x64 .f32) : FVec F S256x256 .f32 :=
  concatenate S256x256 1
    [⟨S256x64, shapeCast S256x64 (extractStridedSlice S1x256x64 ![0, 0, 0] x slices_S4x256x64_o0_0_0_S1x256x64) shapeCasts_S1x256x64_S256x64⟩,
     ⟨S256x64, shapeCast S256x64 (extractStridedSlice S1x256x64 ![1, 0, 0] x slices_S4x256x64_o1_0_0_S1x256x64) shapeCasts_S1x256x64_S256x64⟩,
     ⟨S256x64, shapeCast S256x64 (extractStridedSlice S1x256x64 ![2, 0, 0] x slices_S4x256x64_o2_0_0_S1x256x64) shapeCasts_S1x256x64_S256x64⟩,
     ⟨S256x64, shapeCast S256x64 (extractStridedSlice S1x256x64 ![3, 0, 0] x slices_S4x256x64_o3_0_0_S1x256x64) shapeCasts_S1x256x64_S256x64⟩]
    concatenates_S256x64_S256x64_S256x64_S256x64_S256x256_d1

/-- One device's contribution to a batch of the output. -/
def contrib (m : IVec S1x256x256 1) (xb : FVec F S256x512 .bf16) (wq : Vec F S512x256 .bf16) (k v : Vec F S1x4x256x64 .bf16)
    (wo : Vec F S256x512 .bf16) : FVec F S256x512 .f32 :=
  matmul dot_S256x256_S256x512_S256x512_1_0_0_1_n_n none
    (truncf .bf16 (joinHeads (ctxHeads (normRows (expScores m (qHeads xb wq) k)) v)) bitsLt_bf16_f32) wo (constant S256x512 .f32 0x00000000#32)

/-- The first contribution is stored, -/
def startPart (p : FVec F S256x512 .f32) : FVec F S1x256x512 .f32 := shapeCast S1x256x512 p shapeCasts_S256x512_S1x256x512
/-- and every further one added to what is there. -/
def addPart (a : Vec F S1x256x512 .f32) (p : FVec F S256x512 .f32) : FVec F S1x256x512 .f32 :=
  shapeCast S1x256x512 (addf (shapeCast S256x512 a shapeCasts_S1x256x512_S256x512) p) shapeCasts_S256x512_S1x256x512

/-! ## The stretches of the program -/

theorem chain_0_0 (m : IVec S1x256x256 1) (xb : FVec F S256x512 .bf16) (wq : Vec F S512x256 .bf16) (k v : Vec F S1x4x256x64 .bf16)
    (wo : Vec F S256x512 .bf16) :
    (k0_pay9 m (k0_pay8 xb wq k) ((Scalar.ofBits .f32 0x00000000#32)) v wo)
      = startPart (contrib m xb wq k v wo) := rfl
theorem chain_0_1 (m : IVec S1x256x256 1) (xb : FVec F S256x512 .bf16) (wq : Vec F S512x256 .bf16) (k v : Vec F S1x4x256x64 .bf16)
    (wo : Vec F S256x512 .bf16) :
    (k0_pay11 m ((k0_pay10 xb wq)) k v wo)
      = startPart (contrib m xb wq k v wo) := rfl
theorem chain_1_0 (m : IVec S1x256x256 1) (xb : FVec F S256x512 .bf16) (wq : Vec F S512x256 .bf16) (k v : Vec F S1x4x256x64 .bf16)
    (wo : Vec F S256x512 .bf16) (a : Vec F S1x256x512 .f32) :
    (k0_pay13 m (k0_pay12 xb wq k) ((Scalar.ofBits .f32 0x00000000#32)) v wo a)
      = addPart a (contrib m xb wq k v wo) := rfl
theorem chain_1_1 (m : IVec S1x256x256 1) (xb : FVec F S256x512 .bf16) (wq : Vec F S512x256 .bf16) (k v : Vec F S1x4x256x64 .bf16)
    (wo : Vec F S256x512 .bf16) (a : Vec F S1x256x512 .f32) :
    (k0_pay19 ((k0_pay18 m (k0_pay14 xb wq) (k0_pay15 xb wq) (k0_pay16 xb wq) (k0_pay17 xb wq) k v wo)) a)
      = addPart a (contrib m xb wq k v wo) := rfl
theorem chain_7_0 (m : IVec S1x256x256 1) (xb : FVec F S256x512 .bf16) (wq : Vec F S512x256 .bf16) (k v : Vec F S1x4x256x64 .bf16)
    (wo : Vec F S256x512 .bf16) (a : Vec F S1x256x512 .f32) :
    (k0_pay21 (k0_pay20 m xb wq k) v wo a)
      = addPart a (contrib m xb wq k v wo) := rfl
theorem chain_7_1 (m : IVec S1x256x256 1) (xb : FVec F S256x512 .bf16) (wq : Vec F S512x256 .bf16) (k v : Vec F S1x4x256x64 .bf16)
    (wo : Vec F S256x512 .bf16) (a : Vec F S1x256x512 .f32) :
    (k0_pay23 m ((k0_pay22 xb wq)) k v wo a)
      = addPart a (contrib m xb wq k v wo) := rfl
theorem chain_2_0 (m : IVec S1x256x256 1) (xb : FVec F S256x512 .bf16) (wq : Vec F S512x256 .bf16) (k v : Vec F S1x4x256x64 .bf16)
    (wo : Vec F S256x512 .bf16) (a : Vec F S1x256x512 .f32) :
    (k0_pay25 m (k0_pay24 xb wq k) ((Scalar.ofBits .f32 0x00000000#32)) v wo a)
      = addPart a (contrib m xb wq k v wo) := rfl
theorem chain_2_1 (m : IVec S1x256x256 1) (xb : FVec F S256x512 .bf16) (wq : Vec F S512x256 .bf16) (k v : Vec F S1x4x256x64 .bf16)
    (wo : Vec F S256x512 .bf16) (a : Vec F S1x256x512 .f32) :
    (k0_pay31 ((k0_pay30 m (k0_pay26 xb wq) (k0_pay27 xb wq) (k0_pay28 xb wq) (k0_pay29 xb wq) k v wo)) a)
      = addPart a (contrib m xb wq k v wo) := rfl
theorem chain_6_0 (m : IVec S1x256x256 1) (xb : FVec F S256x512 .bf16) (wq : Vec F S512x256 .bf16) (k v : Vec F S1x4x256x64 .bf16)
    (wo : Vec F S256x512 .bf16) (a : Vec F S1x256x512 .f32) :
    (k0_pay33 (k0_pay32 m xb wq k) v wo a)
      = addPart a (contrib m xb wq k v wo) := rfl
theorem chain_6_1 (m : IVec S1x256x256 1) (xb : FVec F S256x512 .bf16) (wq : Vec F S512x256 .bf16) (k v : Vec F S1x4x256x64 .bf16)
    (wo : Vec F S256x512 .bf16) (a : Vec F S1x256x512 .f32) :
    (k0_pay35 m ((k0_pay34 xb wq)) k v wo a)
      = addPart a (contrib m xb wq k v wo) := rfl
theorem chain_3_0 (m : IVec S1x256x256 1) (xb : FVec F S256x512 .bf16) (wq : Vec F S512x256 .bf16) (k v : Vec F S1x4x256x64 .bf16)
    (wo : Vec F S256x512 .bf16) (a : Vec F S1x256x512 .f32) :
    (k0_pay40 ((k0_pay39 m (k0_pay36 xb wq) (k0_pay37 xb wq) (k0_pay38 xb wq) k v wo)) a)
      = addPart a (contrib m xb wq k v wo) := rfl
theorem chain_3_1 (m : IVec S1x256x256 1) (xb : FVec F S256x512 .bf16) (wq : Vec F S512x256 .bf16) (k v : Vec F S1x4x256x64 .bf16)
    (wo : Vec F S256x512 .bf16) (a : Vec F S1x256x512 .f32) :
    (k0_pay42 ((k0_pay41 m xb wq k)) v wo a)
      = addPart a (contrib m xb wq k v wo) := rfl
theorem chain_5_0 (m : IVec S1x256x256 1) (xb : FVec F S256x512 .bf16) (wq : Vec F S512x256 .bf16) (k v : Vec F S1x4x256x64 .bf16)
    (wo : Vec F S256x512 .bf16) (a : Vec F S1x256x512 .f32) :
    ((k0_pay44 m (k0_pay43 xb wq) k v wo a))
      = addPart a (contrib m xb wq k v wo) := rfl
theorem chain_5_1 (m : IVec S1x256x256 1) (xb : FVec F S256x512 .bf16) (wq : Vec F S512x256 .bf16) (k v : Vec F S1x4x256x64 .bf16)
    (wo : Vec F S256x512 .bf16) (a : Vec F S1x256x512 .f32) :
    (k0_pay49 (k0_pay45 m xb wq k v) (k0_pay46 m xb wq k v) (k0_pay47 m xb wq k v) (k0_pay48 m xb wq k v) wo a)
      = addPart a (contrib m xb wq k v wo) := rfl
theorem chain_4_0 (m : IVec S1x256x256 1) (xb : FVec F S256x512 .bf16) (wq : Vec F S512x256 .bf16) (k v : Vec F S1x4x256x64 .bf16)
    (wo : Vec F S256x512 .bf16) (a : Vec F S1x256x512 .f32) :
    (k0_pay54 (k0_pay50 m xb wq k v) (k0_pay51 m xb wq k v) (k0_pay52 m xb wq k v) (k0_pay53 m xb wq k v) wo a)
      = addPart a (contrib m xb wq k v wo) := rfl
theorem chain_4_1 (m : IVec S1x256x256 1) (xb : FVec F S256x512 .bf16) (wq : Vec F S512x256 .bf16) (k v : Vec F S1x4x256x64 .bf16)
    (wo : Vec F S256x512 .bf16) (a : Vec F S1x256x512 .f32) :
    (k0_pay57 (k0_pay55 m xb wq k) (k0_pay56 m xb wq k) v wo a)
      = addPart a (contrib m xb wq k v wo) := rfl

/-! ## The whole sum -/

/-- The mask: rows of the sequence against columns, by blocks of 64. -/
def maskW : IVec S1x256x256 1 := k0_pay5 (iota .tc S256x256 32 [0] iota_S256x256_d0_w32) 64#32 k0_pay3 k0_pay4

/-- The input, as a matrix, of the first batch and of the second. -/
def xMat0 (X : Vec F S2x256x512 .bf16) : FVec F S256x512 .bf16 := k0_pay6 (xB 0 X)
def xMat1 (X : Vec F S2x256x512 .bf16) : FVec F S256x512 .bf16 := k0_pay7 (xB 1 X)

variable (B : Blocks F)

/-- The contribution of slot `r` on device `c`, to the first batch and to the second. -/
def contrib0 (c : Dev nD) (X : Vec F S2x256x512 .bf16) (Kc Vc : Vec F S2x32x256x64 .bf16) (r : Fin 8) : FVec F S256x512 .f32 :=
  contrib maskW (xMat0 X) (B.wq (back r c)) (heads0 c r Kc) (heads0 c r Vc) (B.wo (back r c))
def contrib1 (c : Dev nD) (X : Vec F S2x256x512 .bf16) (Kc Vc : Vec F S2x32x256x64 .bf16) (r : Fin 8) : FVec F S256x512 .f32 :=
  contrib maskW (xMat1 X) (B.wq (back r c)) (heads1 c r Kc) (heads1 c r Vc) (B.wo (back r c))

/-- Contributions added in the order the slots fill. -/
def sumParts (p : Fin 8 → FVec F S256x512 .f32) : FVec F S1x256x512 .f32 :=
  addPart (addPart (addPart (addPart (addPart (addPart (addPart (startPart (p 0)) (p 1)) (p 7)) (p 2)) (p 6)) (p 3)) (p 5)) (p 4)

/-- What device `c` leaves in its block of the output. -/
def outOf (c : Dev nD) (X : Vec F S2x256x512 .bf16) (Kc Vc : Vec F S2x32x256x64 .bf16) : Vec F S2x256x512 .f32 :=
  outB (sumParts (contrib0 B c X Kc Vc)) (sumParts (contrib1 B c X Kc Vc))

end Cert.KernelIdeal
end
-- ==== Proof.Contrib.lean ====
/-
  One contribution at an index, over the extended reals.
-/
module

public import proofs.«01_k».proof.Proof.Sums
public import Idealize.ShloMosaic.Lib.Pointwise

@[expose] public section

noncomputable section

namespace Cert.KernelIdeal

open Cert.KernelIdeal.Gen
open Idealize.ShloMosaic

theorem qHeads_apply (xb : FVec Ideal S256x512 .bf16) (wq : Vec Ideal S512x256 .bf16) (h : Fin 4) (i : Fin 256) (d : Fin 64) :
    qHeads (F := Ideal) xb wq (ix3 h i d)
      = ∑ k : Fin 512, xb (ix2 i k) * wq (ix2 k ⟨h.val * 64 + d.val, by have := h.isLt; have := d.isLt; omega⟩) := by
  have hd := d.isLt
  fin_cases h <;> pointwise [qHeads, dot_S256x512_S512x256_S256x256_1_0_0_1_n_n]

theorem expScores_apply (m : IVec S1x256x256 1) (q : FVec Ideal S4x256x64 .bf16) (k : Vec Ideal S1x4x256x64 .bf16)
    (h : Fin 4) (i j : Fin 256) :
    expScores (F := Ideal) m q k (ix3 h i j)
      = Scalar.select (m (ix3 0 i j)) (Ideal.exp ((∑ d : Fin 64, q (ix3 h i d) * k (ix4 0 h j d)) * Ideal.ofBits .f32 0x3E000000#32)) 0 := by
  pointwise [expScores, dot_S4x256x64_S4x256x64_S4x256x256_2_2_1_1_0_0]

theorem normRows_apply (e : FVec Ideal S4x256x256 .f32) (h : Fin 4) (i j : Fin 256) :
    normRows (F := Ideal) e (ix3 h i j) = e (ix3 h i j) * Ideal.div 1 (∑ j' : Fin 256, e (ix3 h i j')) := by
  pointwise [normRows]

theorem ctxHeads_apply (w : FVec Ideal S4x256x256 .f32) (v : Vec Ideal S1x4x256x64 .bf16) (h : Fin 4) (i : Fin 256) (d : Fin 64) :
    ctxHeads (F := Ideal) w v (ix3 h i d) = ∑ j : Fin 256, w (ix3 h i j) * v (ix4 0 h j d) := by
  pointwise [ctxHeads, dot_S4x256x256_S4x256x64_S4x256x64_2_1_1_2_0_0]

theorem joinHeads_apply (x : FVec Ideal S4x256x64 .f32) (i : Fin 256) (h : Fin 4) (d : Fin 64) :
    joinHeads (F := Ideal) x (ix2 i ⟨h.val * 64 + d.val, by have := h.isLt; have := d.isLt; omega⟩) = x (ix3 h i d) := by
  have hd := d.isLt
  fin_cases h <;> pointwise [joinHeads]
  · rw [dif_neg (by omega), dif_neg (by omega), dif_pos (by omega)]
    exact congrArg (fun t => x (ix3 2 i t)) (Fin.ext (by show 128 + d.val - 64 - 64 = d.val; omega))
  · rw [dif_neg (by omega), dif_neg (by omega), dif_neg (by omega)]
    exact congrArg (fun t => x (ix3 3 i t)) (Fin.ext (by show 192 + d.val - 64 - 64 - 64 = d.val; omega))

theorem contrib_join (m : IVec S1x256x256 1) (xb : FVec Ideal S256x512 .bf16) (wq : Vec Ideal S512x256 .bf16)
    (k v : Vec Ideal S1x4x256x64 .bf16) (wo : Vec Ideal S256x512 .bf16) (i : Fin 256) (n : Fin 512) :
    contrib (F := Ideal) m xb wq k v wo (ix2 i n)
      = ∑ e : Fin 256, joinHeads (ctxHeads (normRows (expScores m (qHeads xb wq) k)) v) (ix2 i e) * wo (ix2 e n) := by
  pointwise [contrib, dot_S256x256_S256x512_S256x512_1_0_0_1_n_n]

/-- The exponential of one scaled score, zero where the mask is off. -/
def expo (m : IVec S1x256x256 1) (xb : FVec Ideal S256x512 .bf16) (wq : Vec Ideal S512x256 .bf16) (k : Vec Ideal S1x4x256x64 .bf16)
    (h : Fin 4) (i j : Fin 256) : EReal :=
  Scalar.select (m (ix3 0 i j)) (Ideal.exp ((∑ d : Fin 64,
    (∑ l : Fin 512, xb (ix2 i l) * wq (ix2 l ⟨h.val * 64 + d.val, by have := h.isLt; have := d.isLt; omega⟩)) * k (ix4 0 h j d))
      * Ideal.ofBits .f32 0x3E000000#32)) 0

theorem contrib_apply (m : IVec S1x256x256 1) (xb : FVec Ideal S256x512 .bf16) (wq : Vec Ideal S512x256 .bf16)
    (k v : Vec Ideal S1x4x256x64 .bf16) (wo : Vec Ideal S256x512 .bf16) (i : Fin 256) (n : Fin 512) :
    contrib (F := Ideal) m xb wq k v wo (ix2 i n)
      = ∑ h : Fin 4, ∑ d : Fin 64, (∑ j : Fin 256, (expo m xb wq k h i j * Ideal.div 1 (∑ j' : Fin 256, expo m xb wq k h i j'))
          * v (ix4 0 h j d)) * wo (ix2 ⟨h.val * 64 + d.val, by have := h.isLt; have := d.isLt; omega⟩ n) := by
  rw [contrib_join, Fin.sum_univ_tiles 4 64 rfl]
  refine Finset.sum_congr rfl fun h _ => Finset.sum_congr rfl fun d _ => ?_
  rw [joinHeads_apply, ctxHeads_apply]
  simp only [normRows_apply, expScores_apply, qHeads_apply, expo]

end Cert.KernelIdeal
end
-- ==== Proof.Ref.lean ====
/-
  The reference's result, stage by stage, and each stage at an index over the extended reals.
-/
module

public import proofs.«01_k».proof.Proof.Gen.ReferenceIdeal.Run
public import Idealize.ShloMosaic.Lib.Pointwise

@[expose] public section

noncomputable section

namespace Cert.ReferenceIdeal

open Cert.ReferenceIdeal.Gen Cert.ReferenceIdeal.Value
open Idealize.ShloMosaic Idealize.ShloMosaic.TcCoe

/-! ## The stages -/

/-- The block of 64 a position of the sequence lies in. -/
def blockOf : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32))))
        (broadcastInDim S256 ![] bcast_S_S256 (constantI S_ 32 0#32))))
    (subi (Host.divsi (iotaInDim S256 32 0) (broadcastInDim S256 ![] bcast_S_S256 (id (constantI S_ 32 64#32))))
      (broadcastInDim S256 ![] bcast_S_S256 (constantI S_ 32 1#32)))
    (Host.divsi (iotaInDim S256 32 0) (broadcastInDim S256 ![] bcast_S_S256 (id (constantI S_ 32 64#32))))

/-- The mask: key blocks up to the query's. -/
def mask : IVec S256x256 1 :=
  cmpi .sle (broadcastInDim S256x256 ![0, 1] bcast_S1x256_S256x256_0_1 (broadcastInDim S1x256 ![1] bcast_S256_S1x256_1 blockOf))
    (broadcastInDim S256x256 ![0, 1] bcast_S256x1_S256x256_0_1 (broadcastInDim S256x1 ![0] bcast_S256_S256x1_0 blockOf))

/-- Whether a query has a key at all. -/
def anyKey (k : IVec S256x256 1) : IVec S256 1 := Host.reduce IntOp.ori k (constantI S_ 1 0#1) reducesTo_S256x256_S256_d1 h_S_

/-- The queries, head by head, -/
def queries (x : FVec Ideal S16x256x512 .bf16) (wq : FVec Ideal S512x2048 .bf16) : FVec Ideal S16x256x32x64 .bf16 :=
  shapeCast _ (truncf .bf16 (Host.dotGeneral dot_S16x256x512_S512x2048_S16x256x2048_2_0_01_1_n_n none x wq) bitsLt_bf16_f32)
    shapeCasts_S16x256x2048_S16x256x32x64

/-- their scaled scores, -/
def scaled (q k : FVec Ideal S16x256x32x64 .bf16) : FVec Ideal S16x32x256x256 .f32 :=
  mulf (extf .f32 (truncf .bf16 (Host.dotGeneral dot_S16x256x32x64_S16x256x32x64_S16x32x256x256_3_3_1_1_02_02 none q k) bitsLt_bf16_f32) bitsLt_bf16_f32)
    (broadcastInDim S16x32x256x256 ![] bcast_S_S16x32x256x256 (constant S_ .f32 0x3E000000#32))

/-- masked, -/
def masked (k : IVec S256x256 1) (s : FVec Ideal S16x32x256x256 .f32) : FVec Ideal S16x32x256x256 .f32 :=
  select (broadcastInDim S16x32x256x256 ![0, 1, 2, 3] bcast_S1x1x256x256_S16x32x256x256_0_1_2_3
      (broadcastInDim S1x1x256x256 ![2, 3] bcast_S256x256_S1x1x256x256_2_3 k))
    s (broadcastInDim S16x32x256x256 ![] bcast_S_S16x32x256x256 (id (constant S_ .f32 0xFF800000#32)))

/-- the row maxima, -/
def rowMax (s : FVec Ideal S16x32x256x256 .f32) : FVec Ideal S16x32x256 .f32 :=
  Host.reduce FloatOps.maximumf s (constant S_ .f32 0xFF800000#32) reducesTo_S16x32x256x256_S16x32x256_d3 h_S_

/-- the exponentials below the row's maximum, -/
def expos (s : FVec Ideal S16x32x256x256 .f32) : FVec Ideal S16x32x256x256 .f32 :=
  Host.exp (subf s (broadcastInDim S16x32x256x256 ![0, 1, 2, 3] bcast_S16x32x256x1_S16x32x256x256_0_1_2_3
    (broadcastInDim S16x32x256x1 ![0, 1, 2] bcast_S16x32x256_S16x32x256x1_0_1_2 (rowMax s))))

/-- the row sums, one where a query has no key, -/
def rowSum (y : IVec S256 1) (e : FVec Ideal S16x32x256x256 .f32) : FVec Ideal S16x32x256x1 .f32 :=
  select (broadcastInDim S16x32x256x1 ![0, 1, 2, 3] bcast_S1x1x256x1_S16x32x256x1_0_1_2_3
      (broadcastInDim S1x1x256x1 ![2] bcast_S256_S1x1x256x1_2 y))
    (broadcastInDim S16x32x256x1 ![0, 1, 2] bcast_S16x32x256_S16x32x256x1_0_1_2
      (Host.reduceAdd e (constant S_ .f32 0x00000000#32) reducesTo_S16x32x256x256_S16x32x256_d3 h_S_))
    (broadcastInDim S16x32x256x1 ![] bcast_S_S16x32x256x1 (id (constant S_ .f32 0x3F800000#32)))

/-- the weights, zero where a query has no key, -/
def weights (y : IVec S256 1) (e : FVec Ideal S16x32x256x256 .f32) : FVec Ideal S16x32x256x256 .f32 :=
  select (broadcastInDim S16x32x256x256 ![0, 1, 2, 3] bcast_S1x1x256x1_S16x32x256x256_0_1_2_3
      (broadcastInDim S1x1x256x1 ![2] bcast_S256_S1x1x256x1_2 y))
    (Host.divf e (broadcastInDim S16x32x256x256 ![0, 1, 2, 3] bcast_S16x32x256x1_S16x32x256x256_0_1_2_3 (rowSum y e)))
    (broadcastInDim S16x32x256x256 ![] bcast_S_S16x32x256x256 (id (constant S_ .f32 0x00000000#32)))

/-- the weighted values, with the heads side by side, -/
def context (v : FVec Ideal S16x256x32x64 .bf16) (w : FVec Ideal S16x32x256x256 .f32) : FVec Ideal S16x256x2048 .f32 :=
  shapeCast _ (transpose S16x256x32x64 [0, 3, 1, 2]
    (Host.dotGeneral dot_S16x256x32x64_S16x32x256x256_S16x32x64x256_1_3_3_2_02_01 none (extf .f32 v bitsLt_bf16_f32) w)
    transposes_S16x32x64x256_S16x256x32x64_0_3_1_2) shapeCasts_S16x256x32x64_S16x256x2048

/-- and the result. -/
def output (x : FVec Ideal S16x256x2048 .f32) (wo : FVec Ideal S2048x512 .bf16) : FVec Ideal S16x256x512 .f32 :=
  Host.dotGeneral dot_S16x256x2048_S2048x512_S16x256x512_2_0_01_1_n_n none x (extf .f32 wo bitsLt_bf16_f32)

set_option maxRecDepth 8192 in
set_option maxHeartbeats 4000000 in
theorem result_eq (m : (ℓ : Loc nD τ sig) → Buf (Elt Ideal) ℓ) (c : Dev nD) :
    res_main_v38 m c = output (context (m ((c.tc : Thread nD τ).loc main_arg3)) (weights (anyKey mask)
      (expos (masked mask (scaled (queries (m ((c.tc : Thread nD τ).loc main_arg0)) (m ((c.tc : Thread nD τ).loc main_arg1)))
        (m ((c.tc : Thread nD τ).loc main_arg2))))))) (m ((c.tc : Thread nD τ).loc main_arg4)) := rfl

/-! ## The stages at an index -/

theorem queries_apply (x : FVec Ideal S16x256x512 .bf16) (wq : FVec Ideal S512x2048 .bf16) (b : Fin 16) (i : Fin 256) (h : Fin 32) (d : Fin 64) :
    queries x wq (ix4 b i h d)
      = ∑ l : Fin 512, x (ix3 b i l) * wq (ix2 l ⟨h.val * 64 + d.val, by have := h.isLt; have := d.isLt; omega⟩) := by
  pointwise [queries, dot_S16x256x512_S512x2048_S16x256x2048_2_0_01_1_n_n]

theorem scaled_apply (q k : FVec Ideal S16x256x32x64 .bf16) (b : Fin 16) (h : Fin 32) (i j : Fin 256) :
    scaled q k (ix4 b h i j) = (∑ d : Fin 64, q (ix4 b i h d) * k (ix4 b j h d)) * Ideal.ofBits .f32 0x3E000000#32 := by
  pointwise [scaled, dot_S16x256x32x64_S16x256x32x64_S16x32x256x256_3_3_1_1_02_02]

theorem masked_apply (k : IVec S256x256 1) (s : FVec Ideal S16x32x256x256 .f32) (b : Fin 16) (h : Fin 32) (i j : Fin 256) :
    masked k s (ix4 b h i j) = Scalar.select (k (ix2 i j)) (s (ix4 b h i j)) (Ideal.ofBits .f32 0xFF800000#32) := by
  pointwise [masked, id_eq]

theorem rowMax_apply (s : FVec Ideal S16x32x256x256 .f32) (b : Fin 16) (h : Fin 32) (i : Fin 256) :
    rowMax s (ix3 b h i) = (Finset.univ : Finset (Fin 256)).fold max (Ideal.ofBits .f32 0xFF800000#32) (fun j => s (ix4 b h i j)) := by
  pointwise [rowMax]

theorem expos_apply (s : FVec Ideal S16x32x256x256 .f32) (b : Fin 16) (h : Fin 32) (i j : Fin 256) :
    expos s (ix4 b h i j) = Ideal.exp (s (ix4 b h i j) - rowMax s (ix3 b h i)) := by
  pointwise [expos]

theorem rowSum_apply (y : IVec S256 1) (e : FVec Ideal S16x32x256x256 .f32) (b : Fin 16) (h : Fin 32) (i : Fin 256) :
    rowSum y e (ix4 b h i 0) = Scalar.select (y (ix1 i)) (∑ j : Fin 256, e (ix4 b h i j)) 1 := by
  pointwise [rowSum, id_eq]

theorem weights_apply (y : IVec S256 1) (e : FVec Ideal S16x32x256x256 .f32) (b : Fin 16) (h : Fin 32) (i j : Fin 256) :
    weights y e (ix4 b h i j) = Scalar.select (y (ix1 i)) (Ideal.div (e (ix4 b h i j)) (rowSum y e (ix4 b h i 0))) 0 := by
  pointwise [weights, id_eq]

theorem context_apply (v : FVec Ideal S16x256x32x64 .bf16) (w : FVec Ideal S16x32x256x256 .f32) (b : Fin 16) (i : Fin 256) (h : Fin 32) (d : Fin 64) :
    context v w (ix3 b i ⟨h.val * 64 + d.val, by have := h.isLt; have := d.isLt; omega⟩)
      = ∑ j : Fin 256, v (ix4 b j h d) * w (ix4 b h i j) := by
  pointwise [context, dot_S16x256x32x64_S16x32x256x256_S16x32x64x256_1_3_3_2_02_01]

theorem output_apply (x : FVec Ideal S16x256x2048 .f32) (wo : FVec Ideal S2048x512 .bf16) (b : Fin 16) (i : Fin 256) (n : Fin 512) :
    output x wo (ix3 b i n) = ∑ e : Fin 2048, x (ix3 b i e) * wo (ix2 e n) := by
  pointwise [output, dot_S16x256x2048_S2048x512_S16x256x512_2_0_01_1_n_n]

end Cert.ReferenceIdeal
end
-- ==== Proof.Masks.lean ====
/-
  The two masks: a query sees the key blocks up to its own.
-/
module

public import proofs.«01_k».proof.Proof.Contrib
public import proofs.«01_k».proof.Proof.Ref
public import Idealize.ShloMosaic.Lib.WordCmp

@[expose] public section

noncomputable section

open Idealize.ShloMosaic

/-- Whether query `i` sees key `j`. -/
abbrev Cert.sees (i j : Fin 256) : Prop := j.val / 64 ≤ i.val / 64

theorem Cert.sle_blocks (i j : Fin 256) :
    IntOp.cmpi .sle (BitVec.ofNat 32 (j.val / 64)) (BitVec.ofNat 32 (i.val / 64)) = BitVec.ofBool (decide (Cert.sees i j)) := by
  have hi := i.isLt
  have hj := j.isLt
  exact WordCmp.cmpi_sle_ofNat (by show _ < 2147483648; omega) (by show _ < 2147483648; omega)

namespace Cert.ReferenceIdeal
open Cert.ReferenceIdeal.Gen

theorem blockOf_apply (i : Fin 256) : blockOf (ix1 i) = BitVec.ofNat 32 (i.val / 64) := by
  pointwise [blockOf, id_eq]
  revert i
  decide

theorem anyKey_apply (k : IVec S256x256 1) (i : Fin 256) (hk : k (ix2 i i) = 1#1) : anyKey k (ix1 i) = 1#1 := by
  pointwise [anyKey]
  rw [← Finset.insert_erase (Finset.mem_univ i), Finset.fold_insert (Finset.notMem_erase i _), hk]
  generalize Finset.fold IntOp.ori (0#1) (fun x => k (ix2 i x)) (Finset.univ.erase i) = w
  revert w
  decide

theorem mask_apply (i j : Fin 256) : mask (ix2 i j) = BitVec.ofBool (decide (Cert.sees i j)) := by
  pointwise [mask, blockOf_apply]
  exact Cert.sle_blocks i j

end Cert.ReferenceIdeal

namespace Cert.KernelIdeal
open Cert.KernelIdeal.Gen

theorem block_word : ∀ i : Fin 256, (Scalar.select
        (IntOp.andi
          (IntOp.cmpi CmpIPredicate.ne
            (IntOp.subi (BitVec.setWidth 32 (IntOp.cmpi CmpIPredicate.sgt (BitVec.ofNat 32 i.val) 0#32))
              (BitVec.setWidth 32 (IntOp.cmpi CmpIPredicate.slt (BitVec.ofNat 32 i.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 i.val) 64#32) 0#32))
        (IntOp.subi (IntOp.divsi ArithUnit.vector (BitVec.ofNat 32 i.val) 64#32) 1#32)
        (IntOp.divsi ArithUnit.vector (BitVec.ofNat 32 i.val) 64#32)) = BitVec.ofNat 32 (i.val / 64) := by
  decide

theorem maskW_apply (i j : Fin 256) : maskW (ix3 0 i j) = BitVec.ofBool (decide (Cert.sees i j)) := by
  pointwise [maskW, k0_pay5, k0_pay4, k0_pay3]
  rw [block_word, block_word]
  exact Cert.sle_blocks i j

end Cert.KernelIdeal
end
-- ==== Proof.Part1.lean ====
/-
  The kernel's first part: the device's own blocks stored in slot 0, the signals to its neighbours and the wait for theirs.
-/
module

public import proofs.«01_k».proof.Proof.Steps
public import Idealize.ShloMosaic.Lib.Pipeline.Value

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (B : Blocks F)

local notation "𝕄" => MT nD τ sig Unit (Elt F) ℕ UU ℕ

variable (K : GSem nD τ sig → ℕ) (c : Dev nD) {h0 : xM.IsWhole} {h1 : wqInM.IsWhole} {h2 : kM.IsWhole} {h3 : vM.IsWhole}
  {h4 : woInM.IsWhole} {h5 : outM.IsWhole} {h6 : wqM.IsWhole} {h7 : woM.IsWhole}

theorem same_q (w : Vec F S512x256 .bf16) : k0_pay1 w = w := by
  show shapeCast S512x256 (shapeCast S512x256 w _) _ = w
  rw [shapeCast_self, shapeCast_self]
theorem same_o (w : Vec F S256x512 .bf16) : k0_pay2 w = w := by
  show shapeCast S256x512 (shapeCast S256x512 w _) _ = w
  rw [shapeCast_self, shapeCast_self]

/-- The second part computes the mask. -/
theorem part2 (v23 : IVec S256x256 32) (b : BitVec 32) (v25 v28 : IVec S256x256 32) {Kt : IVec S1x256x256 1 → sProp 𝕄} :
    Kt (k0_pay5 v23 b v25 v28)
      ⊢ runs (F := F) c (k0_part2 xM h0 wqInM h1 kM h2 vM h3 woInM h4 outM h5 wqM h6 woM h7 cc0_scratch2 v23 b v25 v28) Kt := by
  rw [k0_part2_eq_skeleton]
  exact runs_ret c _ _

theorem part1 (W : Waits sig Unit) {Kt : ((Σ' (d0 : Dev nD) (v2 : BitVec 32) (v4 : BitVec 32) (v7 : BitVec 32) (v23 : IVec S256x256 32) (c64_i32 : BitVec 32) (v25 : IVec S256x256 32), IVec S256x256 32)) → sProp 𝕄} :
    iprop(invs B K ∗ opens c ∗ levAts L lv ∗ owes (c : Thread nD τ) (O₀ c) W
        ∗ dutyTok ER (barCell (lf c)) 0 true ∗ dutyTok ER (barCell (rt c)) 0 false
        ∗ cred (tallyAt (barCell c) () 2) ∗ atPos ER (barCell c) 0 ∅ 0
        ∗ ptWq c (B.wq c) ∗ ptWo c (B.wo c)
        ∗ slotAny 0 0 c ∗ slotAny 0 1 c ∗ slotAny 0 2 c ∗ slotAny 0 3 c ∗ slotAny 0 4 c ∗ slotAny 0 7 c ∗ slotAny 0 6 c ∗ slotAny 0 5 c ∗ slotAny 1 0 c ∗ slotAny 1 1 c ∗ slotAny 1 2 c ∗ slotAny 1 3 c ∗ slotAny 1 4 c ∗ slotAny 1 7 c ∗ slotAny 1 6 c ∗ slotAny 1 5 c)
      ⊢ iprop(((owing c order ∗ semVal (barCell c) 0 ∗ ptWq c (B.wq c) ∗ ptWo c (B.wo c) ∗ slot B 0 0 c fullShare ∗ slot B 1 0 c fullShare
          ∗ barPay c true ∗ barPay c false)
          -∗ ∀ v2 v4 v7, Kt ⟨c, v2, v4, v7, iota .tc S256x256 32 [0] iota_S256x256_d0_w32, 64#32, k0_pay3, k0_pay4⟩)
        -∗ runs c (k0_part1 xM h0 wqInM h1 kM h2 vM h3 woInM h4 outM h5 wqM h6 woM h7 cc0_scratch2) Kt) := by
  rw [k0_part1_eq_skeleton]
  simp only [k0_part1_skel, semSignalWord, semWaitWord, Prog.lift, Prog.bind_op, Prog.bind_ret, Prog.pure_eq_ret, wp_deviceId]
  iintro ⟨#HI, #HO, #HL, Hw, Htl, Htr, Hcr, Hat, Hq, Ho, Ha00, Ha01, Ha02, Ha03, Ha04, Ha07, Ha06, Ha05, Ha10, Ha11, Ha12, Ha13, Ha14, Ha17, Ha16, Ha15⟩ Hpost
  iapply (load_wqIn c (B.wq c)) $$ Hq; iintro Hq
  iapply (load_any_q c) $$ Ha00; iintro Ha00; iintro %_
  iapply (store_wq B c (k0_pay1 (B.wq c)) (same_q _)) $$ Ha00; iintro Hs00
  iapply (load_woIn c (B.wo c)) $$ Ho; iintro Ho
  iapply (load_any_o c) $$ Ha10; iintro Ha10; iintro %_
  iapply (store_wo B c (k0_pay2 (B.wo c)) (same_o _)) $$ Ha10; iintro Hs10
  iapply (signal_left B c K (d := ⟨k0_dev1 c, k0_dev1_lt c⟩) (by revert c; decide) W rfl) $$ [Hw Htl Ha01 Ha02 Ha03 Ha04 Ha11 Ha12 Ha13 Ha14]
  · isplitr; · iexact HI
    isplitr; · iexact HO
    isplitl [Hw]; · iexact Hw
    isplitl [Htl]; · iexact Htl
    isplitl [Ha01]; · iexact Ha01
    isplitl [Ha02]; · iexact Ha02
    isplitl [Ha03]; · iexact Ha03
    isplitl [Ha04]; · iexact Ha04
    isplitl [Ha11]; · iexact Ha11
    isplitl [Ha12]; · iexact Ha12
    isplitl [Ha13]; · iexact Ha13
    iexact Ha14
  iintro Hw
  iapply (signal_right B c K (d := ⟨k0_dev2 c, k0_dev2_lt c⟩) (by revert c; decide) W rfl) $$ [Hw Htr Ha07 Ha06 Ha05 Ha17 Ha16 Ha15]
  · isplitr; · iexact HI
    isplitr; · iexact HO
    isplitl [Hw]; · iexact Hw
    isplitl [Htr]; · iexact Htr
    isplitl [Ha07]; · iexact Ha07
    isplitl [Ha06]; · iexact Ha06
    isplitl [Ha05]; · iexact Ha05
    isplitl [Ha17]; · iexact Ha17
    isplitl [Ha16]; · iexact Ha16
    iexact Ha15
  iintro Hw
  iapply (wait_bar B c K W rfl) $$ [Hw Hcr Hat]
  · isplitr; · iexact HI
    isplitr; · iexact HL
    isplitl [Hw]; · iexact Hw
    isplitl [Hcr]; · iexact Hcr
    iexact Hat
  iintro ⟨Hp1, Hp2, Hb, Hw⟩
  iapply (runs_ret c)
  ihave Hpost := Hpost $$ [Hw Hb Hq Ho Hs00 Hs10 Hp1 Hp2]
  · isplitl [Hw]; · iexact Hw
    isplitl [Hb]; · iexact Hb
    isplitl [Hq]; · iexact Hq
    isplitl [Ho]; · iexact Ho
    isplitl [Hs00]; · iexact Hs00
    isplitl [Hs10]; · iexact Hs10
    isplitl [Hp1]; · iexact Hp1
    iexact Hp2
  iapply Hpost

end Cert.KernelIdeal
end
-- ==== Proof.PartsA.lean ====
/-
  The kernel from the first hops to the second slot: each printed part runs from what it needs to what it leaves.
-/
module

public import proofs.«01_k».proof.Proof.Steps

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (B : Blocks F)

local notation "𝕄" => MT nD τ sig Unit (Elt F) ℕ UU ℕ

variable (K : GSem nD τ sig → ℕ) (c : Dev nD) {h0 : xM.IsWhole} {h1 : wqInM.IsWhole} {h2 : kM.IsWhole} {h3 : vM.IsWhole}
  {h4 : woInM.IsWhole} {h5 : outM.IsWhole} {h6 : wqM.IsWhole} {h7 : woM.IsWhole}

theorem part3 (v4 : BitVec 32) (v7 : BitVec 32) (X : Vec F S2x256x512 .bf16) {Kt : (Σ' (v76 : FVec F S256x512 .bf16), FVec F S256x512 .bf16) → sProp 𝕄} :
    iprop(invs B K
        ∗ opens c
        ∗ levAts L lv
        ∗ owing c [(0, 0), (0, 4), (1, 0), (1, 4), (0, 1), (1, 1), (0, 5), (1, 5), (0, 2), (1, 2), (0, 6), (1, 6), (0, 3), (1, 3)]
        ∗ ptX c X
        ∗ slot B 0 0 c fullShare
        ∗ toSend c (0, 0)
        ∗ landing (0, 0) c
        ∗ toSend c (0, 4)
        ∗ landing (0, 4) c)
      ⊢ iprop(((owing c [(1, 0), (1, 4), (0, 1), (1, 1), (0, 5), (1, 5), (0, 2), (1, 2), (0, 6), (1, 6), (0, 3), (1, 3)]
          ∗ ptX c X
          ∗ slot B 0 0 c fullShare.right
          ∗ sent c (0, 0)
          ∗ sent c (0, 4))
          -∗ Kt ⟨k0_pay6 (xB 0 X), k0_pay7 (xB 1 X)⟩)
        -∗ runs c (k0_part3 xM h0 wqInM h1 kM h2 vM h3 woInM h4 outM h5 wqM h6 woM h7 cc0_scratch2 c v4 v7) Kt) := by
  rw [k0_part3_eq_skeleton]
  simp only [k0_part3_skel, Prog.lift, Prog.bind_op, Prog.bind_ret, Prog.pure_eq_ret]
  iintro ⟨#HI, #HO, #HL, Hw, Hx, Hs00f, HS00, HD00, HS04, HD04⟩ Hpost
  iapply (load_x c 0 X rfl) $$ Hx; iintro Hx
  iapply (load_x c 1 X rfl) $$ Hx; iintro Hx
  ihave Hs00f := (slot_third B 0 c) $$ Hs00f; icases Hs00f with ⟨Hq00, Hq04, Hs00r⟩
  iapply (hopQAt B K c 0 0 [(0, 4), (1, 0), (1, 4), (0, 1), (1, 1), (0, 5), (1, 5), (0, 2), (1, 2), (0, 6), (1, 6), (0, 3), (1, 3)] (src := wqS 0) (dst := wqS 1) (d := ⟨k0_dev3 c, k0_dev3_lt c⟩) (sS := sendS (0, 0)) (sR := recvS (0, 0)) rfl rfl rfl (by revert c; decide) rfl rfl)
    $$ [Hw HS00 HD00 Hq00]
  · isplitr; · iexact HI
    isplitr; · iexact HO
    isplitl [HS00]; · iexact HS00
    isplitl [HD00]; · iexact HD00
    isplitl [Hq00]; · iexact Hq00
    iexact Hw
  iintro ⟨HT00, Hw⟩
  iapply (hopQAt B K c 4 0 [(1, 0), (1, 4), (0, 1), (1, 1), (0, 5), (1, 5), (0, 2), (1, 2), (0, 6), (1, 6), (0, 3), (1, 3)] (src := wqS 0) (dst := wqS 7) (d := ⟨k0_dev4 c, k0_dev4_lt c⟩) (sS := sendS (0, 4)) (sR := recvS (0, 4)) rfl rfl rfl (by revert c; decide) rfl rfl)
    $$ [Hw HS04 HD04 Hq04]
  · isplitr; · iexact HI
    isplitr; · iexact HO
    isplitl [HS04]; · iexact HS04
    isplitl [HD04]; · iexact HD04
    isplitl [Hq04]; · iexact Hq04
    iexact Hw
  iintro ⟨HT04, Hw⟩
  iapply (runs_ret c)
  iapply Hpost
  isplitl [Hw]; · iexact Hw
  isplitl [Hx]; · iexact Hx
  isplitl [Hs00r]; · iexact Hs00r
  isplitl [HT00]; · iexact HT00
  iexact HT04

theorem part4 (v2 : BitVec 32) (v7 : BitVec 32) (v76 : FVec F S256x512 .bf16) (Kc : Vec F S2x32x256x64 .bf16) {Kt : (Σ' (v113 : BitVec 32) (v133 : FVec F S4x256x256 .f32), F .f32) → sProp 𝕄} :
    iprop(invs B K
        ∗ opens c
        ∗ levAts L lv
        ∗ owing c [(1, 0), (1, 4), (0, 1), (1, 1), (0, 5), (1, 5), (0, 2), (1, 2), (0, 6), (1, 6), (0, 3), (1, 3)]
        ∗ slot B 1 0 c fullShare
        ∗ toSend c (1, 0)
        ∗ landing (1, 0) c
        ∗ toSend c (1, 4)
        ∗ landing (1, 4) c
        ∗ slot B 0 0 c fullShare.right
        ∗ ptK c Kc)
      ⊢ iprop(((owing c [(0, 1), (1, 1), (0, 5), (1, 5), (0, 2), (1, 2), (0, 6), (1, 6), (0, 3), (1, 3)]
          ∗ slot B 1 0 c fullShare.right
          ∗ sent c (1, 0)
          ∗ sent c (1, 4)
          ∗ slot B 0 0 c fullShare.right
          ∗ ptK c Kc)
          -∗ Kt ⟨(Scalar.remsi (Scalar.subi (Scalar.addi v2 8#32) 0#32) 8#32), k0_pay8 v76 (B.wq (back 0 c)) (headsAt (k0_off1 c 0#32) (k0_off1_inb c 0) Kc), (Scalar.ofBits .f32 0x00000000#32)⟩)
        -∗ runs c (k0_part4 xM h0 wqInM h1 kM h2 vM h3 woInM h4 outM h5 wqM h6 woM h7 cc0_scratch2 c v2 v7 v76) Kt) := by
  rw [k0_part4_eq_skeleton]
  simp only [k0_part4_skel, Prog.lift, Prog.bind_op, Prog.bind_ret, Prog.pure_eq_ret]
  iintro ⟨#HI, #HO, #HL, Hw, Hs10f, HS10, HD10, HS14, HD14, Hs00r, Hk⟩ Hpost
  ihave Hs10f := (slot_third B 1 c) $$ Hs10f; icases Hs10f with ⟨Hq10, Hq14, Hs10r⟩
  iapply (hopOAt B K c 0 0 [(1, 4), (0, 1), (1, 1), (0, 5), (1, 5), (0, 2), (1, 2), (0, 6), (1, 6), (0, 3), (1, 3)] (src := woS 0) (dst := woS 1) (d := ⟨k0_dev5 c, k0_dev5_lt c⟩) (sS := sendS (1, 0)) (sR := recvS (1, 0)) rfl rfl rfl (by revert c; decide) rfl rfl)
    $$ [Hw HS10 HD10 Hq10]
  · isplitr; · iexact HI
    isplitr; · iexact HO
    isplitl [HS10]; · iexact HS10
    isplitl [HD10]; · iexact HD10
    isplitl [Hq10]; · iexact Hq10
    iexact Hw
  iintro ⟨HT10, Hw⟩
  iapply (hopOAt B K c 4 0 [(0, 1), (1, 1), (0, 5), (1, 5), (0, 2), (1, 2), (0, 6), (1, 6), (0, 3), (1, 3)] (src := woS 0) (dst := woS 7) (d := ⟨k0_dev6 c, k0_dev6_lt c⟩) (sS := sendS (1, 4)) (sR := recvS (1, 4)) rfl rfl rfl (by revert c; decide) rfl rfl)
    $$ [Hw HS14 HD14 Hq14]
  · isplitr; · iexact HI
    isplitr; · iexact HO
    isplitl [HS14]; · iexact HS14
    isplitl [HD14]; · iexact HD14
    isplitl [Hq14]; · iexact Hq14
    iexact Hw
  iintro ⟨HT14, Hw⟩
  iapply (load_wq B c 0 fullShare.right rfl) $$ Hs00r; iintro Hs00r
  iapply (load_k c (k0_off1 c 0#32) (k0_off1_inb c 0) Kc) $$ Hk; iintro Hk
  iapply (runs_ret c)
  iapply Hpost
  isplitl [Hw]; · iexact Hw
  isplitl [Hs10r]; · iexact Hs10r
  isplitl [HT10]; · iexact HT10
  isplitl [HT14]; · iexact HT14
  isplitl [Hs00r]; · iexact Hs00r
  iexact Hk

theorem part5 (v74 : IVec S1x256x256 1) (v78 : FVec F S256x512 .bf16) (v113 : BitVec 32) (v133 : FVec F S4x256x256 .f32) (cst_82 : F .f32) (Vc : Vec F S2x32x256x64 .bf16) (a0 a1 : Vec F S1x256x512 .f32) {Kt : (FVec F S4x256x64 .bf16) → sProp 𝕄} :
    iprop(ptOut c (outB a0 a1)
        ∗ ptV c Vc
        ∗ slot B 1 0 c fullShare.right
        ∗ slot B 0 0 c fullShare.right)
      ⊢ iprop(((ptOut c (outB (k0_pay9 v74 v133 cst_82 (headsAt (k0_off1 c 0#32) (k0_off1_inb c 0) Vc) (B.wo (back 0 c))) a1)
          ∗ ptV c Vc
          ∗ slot B 1 0 c fullShare.right
          ∗ slot B 0 0 c fullShare.right)
          -∗ Kt (k0_pay10 v78 (B.wq (back 0 c))))
        -∗ runs c (k0_part5 xM h0 wqInM h1 kM h2 vM h3 woInM h4 outM h5 wqM h6 woM h7 cc0_scratch2 c v74 v78 v113 v133 cst_82) Kt) := by
  rw [k0_part5_eq_skeleton]
  simp only [k0_part5_skel, Prog.lift, Prog.bind_op, Prog.bind_ret, Prog.pure_eq_ret]
  iintro ⟨Ho, Hv, Hs10r, Hs00r⟩ Hpost
  iapply (load_v c (k0_off1 c 0#32) (k0_off1_inb c 0) Vc) $$ Hv; iintro Hv
  iapply (load_wo B c 0 fullShare.right rfl) $$ Hs10r; iintro Hs10r
  iapply (load_out0 c a0 a1) $$ Ho; iintro Ho
  iapply (store_out0 c a0 a1 (k0_pay9 v74 v133 cst_82 (headsAt (k0_off1 c 0#32) (k0_off1_inb c 0) Vc) (B.wo (back 0 c)))) $$ Ho; iintro Ho
  iapply (load_wq B c 0 fullShare.right rfl) $$ Hs00r; iintro Hs00r
  iapply (runs_ret c)
  iapply Hpost
  isplitl [Ho]; · iexact Ho
  isplitl [Hv]; · iexact Hv
  isplitl [Hs10r]; · iexact Hs10r
  iexact Hs00r

theorem part6 (v74 : IVec S1x256x256 1) (v113 : BitVec 32) (v176 : FVec F S4x256x64 .bf16) (Kc : Vec F S2x32x256x64 .bf16) (Vc : Vec F S2x32x256x64 .bf16) (a0 a1 : Vec F S1x256x512 .f32) {Kt : (PUnit) → sProp 𝕄} :
    iprop(ptOut c (outB a0 a1)
        ∗ ptK c Kc
        ∗ ptV c Vc
        ∗ slot B 1 0 c fullShare.right)
      ⊢ iprop(((ptOut c (outB a0 (k0_pay11 v74 v176 (headsAt (k0_off2 c 0#32) (k0_off2_inb c 0) Kc) (headsAt (k0_off2 c 0#32) (k0_off2_inb c 0) Vc) (B.wo (back 0 c))))
          ∗ ptK c Kc
          ∗ ptV c Vc
          ∗ slot B 1 0 c fullShare.right)
          -∗ Kt ⟨⟩)
        -∗ runs c (k0_part6 xM h0 wqInM h1 kM h2 vM h3 woInM h4 outM h5 wqM h6 woM h7 cc0_scratch2 c v74 v113 v176) Kt) := by
  rw [k0_part6_eq_skeleton]
  simp only [k0_part6_skel, Prog.lift, Prog.bind_op, Prog.bind_ret, Prog.pure_eq_ret]
  iintro ⟨Ho, Hk, Hv, Hs10r⟩ Hpost
  iapply (load_k c (k0_off2 c 0#32) (k0_off2_inb c 0) Kc) $$ Hk; iintro Hk
  iapply (load_v c (k0_off2 c 0#32) (k0_off2_inb c 0) Vc) $$ Hv; iintro Hv
  iapply (load_wo B c 0 fullShare.right rfl) $$ Hs10r; iintro Hs10r
  iapply (load_out1 c a0 a1) $$ Ho; iintro Ho
  iapply (store_out1 c a0 a1 (k0_pay11 v74 v176 (headsAt (k0_off2 c 0#32) (k0_off2_inb c 0) Kc) (headsAt (k0_off2 c 0#32) (k0_off2_inb c 0) Vc) (B.wo (back 0 c)))) $$ Ho; iintro Ho
  iapply (runs_ret c)
  iapply Hpost
  isplitl [Ho]; · iexact Ho
  isplitl [Hk]; · iexact Hk
  isplitl [Hv]; · iexact Hv
  iexact Hs10r

theorem part7 (v4 : BitVec 32) {Kt : (Σ' (v236 : BitVec 32), BitVec 32) → sProp 𝕄} :
    iprop(invs B K
        ∗ opens c
        ∗ levAts L lv
        ∗ owing c [(0, 1), (1, 1), (0, 5), (1, 5), (0, 2), (1, 2), (0, 6), (1, 6), (0, 3), (1, 3)]
        ∗ toRecv c (0, 0)
        ∗ toSend c (0, 1)
        ∗ landing (0, 1) c
        ∗ toRecv c (1, 0))
      ⊢ iprop(((owing c [(1, 1), (0, 5), (1, 5), (0, 2), (1, 2), (0, 6), (1, 6), (0, 3), (1, 3)]
          ∗ semVal (recvCell c (0, 0)) 0
          ∗ slot B 0 1 c fullShare.right
          ∗ sent c (0, 1)
          ∗ slot B 1 1 c fullShare
          ∗ semVal (recvCell c (1, 0)) 0)
          -∗ Kt ⟨(Scalar.muli v4 1#32), 0#32⟩)
        -∗ runs c (k0_part7 xM h0 wqInM h1 kM h2 vM h3 woInM h4 outM h5 wqM h6 woM h7 cc0_scratch2 c v4) Kt) := by
  rw [k0_part7_eq_skeleton]
  simp only [k0_part7_skel, Prog.lift, Prog.bind_op, Prog.bind_ret, Prog.pure_eq_ret]
  iintro ⟨#HI, #HO, #HL, Hw, HR00, HS01, HD01, HR10⟩ Hpost
  iapply (arriveAt B K c 0 0 1 [(0, 1), (1, 1), (0, 5), (1, 5), (0, 2), (1, 2), (0, 6), (1, 6), (0, 3), (1, 3)] (src := wqS 0) (dst := wqS 1) (sR := recvS (0, 0)) (by decide) rfl rfl rfl) $$ [Hw HR00]
  · isplitr; · iexact HI
    isplitr; · iexact HL
    isplitl [HR00]; · iexact HR00
    iexact Hw
  iintro ⟨Hs01f, Hc00, Hw⟩
  ihave Hs01f := (slot_two B 0 1 c 1 (by decide)) $$ Hs01f; icases Hs01f with ⟨Hq01, Hs01r⟩
  iapply (hopQAt B K c 1 1 [(1, 1), (0, 5), (1, 5), (0, 2), (1, 2), (0, 6), (1, 6), (0, 3), (1, 3)] (src := wqS 1) (dst := wqS 2) (d := ⟨k0_dev7 c, k0_dev7_lt c⟩) (sS := sendS (0, 1)) (sR := recvS (0, 1)) rfl rfl rfl (by revert c; decide) rfl rfl)
    $$ [Hw HS01 HD01 Hq01]
  · isplitr; · iexact HI
    isplitr; · iexact HO
    isplitl [HS01]; · iexact HS01
    isplitl [HD01]; · iexact HD01
    isplitl [Hq01]; · iexact Hq01
    iexact Hw
  iintro ⟨HT01, Hw⟩
  iapply (arriveAt B K c 1 0 1 [(1, 1), (0, 5), (1, 5), (0, 2), (1, 2), (0, 6), (1, 6), (0, 3), (1, 3)] (src := woS 0) (dst := woS 1) (sR := recvS (1, 0)) (by decide) rfl rfl rfl) $$ [Hw HR10]
  · isplitr; · iexact HI
    isplitr; · iexact HL
    isplitl [HR10]; · iexact HR10
    iexact Hw
  iintro ⟨Hs11f, Hc10, Hw⟩
  iapply (runs_ret c)
  iapply Hpost
  isplitl [Hw]; · iexact Hw
  isplitl [Hc00]; · iexact Hc00
  isplitl [Hs01r]; · iexact Hs01r
  isplitl [HT01]; · iexact HT01
  isplitl [Hs11f]; · iexact Hs11f
  iexact Hc10

theorem part8 (v7 : BitVec 32) (v236 : BitVec 32) (c0_i32_153 : BitVec 32) {Kt : (PUnit) → sProp 𝕄} :
    iprop(invs B K
        ∗ opens c
        ∗ levAts L lv
        ∗ owing c [(1, 1), (0, 5), (1, 5), (0, 2), (1, 2), (0, 6), (1, 6), (0, 3), (1, 3)]
        ∗ slot B 1 1 c fullShare
        ∗ toSend c (1, 1)
        ∗ landing (1, 1) c
        ∗ toRecv c (0, 4)
        ∗ toSend c (0, 5)
        ∗ landing (0, 5) c)
      ⊢ iprop(((owing c [(1, 5), (0, 2), (1, 2), (0, 6), (1, 6), (0, 3), (1, 3)]
          ∗ slot B 1 1 c fullShare.right
          ∗ sent c (1, 1)
          ∗ semVal (recvCell c (0, 4)) 0
          ∗ slot B 0 7 c fullShare.right
          ∗ sent c (0, 5))
          -∗ Kt ⟨⟩)
        -∗ runs c (k0_part8 xM h0 wqInM h1 kM h2 vM h3 woInM h4 outM h5 wqM h6 woM h7 cc0_scratch2 c v7 v236 c0_i32_153) Kt) := by
  rw [k0_part8_eq_skeleton]
  simp only [k0_part8_skel, Prog.lift, Prog.bind_op, Prog.bind_ret, Prog.pure_eq_ret]
  iintro ⟨#HI, #HO, #HL, Hw, Hs11f, HS11, HD11, HR04, HS05, HD05⟩ Hpost
  ihave Hs11f := (slot_two B 1 1 c 1 (by decide)) $$ Hs11f; icases Hs11f with ⟨Hq11, Hs11r⟩
  iapply (hopOAt B K c 1 1 [(0, 5), (1, 5), (0, 2), (1, 2), (0, 6), (1, 6), (0, 3), (1, 3)] (src := woS 1) (dst := woS 2) (d := ⟨k0_dev8 c, k0_dev8_lt c⟩) (sS := sendS (1, 1)) (sR := recvS (1, 1)) rfl rfl rfl (by revert c; decide) rfl rfl)
    $$ [Hw HS11 HD11 Hq11]
  · isplitr; · iexact HI
    isplitr; · iexact HO
    isplitl [HS11]; · iexact HS11
    isplitl [HD11]; · iexact HD11
    isplitl [Hq11]; · iexact Hq11
    iexact Hw
  iintro ⟨HT11, Hw⟩
  iapply (arriveAt B K c 0 4 7 [(0, 5), (1, 5), (0, 2), (1, 2), (0, 6), (1, 6), (0, 3), (1, 3)] (src := wqS 0) (dst := wqS 7) (sR := recvS (0, 4)) (by decide) rfl rfl rfl) $$ [Hw HR04]
  · isplitr; · iexact HI
    isplitr; · iexact HL
    isplitl [HR04]; · iexact HR04
    iexact Hw
  iintro ⟨Hs07f, Hc04, Hw⟩
  ihave Hs07f := (slot_two B 0 7 c 5 (by decide)) $$ Hs07f; icases Hs07f with ⟨Hq05, Hs07r⟩
  iapply (hopQAt B K c 5 7 [(1, 5), (0, 2), (1, 2), (0, 6), (1, 6), (0, 3), (1, 3)] (src := wqS 7) (dst := wqS 6) (d := ⟨k0_dev9 c, k0_dev9_lt c⟩) (sS := sendS (0, 5)) (sR := recvS (0, 5)) rfl rfl rfl (by revert c; decide) rfl rfl)
    $$ [Hw HS05 HD05 Hq05]
  · isplitr; · iexact HI
    isplitr; · iexact HO
    isplitl [HS05]; · iexact HS05
    isplitl [HD05]; · iexact HD05
    isplitl [Hq05]; · iexact Hq05
    iexact Hw
  iintro ⟨HT05, Hw⟩
  iapply (runs_ret c)
  iapply Hpost
  isplitl [Hw]; · iexact Hw
  isplitl [Hs11r]; · iexact Hs11r
  isplitl [HT11]; · iexact HT11
  isplitl [Hc04]; · iexact Hc04
  isplitl [Hs07r]; · iexact Hs07r
  iexact HT05

theorem part9 (v2 : BitVec 32) (v7 : BitVec 32) (v76 : FVec F S256x512 .bf16) (Kc : Vec F S2x32x256x64 .bf16) {Kt : (Σ' (v274 : BitVec 32) (v294 : FVec F S4x256x256 .f32), F .f32) → sProp 𝕄} :
    iprop(invs B K
        ∗ opens c
        ∗ levAts L lv
        ∗ owing c [(1, 5), (0, 2), (1, 2), (0, 6), (1, 6), (0, 3), (1, 3)]
        ∗ toRecv c (1, 4)
        ∗ toSend c (1, 5)
        ∗ landing (1, 5) c
        ∗ slot B 0 1 c fullShare.right
        ∗ ptK c Kc)
      ⊢ iprop(((owing c [(0, 2), (1, 2), (0, 6), (1, 6), (0, 3), (1, 3)]
          ∗ semVal (recvCell c (1, 4)) 0
          ∗ slot B 1 7 c fullShare.right
          ∗ sent c (1, 5)
          ∗ slot B 0 1 c fullShare.right
          ∗ ptK c Kc)
          -∗ Kt ⟨(Scalar.remsi (Scalar.subi (Scalar.addi v2 8#32) 1#32) 8#32), k0_pay12 v76 (B.wq (back 1 c)) (headsAt (k0_off1 c 1#32) (k0_off1_inb c 1) Kc), (Scalar.ofBits .f32 0x00000000#32)⟩)
        -∗ runs c (k0_part9 xM h0 wqInM h1 kM h2 vM h3 woInM h4 outM h5 wqM h6 woM h7 cc0_scratch2 c v2 v7 v76) Kt) := by
  rw [k0_part9_eq_skeleton]
  simp only [k0_part9_skel, Prog.lift, Prog.bind_op, Prog.bind_ret, Prog.pure_eq_ret]
  iintro ⟨#HI, #HO, #HL, Hw, HR14, HS15, HD15, Hs01r, Hk⟩ Hpost
  iapply (arriveAt B K c 1 4 7 [(1, 5), (0, 2), (1, 2), (0, 6), (1, 6), (0, 3), (1, 3)] (src := woS 0) (dst := woS 7) (sR := recvS (1, 4)) (by decide) rfl rfl rfl) $$ [Hw HR14]
  · isplitr; · iexact HI
    isplitr; · iexact HL
    isplitl [HR14]; · iexact HR14
    iexact Hw
  iintro ⟨Hs17f, Hc14, Hw⟩
  ihave Hs17f := (slot_two B 1 7 c 5 (by decide)) $$ Hs17f; icases Hs17f with ⟨Hq15, Hs17r⟩
  iapply (hopOAt B K c 5 7 [(0, 2), (1, 2), (0, 6), (1, 6), (0, 3), (1, 3)] (src := woS 7) (dst := woS 6) (d := ⟨k0_dev10 c, k0_dev10_lt c⟩) (sS := sendS (1, 5)) (sR := recvS (1, 5)) rfl rfl rfl (by revert c; decide) rfl rfl)
    $$ [Hw HS15 HD15 Hq15]
  · isplitr; · iexact HI
    isplitr; · iexact HO
    isplitl [HS15]; · iexact HS15
    isplitl [HD15]; · iexact HD15
    isplitl [Hq15]; · iexact Hq15
    iexact Hw
  iintro ⟨HT15, Hw⟩
  iapply (load_wq B c 1 fullShare.right rfl) $$ Hs01r; iintro Hs01r
  iapply (load_k c (k0_off1 c 1#32) (k0_off1_inb c 1) Kc) $$ Hk; iintro Hk
  iapply (runs_ret c)
  iapply Hpost
  isplitl [Hw]; · iexact Hw
  isplitl [Hc14]; · iexact Hc14
  isplitl [Hs17r]; · iexact Hs17r
  isplitl [HT15]; · iexact HT15
  isplitl [Hs01r]; · iexact Hs01r
  iexact Hk

theorem part10 (v74 : IVec S1x256x256 1) (v78 : FVec F S256x512 .bf16) (v274 : BitVec 32) (v294 : FVec F S4x256x256 .f32) (cst_207 : F .f32) (Vc : Vec F S2x32x256x64 .bf16) (a0 a1 : Vec F S1x256x512 .f32) {Kt : (Σ' (v331 : FVec F S256x256 .bf16) (v332 : FVec F S256x64 .bf16) (v333 : FVec F S256x64 .bf16), FVec F S256x64 .bf16) → sProp 𝕄} :
    iprop(ptOut c (outB a0 a1)
        ∗ ptV c Vc
        ∗ slot B 1 1 c fullShare.right
        ∗ slot B 0 1 c fullShare.right)
      ⊢ iprop(((ptOut c (outB (k0_pay13 v74 v294 cst_207 (headsAt (k0_off1 c 1#32) (k0_off1_inb c 1) Vc) (B.wo (back 1 c)) a0) a1)
          ∗ ptV c Vc
          ∗ slot B 1 1 c fullShare.right
          ∗ slot B 0 1 c fullShare.right)
          -∗ Kt ⟨k0_pay14 v78 (B.wq (back 1 c)), k0_pay15 v78 (B.wq (back 1 c)), k0_pay16 v78 (B.wq (back 1 c)), k0_pay17 v78 (B.wq (back 1 c))⟩)
        -∗ runs c (k0_part10 xM h0 wqInM h1 kM h2 vM h3 woInM h4 outM h5 wqM h6 woM h7 cc0_scratch2 c v74 v78 v274 v294 cst_207) Kt) := by
  rw [k0_part10_eq_skeleton]
  simp only [k0_part10_skel, Prog.lift, Prog.bind_op, Prog.bind_ret, Prog.pure_eq_ret]
  iintro ⟨Ho, Hv, Hs11r, Hs01r⟩ Hpost
  iapply (load_v c (k0_off1 c 1#32) (k0_off1_inb c 1) Vc) $$ Hv; iintro Hv
  iapply (load_wo B c 1 fullShare.right rfl) $$ Hs11r; iintro Hs11r
  iapply (load_out0 c a0 a1) $$ Ho; iintro Ho
  iapply (load_out0 c a0 a1) $$ Ho; iintro Ho
  iapply (store_out0 c a0 a1 (k0_pay13 v74 v294 cst_207 (headsAt (k0_off1 c 1#32) (k0_off1_inb c 1) Vc) (B.wo (back 1 c)) a0)) $$ Ho; iintro Ho
  iapply (load_wq B c 1 fullShare.right rfl) $$ Hs01r; iintro Hs01r
  iapply (runs_ret c)
  iapply Hpost
  isplitl [Ho]; · iexact Ho
  isplitl [Hv]; · iexact Hv
  isplitl [Hs11r]; · iexact Hs11r
  iexact Hs01r

theorem part11 (v74 : IVec S1x256x256 1) (v274 : BitVec 32) (v331 : FVec F S256x256 .bf16) (v332 : FVec F S256x64 .bf16) (v333 : FVec F S256x64 .bf16) (v334 : FVec F S256x64 .bf16) (Kc : Vec F S2x32x256x64 .bf16) (Vc : Vec F S2x32x256x64 .bf16) {Kt : (FVec F S256x512 .f32) → sProp 𝕄} :
    iprop(ptK c Kc
        ∗ ptV c Vc
        ∗ slot B 1 1 c fullShare.right)
      ⊢ iprop(((ptK c Kc
          ∗ ptV c Vc
          ∗ slot B 1 1 c fullShare.right)
          -∗ Kt (k0_pay18 v74 v331 v332 v333 v334 (headsAt (k0_off2 c 1#32) (k0_off2_inb c 1) Kc) (headsAt (k0_off2 c 1#32) (k0_off2_inb c 1) Vc) (B.wo (back 1 c))))
        -∗ runs c (k0_part11 xM h0 wqInM h1 kM h2 vM h3 woInM h4 outM h5 wqM h6 woM h7 cc0_scratch2 c v74 v274 v331 v332 v333 v334) Kt) := by
  rw [k0_part11_eq_skeleton]
  simp only [k0_part11_skel, Prog.lift, Prog.bind_op, Prog.bind_ret, Prog.pure_eq_ret]
  iintro ⟨Hk, Hv, Hs11r⟩ Hpost
  iapply (load_k c (k0_off2 c 1#32) (k0_off2_inb c 1) Kc) $$ Hk; iintro Hk
  iapply (load_v c (k0_off2 c 1#32) (k0_off2_inb c 1) Vc) $$ Hv; iintro Hv
  iapply (load_wo B c 1 fullShare.right rfl) $$ Hs11r; iintro Hs11r
  iapply (runs_ret c)
  iapply Hpost
  isplitl [Hk]; · iexact Hk
  isplitl [Hv]; · iexact Hv
  iexact Hs11r

end Cert.KernelIdeal
end
-- ==== Proof.PartsB.lean ====
/-
  The kernel on slots 7, 2 and 6, part by part.
-/
module

public import proofs.«01_k».proof.Proof.Steps

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (B : Blocks F)

local notation "𝕄" => MT nD τ sig Unit (Elt F) ℕ UU ℕ

variable (K : GSem nD τ sig → ℕ) (c : Dev nD) {h0 : xM.IsWhole} {h1 : wqInM.IsWhole} {h2 : kM.IsWhole} {h3 : vM.IsWhole}
  {h4 : woInM.IsWhole} {h5 : outM.IsWhole} {h6 : wqM.IsWhole} {h7 : woM.IsWhole}

theorem part12 (v2 : BitVec 32) (v74 : IVec S1x256x256 1) (v76 : FVec F S256x512 .bf16) (v376 : FVec F S256x512 .f32) (Kc : Vec F S2x32x256x64 .bf16) (a0 a1 : Vec F S1x256x512 .f32) {Kt : (Σ' (v385 : BitVec 32), FVec F S4x256x256 .f32) → sProp 𝕄} :
    iprop(ptOut c (outB a0 a1)
        ∗ slot B 0 7 c fullShare.right
        ∗ ptK c Kc)
      ⊢ iprop(((ptOut c (outB a0 (k0_pay19 v376 a1))
          ∗ slot B 0 7 c fullShare.right
          ∗ ptK c Kc)
          -∗ Kt ⟨(Scalar.remsi (Scalar.subi (Scalar.addi v2 8#32) 7#32) 8#32), k0_pay20 v74 v76 (B.wq (back 7 c)) (headsAt (k0_off1 c 7#32) (k0_off1_inb c 7) Kc)⟩)
        -∗ runs c (k0_part12 xM h0 wqInM h1 kM h2 vM h3 woInM h4 outM h5 wqM h6 woM h7 cc0_scratch2 c v2 v74 v76 v376) Kt) := by
  rw [k0_part12_eq_skeleton]
  simp only [k0_part12_skel, Prog.lift, Prog.bind_op, Prog.bind_ret, Prog.pure_eq_ret]
  iintro ⟨Ho, Hs07r, Hk⟩ Hpost
  iapply (load_out1 c a0 a1) $$ Ho; iintro Ho
  iapply (load_out1 c a0 a1) $$ Ho; iintro Ho
  iapply (store_out1 c a0 a1 (k0_pay19 v376 a1)) $$ Ho; iintro Ho
  iapply (load_wq B c 7 fullShare.right rfl) $$ Hs07r; iintro Hs07r
  iapply (load_k c (k0_off1 c 7#32) (k0_off1_inb c 7) Kc) $$ Hk; iintro Hk
  iapply (runs_ret c)
  iapply Hpost
  isplitl [Ho]; · iexact Ho
  isplitl [Hs07r]; · iexact Hs07r
  iexact Hk

theorem part13 (v78 : FVec F S256x512 .bf16) (v385 : BitVec 32) (v415 : FVec F S4x256x256 .f32) (Vc : Vec F S2x32x256x64 .bf16) (a0 a1 : Vec F S1x256x512 .f32) {Kt : (FVec F S4x256x64 .bf16) → sProp 𝕄} :
    iprop(ptOut c (outB a0 a1)
        ∗ ptV c Vc
        ∗ slot B 1 7 c fullShare.right
        ∗ slot B 0 7 c fullShare.right)
      ⊢ iprop(((ptOut c (outB (k0_pay21 v415 (headsAt (k0_off1 c 7#32) (k0_off1_inb c 7) Vc) (B.wo (back 7 c)) a0) a1)
          ∗ ptV c Vc
          ∗ slot B 1 7 c fullShare.right
          ∗ slot B 0 7 c fullShare.right)
          -∗ Kt (k0_pay22 v78 (B.wq (back 7 c))))
        -∗ runs c (k0_part13 xM h0 wqInM h1 kM h2 vM h3 woInM h4 outM h5 wqM h6 woM h7 cc0_scratch2 c v78 v385 v415) Kt) := by
  rw [k0_part13_eq_skeleton]
  simp only [k0_part13_skel, Prog.lift, Prog.bind_op, Prog.bind_ret, Prog.pure_eq_ret]
  iintro ⟨Ho, Hv, Hs17r, Hs07r⟩ Hpost
  iapply (load_v c (k0_off1 c 7#32) (k0_off1_inb c 7) Vc) $$ Hv; iintro Hv
  iapply (load_wo B c 7 fullShare.right rfl) $$ Hs17r; iintro Hs17r
  iapply (load_out0 c a0 a1) $$ Ho; iintro Ho
  iapply (load_out0 c a0 a1) $$ Ho; iintro Ho
  iapply (store_out0 c a0 a1 (k0_pay21 v415 (headsAt (k0_off1 c 7#32) (k0_off1_inb c 7) Vc) (B.wo (back 7 c)) a0)) $$ Ho; iintro Ho
  iapply (load_wq B c 7 fullShare.right rfl) $$ Hs07r; iintro Hs07r
  iapply (runs_ret c)
  iapply Hpost
  isplitl [Ho]; · iexact Ho
  isplitl [Hv]; · iexact Hv
  isplitl [Hs17r]; · iexact Hs17r
  iexact Hs07r

theorem part14 (v74 : IVec S1x256x256 1) (v385 : BitVec 32) (v451 : FVec F S4x256x64 .bf16) (Kc : Vec F S2x32x256x64 .bf16) (Vc : Vec F S2x32x256x64 .bf16) (a0 a1 : Vec F S1x256x512 .f32) {Kt : (PUnit) → sProp 𝕄} :
    iprop(ptOut c (outB a0 a1)
        ∗ ptK c Kc
        ∗ ptV c Vc
        ∗ slot B 1 7 c fullShare.right)
      ⊢ iprop(((ptOut c (outB a0 (k0_pay23 v74 v451 (headsAt (k0_off2 c 7#32) (k0_off2_inb c 7) Kc) (headsAt (k0_off2 c 7#32) (k0_off2_inb c 7) Vc) (B.wo (back 7 c)) a1))
          ∗ ptK c Kc
          ∗ ptV c Vc
          ∗ slot B 1 7 c fullShare.right)
          -∗ Kt ⟨⟩)
        -∗ runs c (k0_part14 xM h0 wqInM h1 kM h2 vM h3 woInM h4 outM h5 wqM h6 woM h7 cc0_scratch2 c v74 v385 v451) Kt) := by
  rw [k0_part14_eq_skeleton]
  simp only [k0_part14_skel, Prog.lift, Prog.bind_op, Prog.bind_ret, Prog.pure_eq_ret]
  iintro ⟨Ho, Hk, Hv, Hs17r⟩ Hpost
  iapply (load_k c (k0_off2 c 7#32) (k0_off2_inb c 7) Kc) $$ Hk; iintro Hk
  iapply (load_v c (k0_off2 c 7#32) (k0_off2_inb c 7) Vc) $$ Hv; iintro Hv
  iapply (load_wo B c 7 fullShare.right rfl) $$ Hs17r; iintro Hs17r
  iapply (load_out1 c a0 a1) $$ Ho; iintro Ho
  iapply (load_out1 c a0 a1) $$ Ho; iintro Ho
  iapply (store_out1 c a0 a1 (k0_pay23 v74 v451 (headsAt (k0_off2 c 7#32) (k0_off2_inb c 7) Kc) (headsAt (k0_off2 c 7#32) (k0_off2_inb c 7) Vc) (B.wo (back 7 c)) a1)) $$ Ho; iintro Ho
  iapply (runs_ret c)
  iapply Hpost
  isplitl [Ho]; · iexact Ho
  isplitl [Hk]; · iexact Hk
  isplitl [Hv]; · iexact Hv
  iexact Hs17r

theorem part15 (v4 : BitVec 32) {Kt : (Σ' (v514 : BitVec 32), BitVec 32) → sProp 𝕄} :
    iprop(invs B K
        ∗ opens c
        ∗ levAts L lv
        ∗ owing c [(0, 2), (1, 2), (0, 6), (1, 6), (0, 3), (1, 3)]
        ∗ toRecv c (0, 1)
        ∗ toSend c (0, 2)
        ∗ landing (0, 2) c
        ∗ toRecv c (1, 1))
      ⊢ iprop(((owing c [(1, 2), (0, 6), (1, 6), (0, 3), (1, 3)]
          ∗ semVal (recvCell c (0, 1)) 0
          ∗ slot B 0 2 c fullShare.right
          ∗ sent c (0, 2)
          ∗ slot B 1 2 c fullShare
          ∗ semVal (recvCell c (1, 1)) 0)
          -∗ Kt ⟨(Scalar.muli v4 1#32), 0#32⟩)
        -∗ runs c (k0_part15 xM h0 wqInM h1 kM h2 vM h3 woInM h4 outM h5 wqM h6 woM h7 cc0_scratch2 c v4) Kt) := by
  rw [k0_part15_eq_skeleton]
  simp only [k0_part15_skel, Prog.lift, Prog.bind_op, Prog.bind_ret, Prog.pure_eq_ret]
  iintro ⟨#HI, #HO, #HL, Hw, HR01, HS02, HD02, HR11⟩ Hpost
  iapply (arriveAt B K c 0 1 2 [(0, 2), (1, 2), (0, 6), (1, 6), (0, 3), (1, 3)] (src := wqS 1) (dst := wqS 2) (sR := recvS (0, 1)) (by decide) rfl rfl rfl) $$ [Hw HR01]
  · isplitr; · iexact HI
    isplitr; · iexact HL
    isplitl [HR01]; · iexact HR01
    iexact Hw
  iintro ⟨Hs02f, Hc01, Hw⟩
  ihave Hs02f := (slot_two B 0 2 c 2 (by decide)) $$ Hs02f; icases Hs02f with ⟨Hq02, Hs02r⟩
  iapply (hopQAt B K c 2 2 [(1, 2), (0, 6), (1, 6), (0, 3), (1, 3)] (src := wqS 2) (dst := wqS 3) (d := ⟨k0_dev11 c, k0_dev11_lt c⟩) (sS := sendS (0, 2)) (sR := recvS (0, 2)) rfl rfl rfl (by revert c; decide) rfl rfl)
    $$ [Hw HS02 HD02 Hq02]
  · isplitr; · iexact HI
    isplitr; · iexact HO
    isplitl [HS02]; · iexact HS02
    isplitl [HD02]; · iexact HD02
    isplitl [Hq02]; · iexact Hq02
    iexact Hw
  iintro ⟨HT02, Hw⟩
  iapply (arriveAt B K c 1 1 2 [(1, 2), (0, 6), (1, 6), (0, 3), (1, 3)] (src := woS 1) (dst := woS 2) (sR := recvS (1, 1)) (by decide) rfl rfl rfl) $$ [Hw HR11]
  · isplitr; · iexact HI
    isplitr; · iexact HL
    isplitl [HR11]; · iexact HR11
    iexact Hw
  iintro ⟨Hs12f, Hc11, Hw⟩
  iapply (runs_ret c)
  iapply Hpost
  isplitl [Hw]; · iexact Hw
  isplitl [Hc01]; · iexact Hc01
  isplitl [Hs02r]; · iexact Hs02r
  isplitl [HT02]; · iexact HT02
  isplitl [Hs12f]; · iexact Hs12f
  iexact Hc11

theorem part16 (v7 : BitVec 32) (v514 : BitVec 32) (c0_i32_337 : BitVec 32) {Kt : (PUnit) → sProp 𝕄} :
    iprop(invs B K
        ∗ opens c
        ∗ levAts L lv
        ∗ owing c [(1, 2), (0, 6), (1, 6), (0, 3), (1, 3)]
        ∗ slot B 1 2 c fullShare
        ∗ toSend c (1, 2)
        ∗ landing (1, 2) c
        ∗ toRecv c (0, 5)
        ∗ toSend c (0, 6)
        ∗ landing (0, 6) c)
      ⊢ iprop(((owing c [(1, 6), (0, 3), (1, 3)]
          ∗ slot B 1 2 c fullShare.right
          ∗ sent c (1, 2)
          ∗ semVal (recvCell c (0, 5)) 0
          ∗ slot B 0 6 c fullShare.right
          ∗ sent c (0, 6))
          -∗ Kt ⟨⟩)
        -∗ runs c (k0_part16 xM h0 wqInM h1 kM h2 vM h3 woInM h4 outM h5 wqM h6 woM h7 cc0_scratch2 c v7 v514 c0_i32_337) Kt) := by
  rw [k0_part16_eq_skeleton]
  simp only [k0_part16_skel, Prog.lift, Prog.bind_op, Prog.bind_ret, Prog.pure_eq_ret]
  iintro ⟨#HI, #HO, #HL, Hw, Hs12f, HS12, HD12, HR05, HS06, HD06⟩ Hpost
  ihave Hs12f := (slot_two B 1 2 c 2 (by decide)) $$ Hs12f; icases Hs12f with ⟨Hq12, Hs12r⟩
  iapply (hopOAt B K c 2 2 [(0, 6), (1, 6), (0, 3), (1, 3)] (src := woS 2) (dst := woS 3) (d := ⟨k0_dev12 c, k0_dev12_lt c⟩) (sS := sendS (1, 2)) (sR := recvS (1, 2)) rfl rfl rfl (by revert c; decide) rfl rfl)
    $$ [Hw HS12 HD12 Hq12]
  · isplitr; · iexact HI
    isplitr; · iexact HO
    isplitl [HS12]; · iexact HS12
    isplitl [HD12]; · iexact HD12
    isplitl [Hq12]; · iexact Hq12
    iexact Hw
  iintro ⟨HT12, Hw⟩
  iapply (arriveAt B K c 0 5 6 [(0, 6), (1, 6), (0, 3), (1, 3)] (src := wqS 7) (dst := wqS 6) (sR := recvS (0, 5)) (by decide) rfl rfl rfl) $$ [Hw HR05]
  · isplitr; · iexact HI
    isplitr; · iexact HL
    isplitl [HR05]; · iexact HR05
    iexact Hw
  iintro ⟨Hs06f, Hc05, Hw⟩
  ihave Hs06f := (slot_two B 0 6 c 6 (by decide)) $$ Hs06f; icases Hs06f with ⟨Hq06, Hs06r⟩
  iapply (hopQAt B K c 6 6 [(1, 6), (0, 3), (1, 3)] (src := wqS 6) (dst := wqS 5) (d := ⟨k0_dev13 c, k0_dev13_lt c⟩) (sS := sendS (0, 6)) (sR := recvS (0, 6)) rfl rfl rfl (by revert c; decide) rfl rfl)
    $$ [Hw HS06 HD06 Hq06]
  · isplitr; · iexact HI
    isplitr; · iexact HO
    isplitl [HS06]; · iexact HS06
    isplitl [HD06]; · iexact HD06
    isplitl [Hq06]; · iexact Hq06
    iexact Hw
  iintro ⟨HT06, Hw⟩
  iapply (runs_ret c)
  iapply Hpost
  isplitl [Hw]; · iexact Hw
  isplitl [Hs12r]; · iexact Hs12r
  isplitl [HT12]; · iexact HT12
  isplitl [Hc05]; · iexact Hc05
  isplitl [Hs06r]; · iexact Hs06r
  iexact HT06

theorem part17 (v2 : BitVec 32) (v7 : BitVec 32) (v76 : FVec F S256x512 .bf16) (Kc : Vec F S2x32x256x64 .bf16) {Kt : (Σ' (v552 : BitVec 32) (v572 : FVec F S4x256x256 .f32), F .f32) → sProp 𝕄} :
    iprop(invs B K
        ∗ opens c
        ∗ levAts L lv
        ∗ owing c [(1, 6), (0, 3), (1, 3)]
        ∗ toRecv c (1, 5)
        ∗ toSend c (1, 6)
        ∗ landing (1, 6) c
        ∗ slot B 0 2 c fullShare.right
        ∗ ptK c Kc)
      ⊢ iprop(((owing c [(0, 3), (1, 3)]
          ∗ semVal (recvCell c (1, 5)) 0
          ∗ slot B 1 6 c fullShare.right
          ∗ sent c (1, 6)
          ∗ slot B 0 2 c fullShare.right
          ∗ ptK c Kc)
          -∗ Kt ⟨(Scalar.remsi (Scalar.subi (Scalar.addi v2 8#32) 2#32) 8#32), k0_pay24 v76 (B.wq (back 2 c)) (headsAt (k0_off1 c 2#32) (k0_off1_inb c 2) Kc), (Scalar.ofBits .f32 0x00000000#32)⟩)
        -∗ runs c (k0_part17 xM h0 wqInM h1 kM h2 vM h3 woInM h4 outM h5 wqM h6 woM h7 cc0_scratch2 c v2 v7 v76) Kt) := by
  rw [k0_part17_eq_skeleton]
  simp only [k0_part17_skel, Prog.lift, Prog.bind_op, Prog.bind_ret, Prog.pure_eq_ret]
  iintro ⟨#HI, #HO, #HL, Hw, HR15, HS16, HD16, Hs02r, Hk⟩ Hpost
  iapply (arriveAt B K c 1 5 6 [(1, 6), (0, 3), (1, 3)] (src := woS 7) (dst := woS 6) (sR := recvS (1, 5)) (by decide) rfl rfl rfl) $$ [Hw HR15]
  · isplitr; · iexact HI
    isplitr; · iexact HL
    isplitl [HR15]; · iexact HR15
    iexact Hw
  iintro ⟨Hs16f, Hc15, Hw⟩
  ihave Hs16f := (slot_two B 1 6 c 6 (by decide)) $$ Hs16f; icases Hs16f with ⟨Hq16, Hs16r⟩
  iapply (hopOAt B K c 6 6 [(0, 3), (1, 3)] (src := woS 6) (dst := woS 5) (d := ⟨k0_dev14 c, k0_dev14_lt c⟩) (sS := sendS (1, 6)) (sR := recvS (1, 6)) rfl rfl rfl (by revert c; decide) rfl rfl)
    $$ [Hw HS16 HD16 Hq16]
  · isplitr; · iexact HI
    isplitr; · iexact HO
    isplitl [HS16]; · iexact HS16
    isplitl [HD16]; · iexact HD16
    isplitl [Hq16]; · iexact Hq16
    iexact Hw
  iintro ⟨HT16, Hw⟩
  iapply (load_wq B c 2 fullShare.right rfl) $$ Hs02r; iintro Hs02r
  iapply (load_k c (k0_off1 c 2#32) (k0_off1_inb c 2) Kc) $$ Hk; iintro Hk
  iapply (runs_ret c)
  iapply Hpost
  isplitl [Hw]; · iexact Hw
  isplitl [Hc15]; · iexact Hc15
  isplitl [Hs16r]; · iexact Hs16r
  isplitl [HT16]; · iexact HT16
  isplitl [Hs02r]; · iexact Hs02r
  iexact Hk

theorem part18 (v74 : IVec S1x256x256 1) (v78 : FVec F S256x512 .bf16) (v552 : BitVec 32) (v572 : FVec F S4x256x256 .f32) (cst_391 : F .f32) (Vc : Vec F S2x32x256x64 .bf16) (a0 a1 : Vec F S1x256x512 .f32) {Kt : (Σ' (v609 : FVec F S256x256 .bf16) (v610 : FVec F S256x64 .bf16) (v611 : FVec F S256x64 .bf16), FVec F S256x64 .bf16) → sProp 𝕄} :
    iprop(ptOut c (outB a0 a1)
        ∗ ptV c Vc
        ∗ slot B 1 2 c fullShare.right
        ∗ slot B 0 2 c fullShare.right)
      ⊢ iprop(((ptOut c (outB (k0_pay25 v74 v572 cst_391 (headsAt (k0_off1 c 2#32) (k0_off1_inb c 2) Vc) (B.wo (back 2 c)) a0) a1)
          ∗ ptV c Vc
          ∗ slot B 1 2 c fullShare.right
          ∗ slot B 0 2 c fullShare.right)
          -∗ Kt ⟨k0_pay26 v78 (B.wq (back 2 c)), k0_pay27 v78 (B.wq (back 2 c)), k0_pay28 v78 (B.wq (back 2 c)), k0_pay29 v78 (B.wq (back 2 c))⟩)
        -∗ runs c (k0_part18 xM h0 wqInM h1 kM h2 vM h3 woInM h4 outM h5 wqM h6 woM h7 cc0_scratch2 c v74 v78 v552 v572 cst_391) Kt) := by
  rw [k0_part18_eq_skeleton]
  simp only [k0_part18_skel, Prog.lift, Prog.bind_op, Prog.bind_ret, Prog.pure_eq_ret]
  iintro ⟨Ho, Hv, Hs12r, Hs02r⟩ Hpost
  iapply (load_v c (k0_off1 c 2#32) (k0_off1_inb c 2) Vc) $$ Hv; iintro Hv
  iapply (load_wo B c 2 fullShare.right rfl) $$ Hs12r; iintro Hs12r
  iapply (load_out0 c a0 a1) $$ Ho; iintro Ho
  iapply (load_out0 c a0 a1) $$ Ho; iintro Ho
  iapply (store_out0 c a0 a1 (k0_pay25 v74 v572 cst_391 (headsAt (k0_off1 c 2#32) (k0_off1_inb c 2) Vc) (B.wo (back 2 c)) a0)) $$ Ho; iintro Ho
  iapply (load_wq B c 2 fullShare.right rfl) $$ Hs02r; iintro Hs02r
  iapply (runs_ret c)
  iapply Hpost
  isplitl [Ho]; · iexact Ho
  isplitl [Hv]; · iexact Hv
  isplitl [Hs12r]; · iexact Hs12r
  iexact Hs02r

theorem part19 (v74 : IVec S1x256x256 1) (v552 : BitVec 32) (v609 : FVec F S256x256 .bf16) (v610 : FVec F S256x64 .bf16) (v611 : FVec F S256x64 .bf16) (v612 : FVec F S256x64 .bf16) (Kc : Vec F S2x32x256x64 .bf16) (Vc : Vec F S2x32x256x64 .bf16) {Kt : (FVec F S256x512 .f32) → sProp 𝕄} :
    iprop(ptK c Kc
        ∗ ptV c Vc
        ∗ slot B 1 2 c fullShare.right)
      ⊢ iprop(((ptK c Kc
          ∗ ptV c Vc
          ∗ slot B 1 2 c fullShare.right)
          -∗ Kt (k0_pay30 v74 v609 v610 v611 v612 (headsAt (k0_off2 c 2#32) (k0_off2_inb c 2) Kc) (headsAt (k0_off2 c 2#32) (k0_off2_inb c 2) Vc) (B.wo (back 2 c))))
        -∗ runs c (k0_part19 xM h0 wqInM h1 kM h2 vM h3 woInM h4 outM h5 wqM h6 woM h7 cc0_scratch2 c v74 v552 v609 v610 v611 v612) Kt) := by
  rw [k0_part19_eq_skeleton]
  simp only [k0_part19_skel, Prog.lift, Prog.bind_op, Prog.bind_ret, Prog.pure_eq_ret]
  iintro ⟨Hk, Hv, Hs12r⟩ Hpost
  iapply (load_k c (k0_off2 c 2#32) (k0_off2_inb c 2) Kc) $$ Hk; iintro Hk
  iapply (load_v c (k0_off2 c 2#32) (k0_off2_inb c 2) Vc) $$ Hv; iintro Hv
  iapply (load_wo B c 2 fullShare.right rfl) $$ Hs12r; iintro Hs12r
  iapply (runs_ret c)
  iapply Hpost
  isplitl [Hk]; · iexact Hk
  isplitl [Hv]; · iexact Hv
  iexact Hs12r

theorem part20 (v2 : BitVec 32) (v74 : IVec S1x256x256 1) (v76 : FVec F S256x512 .bf16) (v654 : FVec F S256x512 .f32) (Kc : Vec F S2x32x256x64 .bf16) (a0 a1 : Vec F S1x256x512 .f32) {Kt : (Σ' (v663 : BitVec 32), FVec F S4x256x256 .f32) → sProp 𝕄} :
    iprop(ptOut c (outB a0 a1)
        ∗ slot B 0 6 c fullShare.right
        ∗ ptK c Kc)
      ⊢ iprop(((ptOut c (outB a0 (k0_pay31 v654 a1))
          ∗ slot B 0 6 c fullShare.right
          ∗ ptK c Kc)
          -∗ Kt ⟨(Scalar.remsi (Scalar.subi (Scalar.addi v2 8#32) 6#32) 8#32), k0_pay32 v74 v76 (B.wq (back 6 c)) (headsAt (k0_off1 c 6#32) (k0_off1_inb c 6) Kc)⟩)
        -∗ runs c (k0_part20 xM h0 wqInM h1 kM h2 vM h3 woInM h4 outM h5 wqM h6 woM h7 cc0_scratch2 c v2 v74 v76 v654) Kt) := by
  rw [k0_part20_eq_skeleton]
  simp only [k0_part20_skel, Prog.lift, Prog.bind_op, Prog.bind_ret, Prog.pure_eq_ret]
  iintro ⟨Ho, Hs06r, Hk⟩ Hpost
  iapply (load_out1 c a0 a1) $$ Ho; iintro Ho
  iapply (load_out1 c a0 a1) $$ Ho; iintro Ho
  iapply (store_out1 c a0 a1 (k0_pay31 v654 a1)) $$ Ho; iintro Ho
  iapply (load_wq B c 6 fullShare.right rfl) $$ Hs06r; iintro Hs06r
  iapply (load_k c (k0_off1 c 6#32) (k0_off1_inb c 6) Kc) $$ Hk; iintro Hk
  iapply (runs_ret c)
  iapply Hpost
  isplitl [Ho]; · iexact Ho
  isplitl [Hs06r]; · iexact Hs06r
  iexact Hk

theorem part21 (v78 : FVec F S256x512 .bf16) (v663 : BitVec 32) (v693 : FVec F S4x256x256 .f32) (Vc : Vec F S2x32x256x64 .bf16) (a0 a1 : Vec F S1x256x512 .f32) {Kt : (FVec F S4x256x64 .bf16) → sProp 𝕄} :
    iprop(ptOut c (outB a0 a1)
        ∗ ptV c Vc
        ∗ slot B 1 6 c fullShare.right
        ∗ slot B 0 6 c fullShare.right)
      ⊢ iprop(((ptOut c (outB (k0_pay33 v693 (headsAt (k0_off1 c 6#32) (k0_off1_inb c 6) Vc) (B.wo (back 6 c)) a0) a1)
          ∗ ptV c Vc
          ∗ slot B 1 6 c fullShare.right
          ∗ slot B 0 6 c fullShare.right)
          -∗ Kt (k0_pay34 v78 (B.wq (back 6 c))))
        -∗ runs c (k0_part21 xM h0 wqInM h1 kM h2 vM h3 woInM h4 outM h5 wqM h6 woM h7 cc0_scratch2 c v78 v663 v693) Kt) := by
  rw [k0_part21_eq_skeleton]
  simp only [k0_part21_skel, Prog.lift, Prog.bind_op, Prog.bind_ret, Prog.pure_eq_ret]
  iintro ⟨Ho, Hv, Hs16r, Hs06r⟩ Hpost
  iapply (load_v c (k0_off1 c 6#32) (k0_off1_inb c 6) Vc) $$ Hv; iintro Hv
  iapply (load_wo B c 6 fullShare.right rfl) $$ Hs16r; iintro Hs16r
  iapply (load_out0 c a0 a1) $$ Ho; iintro Ho
  iapply (load_out0 c a0 a1) $$ Ho; iintro Ho
  iapply (store_out0 c a0 a1 (k0_pay33 v693 (headsAt (k0_off1 c 6#32) (k0_off1_inb c 6) Vc) (B.wo (back 6 c)) a0)) $$ Ho; iintro Ho
  iapply (load_wq B c 6 fullShare.right rfl) $$ Hs06r; iintro Hs06r
  iapply (runs_ret c)
  iapply Hpost
  isplitl [Ho]; · iexact Ho
  isplitl [Hv]; · iexact Hv
  isplitl [Hs16r]; · iexact Hs16r
  iexact Hs06r

theorem part22 (v74 : IVec S1x256x256 1) (v663 : BitVec 32) (v729 : FVec F S4x256x64 .bf16) (Kc : Vec F S2x32x256x64 .bf16) (Vc : Vec F S2x32x256x64 .bf16) (a0 a1 : Vec F S1x256x512 .f32) {Kt : (PUnit) → sProp 𝕄} :
    iprop(ptOut c (outB a0 a1)
        ∗ ptK c Kc
        ∗ ptV c Vc
        ∗ slot B 1 6 c fullShare.right)
      ⊢ iprop(((ptOut c (outB a0 (k0_pay35 v74 v729 (headsAt (k0_off2 c 6#32) (k0_off2_inb c 6) Kc) (headsAt (k0_off2 c 6#32) (k0_off2_inb c 6) Vc) (B.wo (back 6 c)) a1))
          ∗ ptK c Kc
          ∗ ptV c Vc
          ∗ slot B 1 6 c fullShare.right)
          -∗ Kt ⟨⟩)
        -∗ runs c (k0_part22 xM h0 wqInM h1 kM h2 vM h3 woInM h4 outM h5 wqM h6 woM h7 cc0_scratch2 c v74 v663 v729) Kt) := by
  rw [k0_part22_eq_skeleton]
  simp only [k0_part22_skel, Prog.lift, Prog.bind_op, Prog.bind_ret, Prog.pure_eq_ret]
  iintro ⟨Ho, Hk, Hv, Hs16r⟩ Hpost
  iapply (load_k c (k0_off2 c 6#32) (k0_off2_inb c 6) Kc) $$ Hk; iintro Hk
  iapply (load_v c (k0_off2 c 6#32) (k0_off2_inb c 6) Vc) $$ Hv; iintro Hv
  iapply (load_wo B c 6 fullShare.right rfl) $$ Hs16r; iintro Hs16r
  iapply (load_out1 c a0 a1) $$ Ho; iintro Ho
  iapply (load_out1 c a0 a1) $$ Ho; iintro Ho
  iapply (store_out1 c a0 a1 (k0_pay35 v74 v729 (headsAt (k0_off2 c 6#32) (k0_off2_inb c 6) Kc) (headsAt (k0_off2 c 6#32) (k0_off2_inb c 6) Vc) (B.wo (back 6 c)) a1)) $$ Ho; iintro Ho
  iapply (runs_ret c)
  iapply Hpost
  isplitl [Ho]; · iexact Ho
  isplitl [Hk]; · iexact Hk
  isplitl [Hv]; · iexact Hv
  iexact Hs16r

end Cert.KernelIdeal
end
-- ==== Proof.PartsC.lean ====
/-
  The kernel on slots 3, 5 and 4 and the last waits, part by part.
-/
module

public import proofs.«01_k».proof.Proof.Steps

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (B : Blocks F)

local notation "𝕄" => MT nD τ sig Unit (Elt F) ℕ UU ℕ

variable (K : GSem nD τ sig → ℕ) (c : Dev nD) {h0 : xM.IsWhole} {h1 : wqInM.IsWhole} {h2 : kM.IsWhole} {h3 : vM.IsWhole}
  {h4 : woInM.IsWhole} {h5 : outM.IsWhole} {h6 : wqM.IsWhole} {h7 : woM.IsWhole}

theorem part23 (v4 : BitVec 32) {Kt : (Σ' (v792 : BitVec 32), BitVec 32) → sProp 𝕄} :
    iprop(invs B K
        ∗ opens c
        ∗ levAts L lv
        ∗ owing c [(0, 3), (1, 3)]
        ∗ toRecv c (0, 2)
        ∗ toSend c (0, 3)
        ∗ landing (0, 3) c
        ∗ toRecv c (1, 2))
      ⊢ iprop(((owing c [(1, 3)]
          ∗ semVal (recvCell c (0, 2)) 0
          ∗ slot B 0 3 c fullShare.right
          ∗ sent c (0, 3)
          ∗ slot B 1 3 c fullShare
          ∗ semVal (recvCell c (1, 2)) 0)
          -∗ Kt ⟨(Scalar.muli v4 1#32), 0#32⟩)
        -∗ runs c (k0_part23 xM h0 wqInM h1 kM h2 vM h3 woInM h4 outM h5 wqM h6 woM h7 cc0_scratch2 c v4) Kt) := by
  rw [k0_part23_eq_skeleton]
  simp only [k0_part23_skel, Prog.lift, Prog.bind_op, Prog.bind_ret, Prog.pure_eq_ret]
  iintro ⟨#HI, #HO, #HL, Hw, HR02, HS03, HD03, HR12⟩ Hpost
  iapply (arriveAt B K c 0 2 3 [(0, 3), (1, 3)] (src := wqS 2) (dst := wqS 3) (sR := recvS (0, 2)) (by decide) rfl rfl rfl) $$ [Hw HR02]
  · isplitr; · iexact HI
    isplitr; · iexact HL
    isplitl [HR02]; · iexact HR02
    iexact Hw
  iintro ⟨Hs03f, Hc02, Hw⟩
  ihave Hs03f := (slot_two B 0 3 c 3 (by decide)) $$ Hs03f; icases Hs03f with ⟨Hq03, Hs03r⟩
  iapply (hopQAt B K c 3 3 [(1, 3)] (src := wqS 3) (dst := wqS 4) (d := ⟨k0_dev15 c, k0_dev15_lt c⟩) (sS := sendS (0, 3)) (sR := recvS (0, 3)) rfl rfl rfl (by revert c; decide) rfl rfl)
    $$ [Hw HS03 HD03 Hq03]
  · isplitr; · iexact HI
    isplitr; · iexact HO
    isplitl [HS03]; · iexact HS03
    isplitl [HD03]; · iexact HD03
    isplitl [Hq03]; · iexact Hq03
    iexact Hw
  iintro ⟨HT03, Hw⟩
  iapply (arriveAt B K c 1 2 3 [(1, 3)] (src := woS 2) (dst := woS 3) (sR := recvS (1, 2)) (by decide) rfl rfl rfl) $$ [Hw HR12]
  · isplitr; · iexact HI
    isplitr; · iexact HL
    isplitl [HR12]; · iexact HR12
    iexact Hw
  iintro ⟨Hs13f, Hc12, Hw⟩
  iapply (runs_ret c)
  iapply Hpost
  isplitl [Hw]; · iexact Hw
  isplitl [Hc02]; · iexact Hc02
  isplitl [Hs03r]; · iexact Hs03r
  isplitl [HT03]; · iexact HT03
  isplitl [Hs13f]; · iexact Hs13f
  iexact Hc12

theorem part24 (v2 : BitVec 32) (v7 : BitVec 32) (v76 : FVec F S256x512 .bf16) (v792 : BitVec 32) (c0_i32_522 : BitVec 32) {Kt : (Σ' (v814 : BitVec 32) (v817 : FVec F S256x256 .bf16) (v818 : FVec F S256x64 .bf16), FVec F S256x64 .bf16) → sProp 𝕄} :
    iprop(invs B K
        ∗ opens c
        ∗ levAts L lv
        ∗ owing c [(1, 3)]
        ∗ slot B 1 3 c fullShare
        ∗ toSend c (1, 3)
        ∗ landing (1, 3) c
        ∗ toRecv c (0, 6)
        ∗ toRecv c (1, 6)
        ∗ slot B 0 3 c fullShare.right)
      ⊢ iprop(((owing c []
          ∗ slot B 1 3 c fullShare.right
          ∗ sent c (1, 3)
          ∗ slot B 0 5 c fullShare
          ∗ semVal (recvCell c (0, 6)) 0
          ∗ slot B 1 5 c fullShare
          ∗ semVal (recvCell c (1, 6)) 0
          ∗ slot B 0 3 c fullShare.right)
          -∗ Kt ⟨(Scalar.remsi (Scalar.subi (Scalar.addi v2 8#32) 3#32) 8#32), k0_pay36 v76 (B.wq (back 3 c)), k0_pay37 v76 (B.wq (back 3 c)), k0_pay38 v76 (B.wq (back 3 c))⟩)
        -∗ runs c (k0_part24 xM h0 wqInM h1 kM h2 vM h3 woInM h4 outM h5 wqM h6 woM h7 cc0_scratch2 c v2 v7 v76 v792 c0_i32_522) Kt) := by
  rw [k0_part24_eq_skeleton]
  simp only [k0_part24_skel, Prog.lift, Prog.bind_op, Prog.bind_ret, Prog.pure_eq_ret]
  iintro ⟨#HI, #HO, #HL, Hw, Hs13f, HS13, HD13, HR06, HR16, Hs03r⟩ Hpost
  ihave Hs13f := (slot_two B 1 3 c 3 (by decide)) $$ Hs13f; icases Hs13f with ⟨Hq13, Hs13r⟩
  iapply (hopOAt B K c 3 3 [] (src := woS 3) (dst := woS 4) (d := ⟨k0_dev16 c, k0_dev16_lt c⟩) (sS := sendS (1, 3)) (sR := recvS (1, 3)) rfl rfl rfl (by revert c; decide) rfl rfl)
    $$ [Hw HS13 HD13 Hq13]
  · isplitr; · iexact HI
    isplitr; · iexact HO
    isplitl [HS13]; · iexact HS13
    isplitl [HD13]; · iexact HD13
    isplitl [Hq13]; · iexact Hq13
    iexact Hw
  iintro ⟨HT13, Hw⟩
  iapply (arriveAt B K c 0 6 5 [] (src := wqS 6) (dst := wqS 5) (sR := recvS (0, 6)) (by decide) rfl rfl rfl) $$ [Hw HR06]
  · isplitr; · iexact HI
    isplitr; · iexact HL
    isplitl [HR06]; · iexact HR06
    iexact Hw
  iintro ⟨Hs05f, Hc06, Hw⟩
  iapply (arriveAt B K c 1 6 5 [] (src := woS 6) (dst := woS 5) (sR := recvS (1, 6)) (by decide) rfl rfl rfl) $$ [Hw HR16]
  · isplitr; · iexact HI
    isplitr; · iexact HL
    isplitl [HR16]; · iexact HR16
    iexact Hw
  iintro ⟨Hs15f, Hc16, Hw⟩
  iapply (load_wq B c 3 fullShare.right rfl) $$ Hs03r; iintro Hs03r
  iapply (runs_ret c)
  iapply Hpost
  isplitl [Hw]; · iexact Hw
  isplitl [Hs13r]; · iexact Hs13r
  isplitl [HT13]; · iexact HT13
  isplitl [Hs05f]; · iexact Hs05f
  isplitl [Hc06]; · iexact Hc06
  isplitl [Hs15f]; · iexact Hs15f
  isplitl [Hc16]; · iexact Hc16
  iexact Hs03r

theorem part25 (v74 : IVec S1x256x256 1) (v814 : BitVec 32) (v817 : FVec F S256x256 .bf16) (v818 : FVec F S256x64 .bf16) (v819 : FVec F S256x64 .bf16) (Kc : Vec F S2x32x256x64 .bf16) (Vc : Vec F S2x32x256x64 .bf16) {Kt : (FVec F S256x512 .f32) → sProp 𝕄} :
    iprop(ptK c Kc
        ∗ ptV c Vc
        ∗ slot B 1 3 c fullShare.right)
      ⊢ iprop(((ptK c Kc
          ∗ ptV c Vc
          ∗ slot B 1 3 c fullShare.right)
          -∗ Kt (k0_pay39 v74 v817 v818 v819 (headsAt (k0_off1 c 3#32) (k0_off1_inb c 3) Kc) (headsAt (k0_off1 c 3#32) (k0_off1_inb c 3) Vc) (B.wo (back 3 c))))
        -∗ runs c (k0_part25 xM h0 wqInM h1 kM h2 vM h3 woInM h4 outM h5 wqM h6 woM h7 cc0_scratch2 c v74 v814 v817 v818 v819) Kt) := by
  rw [k0_part25_eq_skeleton]
  simp only [k0_part25_skel, Prog.lift, Prog.bind_op, Prog.bind_ret, Prog.pure_eq_ret]
  iintro ⟨Hk, Hv, Hs13r⟩ Hpost
  iapply (load_k c (k0_off1 c 3#32) (k0_off1_inb c 3) Kc) $$ Hk; iintro Hk
  iapply (load_v c (k0_off1 c 3#32) (k0_off1_inb c 3) Vc) $$ Hv; iintro Hv
  iapply (load_wo B c 3 fullShare.right rfl) $$ Hs13r; iintro Hs13r
  iapply (runs_ret c)
  iapply Hpost
  isplitl [Hk]; · iexact Hk
  isplitl [Hv]; · iexact Hv
  iexact Hs13r

theorem part26 (v74 : IVec S1x256x256 1) (v78 : FVec F S256x512 .bf16) (v814 : BitVec 32) (v862 : FVec F S256x512 .f32) (Kc : Vec F S2x32x256x64 .bf16) (a0 a1 : Vec F S1x256x512 .f32) {Kt : (FVec F S4x256x256 .f32) → sProp 𝕄} :
    iprop(ptOut c (outB a0 a1)
        ∗ slot B 0 3 c fullShare.right
        ∗ ptK c Kc)
      ⊢ iprop(((ptOut c (outB (k0_pay40 v862 a0) a1)
          ∗ slot B 0 3 c fullShare.right
          ∗ ptK c Kc)
          -∗ Kt (k0_pay41 v74 v78 (B.wq (back 3 c)) (headsAt (k0_off2 c 3#32) (k0_off2_inb c 3) Kc)))
        -∗ runs c (k0_part26 xM h0 wqInM h1 kM h2 vM h3 woInM h4 outM h5 wqM h6 woM h7 cc0_scratch2 c v74 v78 v814 v862) Kt) := by
  rw [k0_part26_eq_skeleton]
  simp only [k0_part26_skel, Prog.lift, Prog.bind_op, Prog.bind_ret, Prog.pure_eq_ret]
  iintro ⟨Ho, Hs03r, Hk⟩ Hpost
  iapply (load_out0 c a0 a1) $$ Ho; iintro Ho
  iapply (load_out0 c a0 a1) $$ Ho; iintro Ho
  iapply (store_out0 c a0 a1 (k0_pay40 v862 a0)) $$ Ho; iintro Ho
  iapply (load_wq B c 3 fullShare.right rfl) $$ Hs03r; iintro Hs03r
  iapply (load_k c (k0_off2 c 3#32) (k0_off2_inb c 3) Kc) $$ Hk; iintro Hk
  iapply (runs_ret c)
  iapply Hpost
  isplitl [Ho]; · iexact Ho
  isplitl [Hs03r]; · iexact Hs03r
  iexact Hk

theorem part27 (v2 : BitVec 32) (v76 : FVec F S256x512 .bf16) (v898 : FVec F S4x256x256 .f32) (Vc : Vec F S2x32x256x64 .bf16) (a0 a1 : Vec F S1x256x512 .f32) {Kt : (Σ' (v925 : BitVec 32), FVec F S4x256x64 .bf16) → sProp 𝕄} :
    iprop(ptOut c (outB a0 a1)
        ∗ ptV c Vc
        ∗ slot B 1 3 c fullShare.right
        ∗ slot B 0 5 c fullShare)
      ⊢ iprop(((ptOut c (outB a0 (k0_pay42 v898 (headsAt (k0_off2 c 3#32) (k0_off2_inb c 3) Vc) (B.wo (back 3 c)) a1))
          ∗ ptV c Vc
          ∗ slot B 1 3 c fullShare.right
          ∗ slot B 0 5 c fullShare)
          -∗ Kt ⟨(Scalar.remsi (Scalar.subi (Scalar.addi v2 8#32) 5#32) 8#32), k0_pay43 v76 (B.wq (back 5 c))⟩)
        -∗ runs c (k0_part27 xM h0 wqInM h1 kM h2 vM h3 woInM h4 outM h5 wqM h6 woM h7 cc0_scratch2 c v2 v76 v898) Kt) := by
  rw [k0_part27_eq_skeleton]
  simp only [k0_part27_skel, Prog.lift, Prog.bind_op, Prog.bind_ret, Prog.pure_eq_ret]
  iintro ⟨Ho, Hv, Hs13r, Hs05f⟩ Hpost
  iapply (load_v c (k0_off2 c 3#32) (k0_off2_inb c 3) Vc) $$ Hv; iintro Hv
  iapply (load_wo B c 3 fullShare.right rfl) $$ Hs13r; iintro Hs13r
  iapply (load_out1 c a0 a1) $$ Ho; iintro Ho
  iapply (load_out1 c a0 a1) $$ Ho; iintro Ho
  iapply (store_out1 c a0 a1 (k0_pay42 v898 (headsAt (k0_off2 c 3#32) (k0_off2_inb c 3) Vc) (B.wo (back 3 c)) a1)) $$ Ho; iintro Ho
  iapply (load_wq B c 5 fullShare rfl) $$ Hs05f; iintro Hs05f
  iapply (runs_ret c)
  iapply Hpost
  isplitl [Ho]; · iexact Ho
  isplitl [Hv]; · iexact Hv
  isplitl [Hs13r]; · iexact Hs13r
  iexact Hs05f

theorem part28 (v74 : IVec S1x256x256 1) (v925 : BitVec 32) (v937 : FVec F S4x256x64 .bf16) (Kc : Vec F S2x32x256x64 .bf16) (Vc : Vec F S2x32x256x64 .bf16) (a0 a1 : Vec F S1x256x512 .f32) {Kt : (FVec F S1x256x512 .f32) → sProp 𝕄} :
    iprop(ptOut c (outB a0 a1)
        ∗ ptK c Kc
        ∗ ptV c Vc
        ∗ slot B 1 5 c fullShare)
      ⊢ iprop(((ptOut c (outB a0 a1)
          ∗ ptK c Kc
          ∗ ptV c Vc
          ∗ slot B 1 5 c fullShare)
          -∗ Kt (k0_pay44 v74 v937 (headsAt (k0_off1 c 5#32) (k0_off1_inb c 5) Kc) (headsAt (k0_off1 c 5#32) (k0_off1_inb c 5) Vc) (B.wo (back 5 c)) a0))
        -∗ runs c (k0_part28 xM h0 wqInM h1 kM h2 vM h3 woInM h4 outM h5 wqM h6 woM h7 cc0_scratch2 c v74 v925 v937) Kt) := by
  rw [k0_part28_eq_skeleton]
  simp only [k0_part28_skel, Prog.lift, Prog.bind_op, Prog.bind_ret, Prog.pure_eq_ret]
  iintro ⟨Ho, Hk, Hv, Hs15f⟩ Hpost
  iapply (load_k c (k0_off1 c 5#32) (k0_off1_inb c 5) Kc) $$ Hk; iintro Hk
  iapply (load_v c (k0_off1 c 5#32) (k0_off1_inb c 5) Vc) $$ Hv; iintro Hv
  iapply (load_wo B c 5 fullShare rfl) $$ Hs15f; iintro Hs15f
  iapply (load_out0 c a0 a1) $$ Ho; iintro Ho
  iapply (load_out0 c a0 a1) $$ Ho; iintro Ho
  iapply (runs_ret c)
  iapply Hpost
  isplitl [Ho]; · iexact Ho
  isplitl [Hk]; · iexact Hk
  isplitl [Hv]; · iexact Hv
  iexact Hs15f

theorem part29 (v74 : IVec S1x256x256 1) (v78 : FVec F S256x512 .bf16) (v925 : BitVec 32) (v979 : FVec F S1x256x512 .f32) (Kc : Vec F S2x32x256x64 .bf16) (Vc : Vec F S2x32x256x64 .bf16) (a0 a1 : Vec F S1x256x512 .f32) {Kt : (Σ' (v1015 : FVec F S4x256x64 .f32) (v1017 : FVec F S256x64 .f32) (v1019 : FVec F S256x64 .f32), FVec F S256x64 .f32) → sProp 𝕄} :
    iprop(ptOut c (outB a0 a1)
        ∗ slot B 0 5 c fullShare
        ∗ ptK c Kc
        ∗ ptV c Vc)
      ⊢ iprop(((ptOut c (outB v979 a1)
          ∗ slot B 0 5 c fullShare
          ∗ ptK c Kc
          ∗ ptV c Vc)
          -∗ Kt ⟨k0_pay45 v74 v78 (B.wq (back 5 c)) (headsAt (k0_off2 c 5#32) (k0_off2_inb c 5) Kc) (headsAt (k0_off2 c 5#32) (k0_off2_inb c 5) Vc), k0_pay46 v74 v78 (B.wq (back 5 c)) (headsAt (k0_off2 c 5#32) (k0_off2_inb c 5) Kc) (headsAt (k0_off2 c 5#32) (k0_off2_inb c 5) Vc), k0_pay47 v74 v78 (B.wq (back 5 c)) (headsAt (k0_off2 c 5#32) (k0_off2_inb c 5) Kc) (headsAt (k0_off2 c 5#32) (k0_off2_inb c 5) Vc), k0_pay48 v74 v78 (B.wq (back 5 c)) (headsAt (k0_off2 c 5#32) (k0_off2_inb c 5) Kc) (headsAt (k0_off2 c 5#32) (k0_off2_inb c 5) Vc)⟩)
        -∗ runs c (k0_part29 xM h0 wqInM h1 kM h2 vM h3 woInM h4 outM h5 wqM h6 woM h7 cc0_scratch2 c v74 v78 v925 v979) Kt) := by
  rw [k0_part29_eq_skeleton]
  simp only [k0_part29_skel, Prog.lift, Prog.bind_op, Prog.bind_ret, Prog.pure_eq_ret]
  iintro ⟨Ho, Hs05f, Hk, Hv⟩ Hpost
  iapply (store_out0 c a0 a1 v979) $$ Ho; iintro Ho
  iapply (load_wq B c 5 fullShare rfl) $$ Hs05f; iintro Hs05f
  iapply (load_k c (k0_off2 c 5#32) (k0_off2_inb c 5) Kc) $$ Hk; iintro Hk
  iapply (load_v c (k0_off2 c 5#32) (k0_off2_inb c 5) Vc) $$ Hv; iintro Hv
  iapply (runs_ret c)
  iapply Hpost
  isplitl [Ho]; · iexact Ho
  isplitl [Hs05f]; · iexact Hs05f
  isplitl [Hk]; · iexact Hk
  iexact Hv

theorem part30 (v2 : BitVec 32) (v4 : BitVec 32) (v1015 : FVec F S4x256x64 .f32) (v1017 : FVec F S256x64 .f32) (v1019 : FVec F S256x64 .f32) (v1021 : FVec F S256x64 .f32) (a0 a1 : Vec F S1x256x512 .f32) {Kt : (BitVec 32) → sProp 𝕄} :
    iprop(invs B K
        ∗ opens c
        ∗ levAts L lv
        ∗ owing c []
        ∗ ptOut c (outB a0 a1)
        ∗ slot B 1 5 c fullShare
        ∗ toRecv c (0, 3)
        ∗ toRecv c (1, 3))
      ⊢ iprop(((owing c []
          ∗ ptOut c (outB a0 (k0_pay49 v1015 v1017 v1019 v1021 (B.wo (back 5 c)) a1))
          ∗ slot B 1 5 c fullShare
          ∗ slot B 0 4 c fullShare
          ∗ semVal (recvCell c (0, 3)) 0
          ∗ slot B 1 4 c fullShare
          ∗ semVal (recvCell c (1, 3)) 0)
          -∗ Kt (Scalar.subi (Scalar.addi v2 8#32) 4#32))
        -∗ runs c (k0_part30 xM h0 wqInM h1 kM h2 vM h3 woInM h4 outM h5 wqM h6 woM h7 cc0_scratch2 v2 v4 v1015 v1017 v1019 v1021) Kt) := by
  rw [k0_part30_eq_skeleton]
  simp only [k0_part30_skel, Prog.lift, Prog.bind_op, Prog.bind_ret, Prog.pure_eq_ret]
  iintro ⟨#HI, #HO, #HL, Hw, Ho, Hs15f, HR03, HR13⟩ Hpost
  iapply (load_wo B c 5 fullShare rfl) $$ Hs15f; iintro Hs15f
  iapply (load_out1 c a0 a1) $$ Ho; iintro Ho
  iapply (load_out1 c a0 a1) $$ Ho; iintro Ho
  iapply (store_out1 c a0 a1 (k0_pay49 v1015 v1017 v1019 v1021 (B.wo (back 5 c)) a1)) $$ Ho; iintro Ho
  iapply (arriveAt B K c 0 3 4 [] (src := wqS 3) (dst := wqS 4) (sR := recvS (0, 3)) (by decide) rfl rfl rfl) $$ [Hw HR03]
  · isplitr; · iexact HI
    isplitr; · iexact HL
    isplitl [HR03]; · iexact HR03
    iexact Hw
  iintro ⟨Hs04f, Hc03, Hw⟩
  iapply (arriveAt B K c 1 3 4 [] (src := woS 3) (dst := woS 4) (sR := recvS (1, 3)) (by decide) rfl rfl rfl) $$ [Hw HR13]
  · isplitr; · iexact HI
    isplitr; · iexact HL
    isplitl [HR13]; · iexact HR13
    iexact Hw
  iintro ⟨Hs14f, Hc13, Hw⟩
  iapply (runs_ret c)
  iapply Hpost
  isplitl [Hw]; · iexact Hw
  isplitl [Ho]; · iexact Ho
  isplitl [Hs15f]; · iexact Hs15f
  isplitl [Hs04f]; · iexact Hs04f
  isplitl [Hc03]; · iexact Hc03
  isplitl [Hs14f]; · iexact Hs14f
  iexact Hc13

theorem part31 (v74 : IVec S1x256x256 1) (v76 : FVec F S256x512 .bf16) (v1047 : BitVec 32) (Kc : Vec F S2x32x256x64 .bf16) (Vc : Vec F S2x32x256x64 .bf16) {Kt : (Σ' (v1048 : BitVec 32) (v1084 : FVec F S4x256x64 .f32) (v1086 : FVec F S256x64 .f32) (v1088 : FVec F S256x64 .f32), FVec F S1x256x64 .f32) → sProp 𝕄} :
    iprop(slot B 0 4 c fullShare
        ∗ ptK c Kc
        ∗ ptV c Vc)
      ⊢ iprop(((slot B 0 4 c fullShare
          ∗ ptK c Kc
          ∗ ptV c Vc)
          -∗ Kt ⟨(Scalar.remsi v1047 8#32), k0_pay50 v74 v76 (B.wq (back 4 c)) (headsAt (k0_off1 c 4#32) (k0_off1_inb c 4) Kc) (headsAt (k0_off1 c 4#32) (k0_off1_inb c 4) Vc), k0_pay51 v74 v76 (B.wq (back 4 c)) (headsAt (k0_off1 c 4#32) (k0_off1_inb c 4) Kc) (headsAt (k0_off1 c 4#32) (k0_off1_inb c 4) Vc), k0_pay52 v74 v76 (B.wq (back 4 c)) (headsAt (k0_off1 c 4#32) (k0_off1_inb c 4) Kc) (headsAt (k0_off1 c 4#32) (k0_off1_inb c 4) Vc), k0_pay53 v74 v76 (B.wq (back 4 c)) (headsAt (k0_off1 c 4#32) (k0_off1_inb c 4) Kc) (headsAt (k0_off1 c 4#32) (k0_off1_inb c 4) Vc)⟩)
        -∗ runs c (k0_part31 xM h0 wqInM h1 kM h2 vM h3 woInM h4 outM h5 wqM h6 woM h7 cc0_scratch2 c v74 v76 v1047) Kt) := by
  rw [k0_part31_eq_skeleton]
  simp only [k0_part31_skel, Prog.lift, Prog.bind_op, Prog.bind_ret, Prog.pure_eq_ret]
  iintro ⟨Hs04f, Hk, Hv⟩ Hpost
  iapply (load_wq B c 4 fullShare rfl) $$ Hs04f; iintro Hs04f
  iapply (load_k c (k0_off1 c 4#32) (k0_off1_inb c 4) Kc) $$ Hk; iintro Hk
  iapply (load_v c (k0_off1 c 4#32) (k0_off1_inb c 4) Vc) $$ Hv; iintro Hv
  iapply (runs_ret c)
  iapply Hpost
  isplitl [Hs04f]; · iexact Hs04f
  isplitl [Hk]; · iexact Hk
  iexact Hv

theorem part32 (v74 : IVec S1x256x256 1) (v78 : FVec F S256x512 .bf16) (v1048 : BitVec 32) (v1084 : FVec F S4x256x64 .f32) (v1086 : FVec F S256x64 .f32) (v1088 : FVec F S256x64 .f32) (v1089 : FVec F S1x256x64 .f32) (Kc : Vec F S2x32x256x64 .bf16) (a0 a1 : Vec F S1x256x512 .f32) {Kt : (Σ' (v1126 : FVec F S4x256x256 .f32), FVec F S4x256x1 .f32) → sProp 𝕄} :
    iprop(ptOut c (outB a0 a1)
        ∗ slot B 1 4 c fullShare
        ∗ slot B 0 4 c fullShare
        ∗ ptK c Kc)
      ⊢ iprop(((ptOut c (outB (k0_pay54 v1084 v1086 v1088 v1089 (B.wo (back 4 c)) a0) a1)
          ∗ slot B 1 4 c fullShare
          ∗ slot B 0 4 c fullShare
          ∗ ptK c Kc)
          -∗ Kt ⟨k0_pay55 v74 v78 (B.wq (back 4 c)) (headsAt (k0_off2 c 4#32) (k0_off2_inb c 4) Kc), k0_pay56 v74 v78 (B.wq (back 4 c)) (headsAt (k0_off2 c 4#32) (k0_off2_inb c 4) Kc)⟩)
        -∗ runs c (k0_part32 xM h0 wqInM h1 kM h2 vM h3 woInM h4 outM h5 wqM h6 woM h7 cc0_scratch2 c v74 v78 v1048 v1084 v1086 v1088 v1089) Kt) := by
  rw [k0_part32_eq_skeleton]
  simp only [k0_part32_skel, Prog.lift, Prog.bind_op, Prog.bind_ret, Prog.pure_eq_ret]
  iintro ⟨Ho, Hs14f, Hs04f, Hk⟩ Hpost
  iapply (load_wo B c 4 fullShare rfl) $$ Hs14f; iintro Hs14f
  iapply (load_out0 c a0 a1) $$ Ho; iintro Ho
  iapply (load_out0 c a0 a1) $$ Ho; iintro Ho
  iapply (store_out0 c a0 a1 (k0_pay54 v1084 v1086 v1088 v1089 (B.wo (back 4 c)) a0)) $$ Ho; iintro Ho
  iapply (load_wq B c 4 fullShare rfl) $$ Hs04f; iintro Hs04f
  iapply (load_k c (k0_off2 c 4#32) (k0_off2_inb c 4) Kc) $$ Hk; iintro Hk
  iapply (runs_ret c)
  iapply Hpost
  isplitl [Ho]; · iexact Ho
  isplitl [Hs14f]; · iexact Hs14f
  isplitl [Hs04f]; · iexact Hs04f
  iexact Hk

theorem part33 (v1048 : BitVec 32) (v1126 : FVec F S4x256x256 .f32) (v1128 : FVec F S4x256x1 .f32) (Vc : Vec F S2x32x256x64 .bf16) (a0 a1 : Vec F S1x256x512 .f32) {Kt : (PUnit) → sProp 𝕄} :
    iprop(invs B K
        ∗ opens c
        ∗ levAts L lv
        ∗ owing c []
        ∗ ptOut c (outB a0 a1)
        ∗ ptV c Vc
        ∗ slot B 1 4 c fullShare
        ∗ sent c (0, 0))
      ⊢ iprop(((owing c []
          ∗ ptOut c (outB a0 (k0_pay57 v1126 v1128 (headsAt (k0_off2 c 4#32) (k0_off2_inb c 4) Vc) (B.wo (back 4 c)) a1))
          ∗ ptV c Vc
          ∗ slot B 1 4 c fullShare
          ∗ slot B 0 0 c (qs 0)
          ∗ semVal (sendCell c (0, 0)) 0)
          -∗ Kt ⟨⟩)
        -∗ runs c (k0_part33 xM h0 wqInM h1 kM h2 vM h3 woInM h4 outM h5 wqM h6 woM h7 cc0_scratch2 c v1048 v1126 v1128) Kt) := by
  rw [k0_part33_eq_skeleton]
  simp only [k0_part33_skel, Prog.lift, Prog.bind_op, Prog.bind_ret, Prog.pure_eq_ret]
  iintro ⟨#HI, #HO, #HL, Hw, Ho, Hv, Hs14f, HT00⟩ Hpost
  iapply (load_v c (k0_off2 c 4#32) (k0_off2_inb c 4) Vc) $$ Hv; iintro Hv
  iapply (load_wo B c 4 fullShare rfl) $$ Hs14f; iintro Hs14f
  iapply (load_out1 c a0 a1) $$ Ho; iintro Ho
  iapply (load_out1 c a0 a1) $$ Ho; iintro Ho
  iapply (store_out1 c a0 a1 (k0_pay57 v1126 v1128 (headsAt (k0_off2 c 4#32) (k0_off2_inb c 4) Vc) (B.wo (back 4 c)) a1)) $$ Ho; iintro Ho
  iapply (departAt B K c 0 0 0 (src := wqS 1) (dst := wqS 0) (sR := sendS (0, 0)) rfl rfl rfl) $$ [Hw HT00]
  · isplitr; · iexact HI
    isplitl [HT00]; · iexact HT00
    iexact Hw
  iintro ⟨Hq00, Hd00, Hw⟩
  iapply (runs_ret c)
  iapply Hpost
  isplitl [Hw]; · iexact Hw
  isplitl [Ho]; · iexact Ho
  isplitl [Hv]; · iexact Hv
  isplitl [Hs14f]; · iexact Hs14f
  isplitl [Hq00]; · iexact Hq00
  iexact Hd00

theorem part34  {Kt : (PUnit) → sProp 𝕄} :
    iprop(invs B K
        ∗ opens c
        ∗ levAts L lv
        ∗ owing c []
        ∗ sent c (0, 1)
        ∗ sent c (0, 2)
        ∗ sent c (0, 3)
        ∗ sent c (0, 4))
      ⊢ iprop(((owing c []
          ∗ slot B 0 1 c (qs 1)
          ∗ semVal (sendCell c (0, 1)) 0
          ∗ slot B 0 2 c (qs 2)
          ∗ semVal (sendCell c (0, 2)) 0
          ∗ slot B 0 3 c (qs 3)
          ∗ semVal (sendCell c (0, 3)) 0
          ∗ slot B 0 0 c (qs 4)
          ∗ semVal (sendCell c (0, 4)) 0)
          -∗ Kt ⟨⟩)
        -∗ runs c (k0_part34 xM h0 wqInM h1 kM h2 vM h3 woInM h4 outM h5 wqM h6 woM h7 cc0_scratch2 ) Kt) := by
  rw [k0_part34_eq_skeleton]
  simp only [k0_part34_skel, Prog.lift, Prog.bind_op, Prog.bind_ret, Prog.pure_eq_ret]
  iintro ⟨#HI, #HO, #HL, Hw, HT01, HT02, HT03, HT04⟩ Hpost
  iapply (departAt B K c 0 1 1 (src := wqS 2) (dst := wqS 1) (sR := sendS (0, 1)) rfl rfl rfl) $$ [Hw HT01]
  · isplitr; · iexact HI
    isplitl [HT01]; · iexact HT01
    iexact Hw
  iintro ⟨Hq01, Hd01, Hw⟩
  iapply (departAt B K c 0 2 2 (src := wqS 3) (dst := wqS 2) (sR := sendS (0, 2)) rfl rfl rfl) $$ [Hw HT02]
  · isplitr; · iexact HI
    isplitl [HT02]; · iexact HT02
    iexact Hw
  iintro ⟨Hq02, Hd02, Hw⟩
  iapply (departAt B K c 0 3 3 (src := wqS 4) (dst := wqS 3) (sR := sendS (0, 3)) rfl rfl rfl) $$ [Hw HT03]
  · isplitr; · iexact HI
    isplitl [HT03]; · iexact HT03
    iexact Hw
  iintro ⟨Hq03, Hd03, Hw⟩
  iapply (departAt B K c 0 4 0 (src := wqS 7) (dst := wqS 0) (sR := sendS (0, 4)) rfl rfl rfl) $$ [Hw HT04]
  · isplitr; · iexact HI
    isplitl [HT04]; · iexact HT04
    iexact Hw
  iintro ⟨Hq04, Hd04, Hw⟩
  iapply (runs_ret c)
  iapply Hpost
  isplitl [Hw]; · iexact Hw
  isplitl [Hq01]; · iexact Hq01
  isplitl [Hd01]; · iexact Hd01
  isplitl [Hq02]; · iexact Hq02
  isplitl [Hd02]; · iexact Hd02
  isplitl [Hq03]; · iexact Hq03
  isplitl [Hd03]; · iexact Hd03
  isplitl [Hq04]; · iexact Hq04
  iexact Hd04

theorem part35  {Kt : (PUnit) → sProp 𝕄} :
    iprop(invs B K
        ∗ opens c
        ∗ levAts L lv
        ∗ owing c []
        ∗ sent c (0, 5)
        ∗ sent c (0, 6)
        ∗ sent c (1, 0)
        ∗ sent c (1, 1))
      ⊢ iprop(((owing c []
          ∗ slot B 0 7 c (qs 5)
          ∗ semVal (sendCell c (0, 5)) 0
          ∗ slot B 0 6 c (qs 6)
          ∗ semVal (sendCell c (0, 6)) 0
          ∗ slot B 1 0 c (qs 0)
          ∗ semVal (sendCell c (1, 0)) 0
          ∗ slot B 1 1 c (qs 1)
          ∗ semVal (sendCell c (1, 1)) 0)
          -∗ Kt ⟨⟩)
        -∗ runs c (k0_part35 xM h0 wqInM h1 kM h2 vM h3 woInM h4 outM h5 wqM h6 woM h7 cc0_scratch2 ) Kt) := by
  rw [k0_part35_eq_skeleton]
  simp only [k0_part35_skel, Prog.lift, Prog.bind_op, Prog.bind_ret, Prog.pure_eq_ret]
  iintro ⟨#HI, #HO, #HL, Hw, HT05, HT06, HT10, HT11⟩ Hpost
  iapply (departAt B K c 0 5 7 (src := wqS 6) (dst := wqS 7) (sR := sendS (0, 5)) rfl rfl rfl) $$ [Hw HT05]
  · isplitr; · iexact HI
    isplitl [HT05]; · iexact HT05
    iexact Hw
  iintro ⟨Hq05, Hd05, Hw⟩
  iapply (departAt B K c 0 6 6 (src := wqS 5) (dst := wqS 6) (sR := sendS (0, 6)) rfl rfl rfl) $$ [Hw HT06]
  · isplitr; · iexact HI
    isplitl [HT06]; · iexact HT06
    iexact Hw
  iintro ⟨Hq06, Hd06, Hw⟩
  iapply (departAt B K c 1 0 0 (src := woS 1) (dst := woS 0) (sR := sendS (1, 0)) rfl rfl rfl) $$ [Hw HT10]
  · isplitr; · iexact HI
    isplitl [HT10]; · iexact HT10
    iexact Hw
  iintro ⟨Hq10, Hd10, Hw⟩
  iapply (departAt B K c 1 1 1 (src := woS 2) (dst := woS 1) (sR := sendS (1, 1)) rfl rfl rfl) $$ [Hw HT11]
  · isplitr; · iexact HI
    isplitl [HT11]; · iexact HT11
    iexact Hw
  iintro ⟨Hq11, Hd11, Hw⟩
  iapply (runs_ret c)
  iapply Hpost
  isplitl [Hw]; · iexact Hw
  isplitl [Hq05]; · iexact Hq05
  isplitl [Hd05]; · iexact Hd05
  isplitl [Hq06]; · iexact Hq06
  isplitl [Hd06]; · iexact Hd06
  isplitl [Hq10]; · iexact Hq10
  isplitl [Hd10]; · iexact Hd10
  isplitl [Hq11]; · iexact Hq11
  iexact Hd11

theorem part36  {Kt : (PUnit) → sProp 𝕄} :
    iprop(invs B K
        ∗ opens c
        ∗ levAts L lv
        ∗ owing c []
        ∗ sent c (1, 2)
        ∗ sent c (1, 3)
        ∗ sent c (1, 4)
        ∗ sent c (1, 5)
        ∗ sent c (1, 6))
      ⊢ iprop(((owing c []
          ∗ slot B 1 2 c (qs 2)
          ∗ semVal (sendCell c (1, 2)) 0
          ∗ slot B 1 3 c (qs 3)
          ∗ semVal (sendCell c (1, 3)) 0
          ∗ slot B 1 0 c (qs 4)
          ∗ semVal (sendCell c (1, 4)) 0
          ∗ slot B 1 7 c (qs 5)
          ∗ semVal (sendCell c (1, 5)) 0
          ∗ slot B 1 6 c (qs 6)
          ∗ semVal (sendCell c (1, 6)) 0)
          -∗ Kt ⟨⟩)
        -∗ runs c (k0_part36 xM h0 wqInM h1 kM h2 vM h3 woInM h4 outM h5 wqM h6 woM h7 cc0_scratch2 ) Kt) := by
  rw [k0_part36_eq_skeleton]
  simp only [k0_part36_skel, Prog.lift, Prog.bind_op, Prog.bind_ret, Prog.pure_eq_ret]
  iintro ⟨#HI, #HO, #HL, Hw, HT12, HT13, HT14, HT15, HT16⟩ Hpost
  iapply (departAt B K c 1 2 2 (src := woS 3) (dst := woS 2) (sR := sendS (1, 2)) rfl rfl rfl) $$ [Hw HT12]
  · isplitr; · iexact HI
    isplitl [HT12]; · iexact HT12
    iexact Hw
  iintro ⟨Hq12, Hd12, Hw⟩
  iapply (departAt B K c 1 3 3 (src := woS 4) (dst := woS 3) (sR := sendS (1, 3)) rfl rfl rfl) $$ [Hw HT13]
  · isplitr; · iexact HI
    isplitl [HT13]; · iexact HT13
    iexact Hw
  iintro ⟨Hq13, Hd13, Hw⟩
  iapply (departAt B K c 1 4 0 (src := woS 7) (dst := woS 0) (sR := sendS (1, 4)) rfl rfl rfl) $$ [Hw HT14]
  · isplitr; · iexact HI
    isplitl [HT14]; · iexact HT14
    iexact Hw
  iintro ⟨Hq14, Hd14, Hw⟩
  iapply (departAt B K c 1 5 7 (src := woS 6) (dst := woS 7) (sR := sendS (1, 5)) rfl rfl rfl) $$ [Hw HT15]
  · isplitr; · iexact HI
    isplitl [HT15]; · iexact HT15
    iexact Hw
  iintro ⟨Hq15, Hd15, Hw⟩
  iapply (departAt B K c 1 6 6 (src := woS 5) (dst := woS 6) (sR := sendS (1, 6)) rfl rfl rfl) $$ [Hw HT16]
  · isplitr; · iexact HI
    isplitl [HT16]; · iexact HT16
    iexact Hw
  iintro ⟨Hq16, Hd16, Hw⟩
  iapply (runs_ret c)
  iapply Hpost
  isplitl [Hw]; · iexact Hw
  isplitl [Hq12]; · iexact Hq12
  isplitl [Hd12]; · iexact Hd12
  isplitl [Hq13]; · iexact Hq13
  isplitl [Hd13]; · iexact Hd13
  isplitl [Hq14]; · iexact Hq14
  isplitl [Hd14]; · iexact Hd14
  isplitl [Hq15]; · iexact Hq15
  isplitl [Hd15]; · iexact Hd15
  isplitl [Hq16]; · iexact Hq16
  iexact Hd16

end Cert.KernelIdeal
end
-- ==== Proof.Body.lean ====
/-
  The kernel's body on one device, from what it is given to what it leaves.
-/
module

public import proofs.«01_k».proof.Proof.Part1
public import proofs.«01_k».proof.Proof.PartsA
public import proofs.«01_k».proof.Proof.PartsB
public import proofs.«01_k».proof.Proof.PartsC
public import proofs.«01_k».proof.Proof.Sums

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (B : Blocks F)

local notation "𝕄" => MT nD τ sig Unit (Elt F) ℕ UU ℕ

variable (K : GSem nD τ sig → ℕ) (c : Dev nD) {h0 : xM.IsWhole} {h1 : wqInM.IsWhole} {h2 : kM.IsWhole} {h3 : vM.IsWhole}
  {h4 : woInM.IsWhole} {h5 : outM.IsWhole} {h6 : wqM.IsWhole} {h7 : woM.IsWhole}

/-- What the body starts from besides the staged blocks and what its device owes. -/
def bodyPre : sProp (MT nD τ sig Unit (Elt F) ℕ UU ℕ) :=
  iprop(dutyTok ER (barCell (lf c)) 0 true ∗ dutyTok ER (barCell (rt c)) 0 false
    ∗ cred (tallyAt (barCell c) () 2) ∗ atPos ER (barCell c) 0 ∅ 0
    ∗ (bigSep Finset.univ fun j : Hop => toSend c j) ∗ (bigSep Finset.univ fun j : Hop => toRecv c j)
    ∗ bigSep Finset.univ fun p : Fin 2 × Fin 8 => slotAny p.1 p.2 c)
/-- And what it leaves: every counter at zero and every slot whole again. -/
def bodyPost : sProp (MT nD τ sig Unit (Elt F) ℕ UU ℕ) :=
  iprop(semVal (barCell c) 0
    ∗ (bigSep Finset.univ fun j : Hop => semVal (sendCell c j) 0) ∗ (bigSep Finset.univ fun j : Hop => semVal (recvCell c j) 0)
    ∗ bigSep Finset.univ fun p : Fin 2 × Fin 8 => slot B p.1 p.2 c fullShare)

theorem hops_list (Φ : Hop → sProp 𝕄) : bigSep Finset.univ Φ = iprop(Φ (0, 0) ∗ Φ (0, 1) ∗ Φ (0, 2) ∗ Φ (0, 3) ∗ Φ (0, 4) ∗ Φ (0, 5) ∗ Φ (0, 6) ∗ Φ (1, 0) ∗ Φ (1, 1) ∗ Φ (1, 2) ∗ Φ (1, 3) ∗ Φ (1, 4) ∗ Φ (1, 5) ∗ Φ (1, 6)) :=
  bigSep_univ_eq_bigSepL [(0, 0), (0, 1), (0, 2), (0, 3), (0, 4), (0, 5), (0, 6), (1, 0), (1, 1), (1, 2), (1, 3), (1, 4), (1, 5), (1, 6)] (by decide) (by decide) _
theorem slots_list (Φ : Fin 2 × Fin 8 → sProp 𝕄) : bigSep Finset.univ Φ = iprop(Φ (0, 0) ∗ Φ (0, 1) ∗ Φ (0, 2) ∗ Φ (0, 3) ∗ Φ (0, 4) ∗ Φ (0, 5) ∗ Φ (0, 6) ∗ Φ (0, 7) ∗ Φ (1, 0) ∗ Φ (1, 1) ∗ Φ (1, 2) ∗ Φ (1, 3) ∗ Φ (1, 4) ∗ Φ (1, 5) ∗ Φ (1, 6) ∗ Φ (1, 7)) :=
  bigSep_univ_eq_bigSepL [(0, 0), (0, 1), (0, 2), (0, 3), (0, 4), (0, 5), (0, 6), (0, 7), (1, 0), (1, 1), (1, 2), (1, 3), (1, 4), (1, 5), (1, 6), (1, 7)] (by decide) (by decide) _

theorem barPay_true : barPay (F := F) c true = iprop(landing (0, 0) c ∗ landing (0, 1) c ∗ landing (0, 2) c ∗ landing (0, 3) c ∗ landing (1, 0) c ∗ landing (1, 1) c ∗ landing (1, 2) c ∗ landing (1, 3) c) := if_pos rfl
theorem barPay_false : barPay (F := F) c false = iprop(landing (0, 4) c ∗ landing (0, 5) c ∗ landing (0, 6) c ∗ landing (1, 4) c ∗ landing (1, 5) c ∗ landing (1, 6) c) := if_neg (by decide)

/-- The printed program's sums are the contributions, added. -/
theorem out_eq (X : Vec F S2x256x512 .bf16) (Kc Vc : Vec F S2x32x256x64 .bf16) :
    outB
      (k0_pay54 (k0_pay50 (k0_pay5 (iota .tc S256x256 32 [0] iota_S256x256_d0_w32) 64#32 k0_pay3 k0_pay4) (k0_pay6 (xB 0 X)) (B.wq (back 4 c)) (headsAt (k0_off1 c 4#32) (k0_off1_inb c 4) Kc) (headsAt (k0_off1 c 4#32) (k0_off1_inb c 4) Vc)) (k0_pay51 (k0_pay5 (iota .tc S256x256 32 [0] iota_S256x256_d0_w32) 64#32 k0_pay3 k0_pay4) (k0_pay6 (xB 0 X)) (B.wq (back 4 c)) (headsAt (k0_off1 c 4#32) (k0_off1_inb c 4) Kc) (headsAt (k0_off1 c 4#32) (k0_off1_inb c 4) Vc)) (k0_pay52 (k0_pay5 (iota .tc S256x256 32 [0] iota_S256x256_d0_w32) 64#32 k0_pay3 k0_pay4) (k0_pay6 (xB 0 X)) (B.wq (back 4 c)) (headsAt (k0_off1 c 4#32) (k0_off1_inb c 4) Kc) (headsAt (k0_off1 c 4#32) (k0_off1_inb c 4) Vc)) (k0_pay53 (k0_pay5 (iota .tc S256x256 32 [0] iota_S256x256_d0_w32) 64#32 k0_pay3 k0_pay4) (k0_pay6 (xB 0 X)) (B.wq (back 4 c)) (headsAt (k0_off1 c 4#32) (k0_off1_inb c 4) Kc) (headsAt (k0_off1 c 4#32) (k0_off1_inb c 4) Vc)) (B.wo (back 4 c)) ((k0_pay44 (k0_pay5 (iota .tc S256x256 32 [0] iota_S256x256_d0_w32) 64#32 k0_pay3 k0_pay4) (k0_pay43 (k0_pay6 (xB 0 X)) (B.wq (back 5 c))) (headsAt (k0_off1 c 5#32) (k0_off1_inb c 5) Kc) (headsAt (k0_off1 c 5#32) (k0_off1_inb c 5) Vc) (B.wo (back 5 c)) (k0_pay40 ((k0_pay39 (k0_pay5 (iota .tc S256x256 32 [0] iota_S256x256_d0_w32) 64#32 k0_pay3 k0_pay4) (k0_pay36 (k0_pay6 (xB 0 X)) (B.wq (back 3 c))) (k0_pay37 (k0_pay6 (xB 0 X)) (B.wq (back 3 c))) (k0_pay38 (k0_pay6 (xB 0 X)) (B.wq (back 3 c))) (headsAt (k0_off1 c 3#32) (k0_off1_inb c 3) Kc) (headsAt (k0_off1 c 3#32) (k0_off1_inb c 3) Vc) (B.wo (back 3 c)))) (k0_pay33 (k0_pay32 (k0_pay5 (iota .tc S256x256 32 [0] iota_S256x256_d0_w32) 64#32 k0_pay3 k0_pay4) (k0_pay6 (xB 0 X)) (B.wq (back 6 c)) (headsAt (k0_off1 c 6#32) (k0_off1_inb c 6) Kc)) (headsAt (k0_off1 c 6#32) (k0_off1_inb c 6) Vc) (B.wo (back 6 c)) (k0_pay25 (k0_pay5 (iota .tc S256x256 32 [0] iota_S256x256_d0_w32) 64#32 k0_pay3 k0_pay4) (k0_pay24 (k0_pay6 (xB 0 X)) (B.wq (back 2 c)) (headsAt (k0_off1 c 2#32) (k0_off1_inb c 2) Kc)) ((Scalar.ofBits .f32 0x00000000#32)) (headsAt (k0_off1 c 2#32) (k0_off1_inb c 2) Vc) (B.wo (back 2 c)) (k0_pay21 (k0_pay20 (k0_pay5 (iota .tc S256x256 32 [0] iota_S256x256_d0_w32) 64#32 k0_pay3 k0_pay4) (k0_pay6 (xB 0 X)) (B.wq (back 7 c)) (headsAt (k0_off1 c 7#32) (k0_off1_inb c 7) Kc)) (headsAt (k0_off1 c 7#32) (k0_off1_inb c 7) Vc) (B.wo (back 7 c)) (k0_pay13 (k0_pay5 (iota .tc S256x256 32 [0] iota_S256x256_d0_w32) 64#32 k0_pay3 k0_pay4) (k0_pay12 (k0_pay6 (xB 0 X)) (B.wq (back 1 c)) (headsAt (k0_off1 c 1#32) (k0_off1_inb c 1) Kc)) ((Scalar.ofBits .f32 0x00000000#32)) (headsAt (k0_off1 c 1#32) (k0_off1_inb c 1) Vc) (B.wo (back 1 c)) (k0_pay9 (k0_pay5 (iota .tc S256x256 32 [0] iota_S256x256_d0_w32) 64#32 k0_pay3 k0_pay4) (k0_pay8 (k0_pay6 (xB 0 X)) (B.wq (back 0 c)) (headsAt (k0_off1 c 0#32) (k0_off1_inb c 0) Kc)) ((Scalar.ofBits .f32 0x00000000#32)) (headsAt (k0_off1 c 0#32) (k0_off1_inb c 0) Vc) (B.wo (back 0 c)))))))))))
      (k0_pay57 (k0_pay55 (k0_pay5 (iota .tc S256x256 32 [0] iota_S256x256_d0_w32) 64#32 k0_pay3 k0_pay4) (k0_pay7 (xB 1 X)) (B.wq (back 4 c)) (headsAt (k0_off2 c 4#32) (k0_off2_inb c 4) Kc)) (k0_pay56 (k0_pay5 (iota .tc S256x256 32 [0] iota_S256x256_d0_w32) 64#32 k0_pay3 k0_pay4) (k0_pay7 (xB 1 X)) (B.wq (back 4 c)) (headsAt (k0_off2 c 4#32) (k0_off2_inb c 4) Kc)) (headsAt (k0_off2 c 4#32) (k0_off2_inb c 4) Vc) (B.wo (back 4 c)) (k0_pay49 (k0_pay45 (k0_pay5 (iota .tc S256x256 32 [0] iota_S256x256_d0_w32) 64#32 k0_pay3 k0_pay4) (k0_pay7 (xB 1 X)) (B.wq (back 5 c)) (headsAt (k0_off2 c 5#32) (k0_off2_inb c 5) Kc) (headsAt (k0_off2 c 5#32) (k0_off2_inb c 5) Vc)) (k0_pay46 (k0_pay5 (iota .tc S256x256 32 [0] iota_S256x256_d0_w32) 64#32 k0_pay3 k0_pay4) (k0_pay7 (xB 1 X)) (B.wq (back 5 c)) (headsAt (k0_off2 c 5#32) (k0_off2_inb c 5) Kc) (headsAt (k0_off2 c 5#32) (k0_off2_inb c 5) Vc)) (k0_pay47 (k0_pay5 (iota .tc S256x256 32 [0] iota_S256x256_d0_w32) 64#32 k0_pay3 k0_pay4) (k0_pay7 (xB 1 X)) (B.wq (back 5 c)) (headsAt (k0_off2 c 5#32) (k0_off2_inb c 5) Kc) (headsAt (k0_off2 c 5#32) (k0_off2_inb c 5) Vc)) (k0_pay48 (k0_pay5 (iota .tc S256x256 32 [0] iota_S256x256_d0_w32) 64#32 k0_pay3 k0_pay4) (k0_pay7 (xB 1 X)) (B.wq (back 5 c)) (headsAt (k0_off2 c 5#32) (k0_off2_inb c 5) Kc) (headsAt (k0_off2 c 5#32) (k0_off2_inb c 5) Vc)) (B.wo (back 5 c)) (k0_pay42 ((k0_pay41 (k0_pay5 (iota .tc S256x256 32 [0] iota_S256x256_d0_w32) 64#32 k0_pay3 k0_pay4) (k0_pay7 (xB 1 X)) (B.wq (back 3 c)) (headsAt (k0_off2 c 3#32) (k0_off2_inb c 3) Kc))) (headsAt (k0_off2 c 3#32) (k0_off2_inb c 3) Vc) (B.wo (back 3 c)) (k0_pay35 (k0_pay5 (iota .tc S256x256 32 [0] iota_S256x256_d0_w32) 64#32 k0_pay3 k0_pay4) ((k0_pay34 (k0_pay7 (xB 1 X)) (B.wq (back 6 c)))) (headsAt (k0_off2 c 6#32) (k0_off2_inb c 6) Kc) (headsAt (k0_off2 c 6#32) (k0_off2_inb c 6) Vc) (B.wo (back 6 c)) (k0_pay31 ((k0_pay30 (k0_pay5 (iota .tc S256x256 32 [0] iota_S256x256_d0_w32) 64#32 k0_pay3 k0_pay4) (k0_pay26 (k0_pay7 (xB 1 X)) (B.wq (back 2 c))) (k0_pay27 (k0_pay7 (xB 1 X)) (B.wq (back 2 c))) (k0_pay28 (k0_pay7 (xB 1 X)) (B.wq (back 2 c))) (k0_pay29 (k0_pay7 (xB 1 X)) (B.wq (back 2 c))) (headsAt (k0_off2 c 2#32) (k0_off2_inb c 2) Kc) (headsAt (k0_off2 c 2#32) (k0_off2_inb c 2) Vc) (B.wo (back 2 c)))) (k0_pay23 (k0_pay5 (iota .tc S256x256 32 [0] iota_S256x256_d0_w32) 64#32 k0_pay3 k0_pay4) ((k0_pay22 (k0_pay7 (xB 1 X)) (B.wq (back 7 c)))) (headsAt (k0_off2 c 7#32) (k0_off2_inb c 7) Kc) (headsAt (k0_off2 c 7#32) (k0_off2_inb c 7) Vc) (B.wo (back 7 c)) (k0_pay19 ((k0_pay18 (k0_pay5 (iota .tc S256x256 32 [0] iota_S256x256_d0_w32) 64#32 k0_pay3 k0_pay4) (k0_pay14 (k0_pay7 (xB 1 X)) (B.wq (back 1 c))) (k0_pay15 (k0_pay7 (xB 1 X)) (B.wq (back 1 c))) (k0_pay16 (k0_pay7 (xB 1 X)) (B.wq (back 1 c))) (k0_pay17 (k0_pay7 (xB 1 X)) (B.wq (back 1 c))) (headsAt (k0_off2 c 1#32) (k0_off2_inb c 1) Kc) (headsAt (k0_off2 c 1#32) (k0_off2_inb c 1) Vc) (B.wo (back 1 c)))) (k0_pay11 (k0_pay5 (iota .tc S256x256 32 [0] iota_S256x256_d0_w32) 64#32 k0_pay3 k0_pay4) ((k0_pay10 (k0_pay7 (xB 1 X)) (B.wq (back 0 c)))) (headsAt (k0_off2 c 0#32) (k0_off2_inb c 0) Kc) (headsAt (k0_off2 c 0#32) (k0_off2_inb c 0) Vc) (B.wo (back 0 c))))))))))
      = outOf B c X Kc Vc := by
  simp only [chain_0_0, chain_0_1, chain_1_0, chain_1_1, chain_2_0, chain_2_1, chain_3_0, chain_3_1, chain_4_0, chain_4_1, chain_5_0, chain_5_1, chain_6_0, chain_6_1, chain_7_0, chain_7_1]
  rfl

set_option maxHeartbeats 4000000 in
theorem body_run (X : Vec F S2x256x512 .bf16) (Kc Vc : Vec F S2x32x256x64 .bf16) (f : Vec F S2x256x512 .f32) (W : Waits sig Unit)
    {Kt : PUnit → sProp 𝕄} :
    iprop(invs B K ∗ opens c ∗ levAts L lv ∗ owes (c : Thread nD τ) (O₀ c) W ∗ bodyPre c
        ∗ ptX c X ∗ ptWq c (B.wq c) ∗ ptK c Kc ∗ ptV c Vc ∗ ptWo c (B.wo c) ∗ ptOut c f)
      ⊢ iprop(((owing c [] ∗ bodyPost B c ∗ ptX c X ∗ ptWq c (B.wq c) ∗ ptK c Kc ∗ ptV c Vc ∗ ptWo c (B.wo c)
            ∗ ptOut c (outOf B c X Kc Vc)) -∗ Kt ⟨⟩)
        -∗ runs c (cc0_body xM h0 wqInM h1 kM h2 vM h3 woInM h4 outM h5 wqM h6 woM h7 cc0_scratch2) Kt) := by
  rw [cc0_body_eq_skeleton, outB_eta f]
  unfold cc0_body_skel bodyPre bodyPost
  rw [hops_list, hops_list, hops_list, hops_list, slots_list, slots_list]
  iintro ⟨#HI, #HO, #HL, Hw, ⟨Htl, Htr, Hcr, Hat, ⟨HS00, HS01, HS02, HS03, HS04, HS05, HS06, HS10, HS11, HS12, HS13, HS14, HS15, HS16⟩, ⟨HR00, HR01, HR02, HR03, HR04, HR05, HR06, HR10, HR11, HR12, HR13, HR14, HR15, HR16⟩, Ha00, Ha01, Ha02, Ha03, Ha04, Ha05, Ha06, Ha07, Ha10, Ha11, Ha12, Ha13, Ha14, Ha15, Ha16, Ha17⟩, Hx, HwqI, Hk, Hv, HwoI, Ho⟩ Hpost
  iapply (runs_bind c)
  iapply (part1 B K c W) $$ [Hw Htl Htr Hcr Hat HwqI HwoI Ha00 Ha01 Ha02 Ha03 Ha04 Ha07 Ha06 Ha05 Ha10 Ha11 Ha12 Ha13 Ha14 Ha17 Ha16 Ha15]
  · isplitr; · iexact HI
    isplitr; · iexact HO
    isplitr; · iexact HL
    isplitl [Hw]; · iexact Hw
    isplitl [Htl]; · iexact Htl
    isplitl [Htr]; · iexact Htr
    isplitl [Hcr]; · iexact Hcr
    isplitl [Hat]; · iexact Hat
    isplitl [HwqI]; · iexact HwqI
    isplitl [HwoI]; · iexact HwoI
    isplitl [Ha00]; · iexact Ha00
    isplitl [Ha01]; · iexact Ha01
    isplitl [Ha02]; · iexact Ha02
    isplitl [Ha03]; · iexact Ha03
    isplitl [Ha04]; · iexact Ha04
    isplitl [Ha07]; · iexact Ha07
    isplitl [Ha06]; · iexact Ha06
    isplitl [Ha05]; · iexact Ha05
    isplitl [Ha10]; · iexact Ha10
    isplitl [Ha11]; · iexact Ha11
    isplitl [Ha12]; · iexact Ha12
    isplitl [Ha13]; · iexact Ha13
    isplitl [Ha14]; · iexact Ha14
    isplitl [Ha17]; · iexact Ha17
    isplitl [Ha16]; · iexact Ha16
    iexact Ha15
  iintro ⟨Hw, Hb, HwqI, HwoI, Hs00f, Hs10f, Hp1, Hp2⟩
  iintro %v2 %v4 %v7
  ihave Hp1 := (Entails.of_eq (barPay_true c)) $$ Hp1
  ihave Hp2 := (Entails.of_eq (barPay_false c)) $$ Hp2
  icases Hp1 with ⟨HD00, HD01, HD02, HD03, HD10, HD11, HD12, HD13⟩
  icases Hp2 with ⟨HD04, HD05, HD06, HD14, HD15, HD16⟩
  try dsimp only
  iapply (runs_bind c)
  iapply (part2 c)
  try dsimp only
  iapply (runs_bind c)
  iapply (part3 B K c _ _ X) $$ [Hw Hx Hs00f HS00 HD00 HS04 HD04]
  · isplitr; · iexact HI
    isplitr; · iexact HO
    isplitr; · iexact HL
    isplitl [Hw]; · iexact Hw
    isplitl [Hx]; · iexact Hx
    isplitl [Hs00f]; · iexact Hs00f
    isplitl [HS00]; · iexact HS00
    isplitl [HD00]; · iexact HD00
    isplitl [HS04]; · iexact HS04
    iexact HD04
  iintro ⟨Hw, Hx, Hs00r, HT00, HT04⟩
  try dsimp only
  iapply (runs_bind c)
  iapply (part4 B K c _ _ _ Kc) $$ [Hw Hs10f HS10 HD10 HS14 HD14 Hs00r Hk]
  · isplitr; · iexact HI
    isplitr; · iexact HO
    isplitr; · iexact HL
    isplitl [Hw]; · iexact Hw
    isplitl [Hs10f]; · iexact Hs10f
    isplitl [HS10]; · iexact HS10
    isplitl [HD10]; · iexact HD10
    isplitl [HS14]; · iexact HS14
    isplitl [HD14]; · iexact HD14
    isplitl [Hs00r]; · iexact Hs00r
    iexact Hk
  iintro ⟨Hw, Hs10r, HT10, HT14, Hs00r, Hk⟩
  try dsimp only
  iapply (runs_bind c)
  iapply (part5 B c _ _ _ _ _ Vc _ _) $$ [Ho Hv Hs10r Hs00r]
  · isplitl [Ho]; · iexact Ho
    isplitl [Hv]; · iexact Hv
    isplitl [Hs10r]; · iexact Hs10r
    iexact Hs00r
  iintro ⟨Ho, Hv, Hs10r, Hs00r⟩
  try dsimp only
  iapply (runs_bind c)
  iapply (part6 B c _ _ _ Kc Vc _ _) $$ [Ho Hk Hv Hs10r]
  · isplitl [Ho]; · iexact Ho
    isplitl [Hk]; · iexact Hk
    isplitl [Hv]; · iexact Hv
    iexact Hs10r
  iintro ⟨Ho, Hk, Hv, Hs10r⟩
  try dsimp only
  iapply (runs_bind c)
  iapply (part7 B K c _ ) $$ [Hw HR00 HS01 HD01 HR10]
  · isplitr; · iexact HI
    isplitr; · iexact HO
    isplitr; · iexact HL
    isplitl [Hw]; · iexact Hw
    isplitl [HR00]; · iexact HR00
    isplitl [HS01]; · iexact HS01
    isplitl [HD01]; · iexact HD01
    iexact HR10
  iintro ⟨Hw, Hc00, Hs01r, HT01, Hs11f, Hc10⟩
  try dsimp only
  iapply (runs_bind c)
  iapply (part8 B K c _ _ _ ) $$ [Hw Hs11f HS11 HD11 HR04 HS05 HD05]
  · isplitr; · iexact HI
    isplitr; · iexact HO
    isplitr; · iexact HL
    isplitl [Hw]; · iexact Hw
    isplitl [Hs11f]; · iexact Hs11f
    isplitl [HS11]; · iexact HS11
    isplitl [HD11]; · iexact HD11
    isplitl [HR04]; · iexact HR04
    isplitl [HS05]; · iexact HS05
    iexact HD05
  iintro ⟨Hw, Hs11r, HT11, Hc04, Hs07r, HT05⟩
  try dsimp only
  iapply (runs_bind c)
  iapply (part9 B K c _ _ _ Kc) $$ [Hw HR14 HS15 HD15 Hs01r Hk]
  · isplitr; · iexact HI
    isplitr; · iexact HO
    isplitr; · iexact HL
    isplitl [Hw]; · iexact Hw
    isplitl [HR14]; · iexact HR14
    isplitl [HS15]; · iexact HS15
    isplitl [HD15]; · iexact HD15
    isplitl [Hs01r]; · iexact Hs01r
    iexact Hk
  iintro ⟨Hw, Hc14, Hs17r, HT15, Hs01r, Hk⟩
  try dsimp only
  iapply (runs_bind c)
  iapply (part10 B c _ _ _ _ _ Vc _ _) $$ [Ho Hv Hs11r Hs01r]
  · isplitl [Ho]; · iexact Ho
    isplitl [Hv]; · iexact Hv
    isplitl [Hs11r]; · iexact Hs11r
    iexact Hs01r
  iintro ⟨Ho, Hv, Hs11r, Hs01r⟩
  try dsimp only
  iapply (runs_bind c)
  iapply (part11 B c _ _ _ _ _ _ Kc Vc) $$ [Hk Hv Hs11r]
  · isplitl [Hk]; · iexact Hk
    isplitl [Hv]; · iexact Hv
    iexact Hs11r
  iintro ⟨Hk, Hv, Hs11r⟩
  try dsimp only
  iapply (runs_bind c)
  iapply (part12 B c _ _ _ _ Kc _ _) $$ [Ho Hs07r Hk]
  · isplitl [Ho]; · iexact Ho
    isplitl [Hs07r]; · iexact Hs07r
    iexact Hk
  iintro ⟨Ho, Hs07r, Hk⟩
  try dsimp only
  iapply (runs_bind c)
  iapply (part13 B c _ _ _ Vc _ _) $$ [Ho Hv Hs17r Hs07r]
  · isplitl [Ho]; · iexact Ho
    isplitl [Hv]; · iexact Hv
    isplitl [Hs17r]; · iexact Hs17r
    iexact Hs07r
  iintro ⟨Ho, Hv, Hs17r, Hs07r⟩
  try dsimp only
  iapply (runs_bind c)
  iapply (part14 B c _ _ _ Kc Vc _ _) $$ [Ho Hk Hv Hs17r]
  · isplitl [Ho]; · iexact Ho
    isplitl [Hk]; · iexact Hk
    isplitl [Hv]; · iexact Hv
    iexact Hs17r
  iintro ⟨Ho, Hk, Hv, Hs17r⟩
  try dsimp only
  iapply (runs_bind c)
  iapply (part15 B K c _ ) $$ [Hw HR01 HS02 HD02 HR11]
  · isplitr; · iexact HI
    isplitr; · iexact HO
    isplitr; · iexact HL
    isplitl [Hw]; · iexact Hw
    isplitl [HR01]; · iexact HR01
    isplitl [HS02]; · iexact HS02
    isplitl [HD02]; · iexact HD02
    iexact HR11
  iintro ⟨Hw, Hc01, Hs02r, HT02, Hs12f, Hc11⟩
  try dsimp only
  iapply (runs_bind c)
  iapply (part16 B K c _ _ _ ) $$ [Hw Hs12f HS12 HD12 HR05 HS06 HD06]
  · isplitr; · iexact HI
    isplitr; · iexact HO
    isplitr; · iexact HL
    isplitl [Hw]; · iexact Hw
    isplitl [Hs12f]; · iexact Hs12f
    isplitl [HS12]; · iexact HS12
    isplitl [HD12]; · iexact HD12
    isplitl [HR05]; · iexact HR05
    isplitl [HS06]; · iexact HS06
    iexact HD06
  iintro ⟨Hw, Hs12r, HT12, Hc05, Hs06r, HT06⟩
  try dsimp only
  iapply (runs_bind c)
  iapply (part17 B K c _ _ _ Kc) $$ [Hw HR15 HS16 HD16 Hs02r Hk]
  · isplitr; · iexact HI
    isplitr; · iexact HO
    isplitr; · iexact HL
    isplitl [Hw]; · iexact Hw
    isplitl [HR15]; · iexact HR15
    isplitl [HS16]; · iexact HS16
    isplitl [HD16]; · iexact HD16
    isplitl [Hs02r]; · iexact Hs02r
    iexact Hk
  iintro ⟨Hw, Hc15, Hs16r, HT16, Hs02r, Hk⟩
  try dsimp only
  iapply (runs_bind c)
  iapply (part18 B c _ _ _ _ _ Vc _ _) $$ [Ho Hv Hs12r Hs02r]
  · isplitl [Ho]; · iexact Ho
    isplitl [Hv]; · iexact Hv
    isplitl [Hs12r]; · iexact Hs12r
    iexact Hs02r
  iintro ⟨Ho, Hv, Hs12r, Hs02r⟩
  try dsimp only
  iapply (runs_bind c)
  iapply (part19 B c _ _ _ _ _ _ Kc Vc) $$ [Hk Hv Hs12r]
  · isplitl [Hk]; · iexact Hk
    isplitl [Hv]; · iexact Hv
    iexact Hs12r
  iintro ⟨Hk, Hv, Hs12r⟩
  try dsimp only
  iapply (runs_bind c)
  iapply (part20 B c _ _ _ _ Kc _ _) $$ [Ho Hs06r Hk]
  · isplitl [Ho]; · iexact Ho
    isplitl [Hs06r]; · iexact Hs06r
    iexact Hk
  iintro ⟨Ho, Hs06r, Hk⟩
  try dsimp only
  iapply (runs_bind c)
  iapply (part21 B c _ _ _ Vc _ _) $$ [Ho Hv Hs16r Hs06r]
  · isplitl [Ho]; · iexact Ho
    isplitl [Hv]; · iexact Hv
    isplitl [Hs16r]; · iexact Hs16r
    iexact Hs06r
  iintro ⟨Ho, Hv, Hs16r, Hs06r⟩
  try dsimp only
  iapply (runs_bind c)
  iapply (part22 B c _ _ _ Kc Vc _ _) $$ [Ho Hk Hv Hs16r]
  · isplitl [Ho]; · iexact Ho
    isplitl [Hk]; · iexact Hk
    isplitl [Hv]; · iexact Hv
    iexact Hs16r
  iintro ⟨Ho, Hk, Hv, Hs16r⟩
  try dsimp only
  iapply (runs_bind c)
  iapply (part23 B K c _ ) $$ [Hw HR02 HS03 HD03 HR12]
  · isplitr; · iexact HI
    isplitr; · iexact HO
    isplitr; · iexact HL
    isplitl [Hw]; · iexact Hw
    isplitl [HR02]; · iexact HR02
    isplitl [HS03]; · iexact HS03
    isplitl [HD03]; · iexact HD03
    iexact HR12
  iintro ⟨Hw, Hc02, Hs03r, HT03, Hs13f, Hc12⟩
  try dsimp only
  iapply (runs_bind c)
  iapply (part24 B K c _ _ _ _ _ ) $$ [Hw Hs13f HS13 HD13 HR06 HR16 Hs03r]
  · isplitr; · iexact HI
    isplitr; · iexact HO
    isplitr; · iexact HL
    isplitl [Hw]; · iexact Hw
    isplitl [Hs13f]; · iexact Hs13f
    isplitl [HS13]; · iexact HS13
    isplitl [HD13]; · iexact HD13
    isplitl [HR06]; · iexact HR06
    isplitl [HR16]; · iexact HR16
    iexact Hs03r
  iintro ⟨Hw, Hs13r, HT13, Hs05f, Hc06, Hs15f, Hc16, Hs03r⟩
  try dsimp only
  iapply (runs_bind c)
  iapply (part25 B c _ _ _ _ _ Kc Vc) $$ [Hk Hv Hs13r]
  · isplitl [Hk]; · iexact Hk
    isplitl [Hv]; · iexact Hv
    iexact Hs13r
  iintro ⟨Hk, Hv, Hs13r⟩
  try dsimp only
  iapply (runs_bind c)
  iapply (part26 B c _ _ _ _ Kc _ _) $$ [Ho Hs03r Hk]
  · isplitl [Ho]; · iexact Ho
    isplitl [Hs03r]; · iexact Hs03r
    iexact Hk
  iintro ⟨Ho, Hs03r, Hk⟩
  try dsimp only
  iapply (runs_bind c)
  iapply (part27 B c _ _ _ Vc _ _) $$ [Ho Hv Hs13r Hs05f]
  · isplitl [Ho]; · iexact Ho
    isplitl [Hv]; · iexact Hv
    isplitl [Hs13r]; · iexact Hs13r
    iexact Hs05f
  iintro ⟨Ho, Hv, Hs13r, Hs05f⟩
  try dsimp only
  iapply (runs_bind c)
  iapply (part28 B c _ _ _ Kc Vc _ _) $$ [Ho Hk Hv Hs15f]
  · isplitl [Ho]; · iexact Ho
    isplitl [Hk]; · iexact Hk
    isplitl [Hv]; · iexact Hv
    iexact Hs15f
  iintro ⟨Ho, Hk, Hv, Hs15f⟩
  try dsimp only
  iapply (runs_bind c)
  iapply (part29 B c _ _ _ _ Kc Vc _ _) $$ [Ho Hs05f Hk Hv]
  · isplitl [Ho]; · iexact Ho
    isplitl [Hs05f]; · iexact Hs05f
    isplitl [Hk]; · iexact Hk
    iexact Hv
  iintro ⟨Ho, Hs05f, Hk, Hv⟩
  try dsimp only
  iapply (runs_bind c)
  iapply (part30 B K c _ _ _ _ _ _ _ _) $$ [Hw Ho Hs15f HR03 HR13]
  · isplitr; · iexact HI
    isplitr; · iexact HO
    isplitr; · iexact HL
    isplitl [Hw]; · iexact Hw
    isplitl [Ho]; · iexact Ho
    isplitl [Hs15f]; · iexact Hs15f
    isplitl [HR03]; · iexact HR03
    iexact HR13
  iintro ⟨Hw, Ho, Hs15f, Hs04f, Hc03, Hs14f, Hc13⟩
  try dsimp only
  iapply (runs_bind c)
  iapply (part31 B c _ _ _ Kc Vc) $$ [Hs04f Hk Hv]
  · isplitl [Hs04f]; · iexact Hs04f
    isplitl [Hk]; · iexact Hk
    iexact Hv
  iintro ⟨Hs04f, Hk, Hv⟩
  try dsimp only
  iapply (runs_bind c)
  iapply (part32 B c _ _ _ _ _ _ _ Kc _ _) $$ [Ho Hs14f Hs04f Hk]
  · isplitl [Ho]; · iexact Ho
    isplitl [Hs14f]; · iexact Hs14f
    isplitl [Hs04f]; · iexact Hs04f
    iexact Hk
  iintro ⟨Ho, Hs14f, Hs04f, Hk⟩
  try dsimp only
  iapply (runs_bind c)
  iapply (part33 B K c _ _ _ Vc _ _) $$ [Hw Ho Hv Hs14f HT00]
  · isplitr; · iexact HI
    isplitr; · iexact HO
    isplitr; · iexact HL
    isplitl [Hw]; · iexact Hw
    isplitl [Ho]; · iexact Ho
    isplitl [Hv]; · iexact Hv
    isplitl [Hs14f]; · iexact Hs14f
    iexact HT00
  iintro ⟨Hw, Ho, Hv, Hs14f, Hq00, Hd00⟩
  try dsimp only
  iapply (runs_bind c)
  iapply (part34 B K c ) $$ [Hw HT01 HT02 HT03 HT04]
  · isplitr; · iexact HI
    isplitr; · iexact HO
    isplitr; · iexact HL
    isplitl [Hw]; · iexact Hw
    isplitl [HT01]; · iexact HT01
    isplitl [HT02]; · iexact HT02
    isplitl [HT03]; · iexact HT03
    iexact HT04
  iintro ⟨Hw, Hq01, Hd01, Hq02, Hd02, Hq03, Hd03, Hq04, Hd04⟩
  try dsimp only
  iapply (runs_bind c)
  iapply (part35 B K c ) $$ [Hw HT05 HT06 HT10 HT11]
  · isplitr; · iexact HI
    isplitr; · iexact HO
    isplitr; · iexact HL
    isplitl [Hw]; · iexact Hw
    isplitl [HT05]; · iexact HT05
    isplitl [HT06]; · iexact HT06
    isplitl [HT10]; · iexact HT10
    iexact HT11
  iintro ⟨Hw, Hq05, Hd05, Hq06, Hd06, Hq10, Hd10, Hq11, Hd11⟩
  try dsimp only
  iapply (runs_bind c)
  iapply (part36 B K c ) $$ [Hw HT12 HT13 HT14 HT15 HT16]
  · isplitr; · iexact HI
    isplitr; · iexact HO
    isplitr; · iexact HL
    isplitl [Hw]; · iexact Hw
    isplitl [HT12]; · iexact HT12
    isplitl [HT13]; · iexact HT13
    isplitl [HT14]; · iexact HT14
    isplitl [HT15]; · iexact HT15
    iexact HT16
  iintro ⟨Hw, Hq12, Hd12, Hq13, Hd13, Hq14, Hd14, Hq15, Hd15, Hq16, Hd16⟩
  try dsimp only
  iapply (runs_ret c)
  iapply Hpost
  isplitl [Hw]; · iexact Hw
  isplitl [Hb Hd00 Hd01 Hd02 Hd03 Hd04 Hd05 Hd06 Hd10 Hd11 Hd12 Hd13 Hd14 Hd15 Hd16 Hc00 Hc01 Hc02 Hc03 Hc04 Hc05 Hc06 Hc10 Hc11 Hc12 Hc13 Hc14 Hc15 Hc16 Hq00 Hq04 Hs00r Hq01 Hs01r Hq02 Hs02r Hq03 Hs03r Hs04f Hs05f Hq06 Hs06r Hq05 Hs07r Hq10 Hq14 Hs10r Hq11 Hs11r Hq12 Hs12r Hq13 Hs13r Hs14f Hs15f Hq16 Hs16r Hq15 Hs17r]
  · isplitl [Hb]; · iexact Hb
    isplitl [Hd00 Hd01 Hd02 Hd03 Hd04 Hd05 Hd06 Hd10 Hd11 Hd12 Hd13 Hd14 Hd15 Hd16]
    · isplitl [Hd00]; · iexact Hd00
      isplitl [Hd01]; · iexact Hd01
      isplitl [Hd02]; · iexact Hd02
      isplitl [Hd03]; · iexact Hd03
      isplitl [Hd04]; · iexact Hd04
      isplitl [Hd05]; · iexact Hd05
      isplitl [Hd06]; · iexact Hd06
      isplitl [Hd10]; · iexact Hd10
      isplitl [Hd11]; · iexact Hd11
      isplitl [Hd12]; · iexact Hd12
      isplitl [Hd13]; · iexact Hd13
      isplitl [Hd14]; · iexact Hd14
      isplitl [Hd15]; · iexact Hd15
      iexact Hd16
    isplitl [Hc00 Hc01 Hc02 Hc03 Hc04 Hc05 Hc06 Hc10 Hc11 Hc12 Hc13 Hc14 Hc15 Hc16]
    · isplitl [Hc00]; · iexact Hc00
      isplitl [Hc01]; · iexact Hc01
      isplitl [Hc02]; · iexact Hc02
      isplitl [Hc03]; · iexact Hc03
      isplitl [Hc04]; · iexact Hc04
      isplitl [Hc05]; · iexact Hc05
      isplitl [Hc06]; · iexact Hc06
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      iexact Hc16
    isplitl [Hq00 Hq04 Hs00r]
    · iapply (slot_third_back B 0 c); (isplitl [Hq00]; · iexact Hq00); (isplitl [Hq04]; · iexact Hq04); iexact Hs00r
    isplitl [Hq01 Hs01r]
    · iapply (slot_two_back B 0 1 c 1 (by decide)); (isplitl [Hq01]; · iexact Hq01); iexact Hs01r
    isplitl [Hq02 Hs02r]
    · iapply (slot_two_back B 0 2 c 2 (by decide)); (isplitl [Hq02]; · iexact Hq02); iexact Hs02r
    isplitl [Hq03 Hs03r]
    · iapply (slot_two_back B 0 3 c 3 (by decide)); (isplitl [Hq03]; · iexact Hq03); iexact Hs03r
    isplitl [Hs04f]
    · iexact Hs04f
    isplitl [Hs05f]
    · iexact Hs05f
    isplitl [Hq06 Hs06r]
    · iapply (slot_two_back B 0 6 c 6 (by decide)); (isplitl [Hq06]; · iexact Hq06); iexact Hs06r
    isplitl [Hq05 Hs07r]
    · iapply (slot_two_back B 0 7 c 5 (by decide)); (isplitl [Hq05]; · iexact Hq05); iexact Hs07r
    isplitl [Hq10 Hq14 Hs10r]
    · iapply (slot_third_back B 1 c); (isplitl [Hq10]; · iexact Hq10); (isplitl [Hq14]; · iexact Hq14); iexact Hs10r
    isplitl [Hq11 Hs11r]
    · iapply (slot_two_back B 1 1 c 1 (by decide)); (isplitl [Hq11]; · iexact Hq11); iexact Hs11r
    isplitl [Hq12 Hs12r]
    · iapply (slot_two_back B 1 2 c 2 (by decide)); (isplitl [Hq12]; · iexact Hq12); iexact Hs12r
    isplitl [Hq13 Hs13r]
    · iapply (slot_two_back B 1 3 c 3 (by decide)); (isplitl [Hq13]; · iexact Hq13); iexact Hs13r
    isplitl [Hs14f]
    · iexact Hs14f
    isplitl [Hs15f]
    · iexact Hs15f
    isplitl [Hq16 Hs16r]
    · iapply (slot_two_back B 1 6 c 6 (by decide)); (isplitl [Hq16]; · iexact Hq16); iexact Hs16r
    · iapply (slot_two_back B 1 7 c 5 (by decide)); (isplitl [Hq15]; · iexact Hq15); iexact Hs17r
  isplitl [Hx]; · iexact Hx
  isplitl [HwqI]; · iexact HwqI
  isplitl [Hk]; · iexact Hk
  isplitl [Hv]; · iexact Hv
  isplitl [HwoI]; · iexact HwoI
  iapply (Entails.of_eq (congrArg (ptOut (F := F) c) (out_eq B c X Kc Vc))) $$ Ho

end Cert.KernelIdeal
end
-- ==== Proof.Region.lean ====
/-
  The kernel as a region of the program: what it is entered with, what its one grid point does, and what it leaves.
-/
module

public import proofs.«01_k».proof.Proof.Body
public import proofs.«01_k».proof.Proof.Gen.KernelIdeal.Points
public import Idealize.ShloMosaic.Lib.Ring
public import Idealize.ShloMosaic.Lib.ReshapeSlab
public import Idealize.ShloMosaic.Lib.Pipeline.ValueKit

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

/-! ## A gather buffer is its eight slots -/

/-- The elements of slot `r` of the first gather buffer; of the second. -/
abbrev setQ (c : Dev nD) (r : Fin 8) : Finset (Idx ((c : Thread nD τ).loc cc0_scratch0)) := (wqS r).view.set
abbrev setO (c : Dev nD) (r : Fin 8) : Finset (Idx ((c : Thread nD τ).loc cc0_scratch1)) := (woS r).view.set

theorem slotsQ_disjoint (c : Dev nD) (r r' : Fin 8) (h : r ≠ r') : Disjoint (setQ c r) (setQ c r') := by
  have h' : r.val ≠ r'.val := fun e => h (Fin.ext e)
  refine View.disjoint_slice_of_sep (View.whole cc0_scratch0) (rectQ r) (rectQ r') (1 : Fin 2) rfl rfl ?_
  show 256 * r.val + 256 ≤ 256 * r'.val ∨ 256 * r'.val + 256 ≤ 256 * r.val
  omega
theorem slotsO_disjoint (c : Dev nD) (r r' : Fin 8) (h : r ≠ r') : Disjoint (setO c r) (setO c r') := by
  have h' : r.val ≠ r'.val := fun e => h (Fin.ext e)
  refine View.disjoint_slice_of_sep (View.whole cc0_scratch1) (rectO r) (rectO r') (0 : Fin 2) rfl rfl ?_
  show 256 * r.val + 256 ≤ 256 * r'.val ∨ 256 * r'.val + 256 ≤ 256 * r.val
  omega
theorem slotsQ_cover (c : Dev nD) : (Finset.univ : Finset (Fin 8)).biUnion (setQ c) = Finset.univ := by
  ext i
  simp only [Finset.mem_biUnion, Finset.mem_univ, true_and, iff_true]
  have h0 : (i 0).val < 512 := (i 0).isLt
  have h1 : (i 1).val < 2048 := (i 1).isLt
  refine ⟨⟨(i 1).val / 256, by omega⟩, ?_⟩
  refine (ValueKit.mem_set_slice_whole_iff cc0_scratch0 (rectQ _) i Rect.mem_set_unit).mpr ?_
  intro a
  match a with
  | ⟨0, _⟩ => exact ⟨Nat.zero_le _, by show (i 0).val < 0 + 512; omega⟩
  | ⟨1, _⟩ =>
    exact ⟨by show 256 * ((i 1).val / 256) ≤ (i 1).val; omega, by show (i 1).val < 256 * ((i 1).val / 256) + 256; omega⟩
theorem slotsO_cover (c : Dev nD) : (Finset.univ : Finset (Fin 8)).biUnion (setO c) = Finset.univ := by
  ext i
  simp only [Finset.mem_biUnion, Finset.mem_univ, true_and, iff_true]
  have h0 : (i 0).val < 2048 := (i 0).isLt
  have h1 : (i 1).val < 512 := (i 1).isLt
  refine ⟨⟨(i 0).val / 256, by omega⟩, ?_⟩
  refine (ValueKit.mem_set_slice_whole_iff cc0_scratch1 (rectO _) i Rect.mem_set_unit).mpr ?_
  intro a
  match a with
  | ⟨0, _⟩ =>
    exact ⟨by show 256 * ((i 0).val / 256) ≤ (i 0).val; omega, by show (i 0).val < 256 * ((i 0).val / 256) + 256; omega⟩
  | ⟨1, _⟩ => exact ⟨Nat.zero_le _, by show (i 1).val < 0 + 512; omega⟩

/-- The two gather buffers, each whole at contents not chosen. -/
def gathers (c : Dev nD) : sProp (MT nD τ sig Unit (Elt F) ℕ UU ℕ) :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Taken apart, they are the sixteen slots; -/
theorem gathers_slots (c : Dev nD) :
    gathers (F := F) c ⊢ bigSep Finset.univ fun p : Fin 2 × Fin 8 => slotAny p.1 p.2 c := by
  have hq1 (f : Buf (Elt F) ((c : Thread nD τ).loc cc0_scratch0)) (r : Fin 8) :
      (((c : Thread nD τ).loc cc0_scratch0) ↦[setQ c r]{fullShare} f : sProp 𝕄) ⊢ slotAny 0 r c := by
    rw [slotAny_zero]; iintro H; iexists f; iexact H
  have hq (f : Buf (Elt F) ((c : Thread nD τ).loc cc0_scratch0)) :
      (((c : Thread nD τ).loc cc0_scratch0) ↦{fullShare} f : sProp 𝕄) ⊢ bigSep Finset.univ fun r : Fin 8 => slotAny 0 r c := by
    rw [Ring.pointsTo_blocks (setQ c) (slotsQ_disjoint c) (slotsQ_cover c) f]
    exact bigSep_mono fun r _ => hq1 f r
  have ho1 (f : Buf (Elt F) ((c : Thread nD τ).loc cc0_scratch1)) (r : Fin 8) :
      (((c : Thread nD τ).loc cc0_scratch1) ↦[setO c r]{fullShare} f : sProp 𝕄) ⊢ slotAny 1 r c := by
    rw [slotAny_one]; iintro H; iexists f; iexact H
  have ho (f : Buf (Elt F) ((c : Thread nD τ).loc cc0_scratch1)) :
      (((c : Thread nD τ).loc cc0_scratch1) ↦{fullShare} f : sProp 𝕄) ⊢ bigSep Finset.univ fun r : Fin 8 => slotAny 1 r c := by
    rw [Ring.pointsTo_blocks (setO c) (slotsO_disjoint c) (slotsO_cover c) f]
    exact bigSep_mono fun r _ => ho1 f r
  rw [bigSep_univ_prod, bigSep_fin_two]
  unfold gathers
  show _ ⊢ iprop((bigSep Finset.univ fun r : Fin 8 => slotAny 0 r c) ∗ bigSep Finset.univ fun r : Fin 8 => slotAny 1 r c)
  iintro ⟨⟨%f, Hq⟩, ⟨%g, Ho⟩⟩
  isplitl [Hq]
  · iapply (hq f); iexact Hq
  · iapply (ho g); iexact Ho

/-- and the slots, whatever they hold, are the buffers again. -/
theorem slots_gathers (B : Blocks F) (c : Dev nD) :
    (bigSep Finset.univ fun p : Fin 2 × Fin 8 => slot B p.1 p.2 c fullShare) ⊢ gathers (F := F) c := by
  have hq : (bigSep Finset.univ fun r : Fin 8 => slot B 0 r c fullShare)
      ⊢ (((c : Thread nD τ).loc cc0_scratch0) ↦{fullShare} (WqG B c : Buf (Elt F) ((c : Thread nD τ).loc cc0_scratch0)) : sProp 𝕄) := by
    rw [Ring.pointsTo_blocks (setQ c) (slotsQ_disjoint c) (slotsQ_cover c)]
    exact bigSep_mono fun r _ => by rw [slot_zero]; exact BI.Entails.refl _
  have ho : (bigSep Finset.univ fun r : Fin 8 => slot B 1 r c fullShare)
      ⊢ (((c : Thread nD τ).loc cc0_scratch1) ↦{fullShare} (WoG B c : Buf (Elt F) ((c : Thread nD τ).loc cc0_scratch1)) : sProp 𝕄) := by
    rw [Ring.pointsTo_blocks (setO c) (slotsO_disjoint c) (slotsO_cover c)]
    exact bigSep_mono fun r _ => by rw [slot_one]; exact BI.Entails.refl _
  rw [bigSep_univ_prod, bigSep_fin_two]
  unfold gathers
  show iprop((bigSep Finset.univ fun r : Fin 8 => slot B 0 r c fullShare) ∗ bigSep Finset.univ fun r : Fin 8 => slot B 1 r c fullShare) ⊢ _
  iintro ⟨Hq, Ho⟩
  isplitl [Hq]
  · iexists _; iapply hq; iexact Hq
  · iexists _; iapply ho; iexact Ho

/-! ## The kernel's own semaphores -/

/-- One for the sending and one for the receiving end of every hop. -/
def osem : Hop ⊕ Hop → SemLoc sig := Sum.elim (fun j => .dma (sendS j)) (fun j => .dma (recvS j))
theorem osem_send (j : Hop) : osem (Sum.inl j) = .dma (sendS j) := rfl
theorem osem_recv (j : Hop) : osem (Sum.inr j) = .dma (recvS j) := rfl

theorem osem_inj : Function.Injective osem := fun k k' h => by
  have hr := congrArg role h
  rcases k with j | j <;> rcases k' with j' | j'
  · rw [osem_send, osem_send, role_send, role_send] at hr; injection hr with e; rw [e]
  · rw [osem_send, osem_recv, role_send, role_recv] at hr; cases hr
  · rw [osem_recv, osem_send, role_send, role_recv] at hr; cases hr
  · rw [osem_recv, osem_recv, role_recv, role_recv] at hr; injection hr with e; rw [e]

theorem role_staging : ∀ (w : Fin 6) (s : Fin (spec0 w).nbuf), role (.dma ((spec0 w).sem s)) = .other := by decide

theorem osem_facts : Pipeline.OwnSemFacts spec0 osem where
  isScoped := by decide
  inj := osem_inj
  disj k w s h := by
    have hr := congrArg role h
    rw [role_staging] at hr
    rcases k with j | j
    · rw [osem_send, role_send] at hr; cases hr
    · rw [osem_recv, role_recv] at hr; cases hr

theorem ownSems_eq (c : Dev nD) : (Pipeline.ownSems0 osem c : sProp 𝕄)
    = iprop((bigSep Finset.univ fun j : Hop => semVal (sendCell c j) 0) ∗ bigSep Finset.univ fun j : Hop => semVal (recvCell c j) 0) := by
  unfold Pipeline.ownSems0
  rw [bigSep_univ_sum]
  rfl

/-! ## What a device keeps for the kernel, before and after its semaphores are opened -/

variable (B : Blocks F)

/-- From launch: the invariants, and the rights of the ring that are this device's. -/
def dealt (K : GSem nD τ sig → ℕ) (c : Dev nD) : sProp 𝕄 :=
  iprop(invs B K ∗ reached ER (barCell (rt c)) 0 ∗ reached ER (barCell (lf c)) 0
    ∗ dutyTok ER (barCell (lf c)) 0 true ∗ dutyTok ER (barCell (rt c)) 0 false ∗ atPos ER (barCell c) 0 ∅ 0
    ∗ (bigSep Finset.univ fun j : Hop => openTok ER (sendCell c j)) ∗ (bigSep Finset.univ fun j : Hop => openTok ER (recvCell c j))
    ∗ (bigSep Finset.univ fun j : Hop => dutyTok ER (sendCell c j) 0 false)
    ∗ bigSep Finset.univ fun j : Hop => dutyTok ER (recvCell (dest j.2 c) j) 0 false)
/-- The credit its waits spend. -/
def credit (c : Dev nD) : sProp (MT nD τ sig Unit (Elt F) ℕ UU ℕ) :=
  iprop(cred (tallyAt (barCell c) () 2) ∗ bigSep Finset.univ fun j : Hop => cred (tallyAt (recvCell c j) () (amt j.1)))
def Tk (c : Dev nD) : sProp 𝕄 := iprop((∃ K, dealt B K c) ∗ credit c)

/-- With the semaphores open. -/
def ready (c : Dev nD) : sProp (MT nD τ sig Unit (Elt F) ℕ UU ℕ) :=
  iprop(dutyTok ER (barCell (lf c)) 0 true ∗ dutyTok ER (barCell (rt c)) 0 false
    ∗ cred (tallyAt (barCell c) () 2) ∗ atPos ER (barCell c) 0 ∅ 0
    ∗ (bigSep Finset.univ fun j : Hop => toSend c j) ∗ bigSep Finset.univ fun j : Hop => toRecv c j)
def Xk (c : Dev nD) : sProp 𝕄 := iprop((∃ K, invs B K) ∗ opens c ∗ levAts L lv ∗ ready c)

theorem open_sends (K : GSem nD τ sig → ℕ) (c : Dev nD) :
    iprop(invs B K ∗ (bigSep Finset.univ fun j : Hop => openTok ER (sendCell c j)) ∗ bigSep Finset.univ fun j : Hop => semVal (sendCell c j) 0)
      ⊢ (|={Set.univ}=> bigSep Finset.univ fun j : Hop => iprop(atPos ER (sendCell c j) 0 ∅ 0 ∗ reached ER (sendCell c j) 0) : sProp 𝕄) := by
  rw [← bigSep_sep']
  refine (bigSep_with_persistent (R := invs B K) fun j _ => ?_).trans (bigSep_fupd Finset.univ _)
  iintro ⟨#HI, Ho, Hs⟩
  iapply (Rounds.cell_open ER (rd B) (g := sendCell c j) (Set.mem_univ (K (sendCell c j))))
  isplitr; · iapply (inv_send B K c j); iexact HI
  isplitl [Ho] <;> iassumption
theorem open_recvs (K : GSem nD τ sig → ℕ) (c : Dev nD) :
    iprop(invs B K ∗ (bigSep Finset.univ fun j : Hop => openTok ER (recvCell c j)) ∗ bigSep Finset.univ fun j : Hop => semVal (recvCell c j) 0)
      ⊢ (|={Set.univ}=> bigSep Finset.univ fun j : Hop => iprop(atPos ER (recvCell c j) 0 ∅ 0 ∗ reached ER (recvCell c j) 0) : sProp 𝕄) := by
  rw [← bigSep_sep']
  refine (bigSep_with_persistent (R := invs B K) fun j _ => ?_).trans (bigSep_fupd Finset.univ _)
  iintro ⟨#HI, Ho, Hs⟩
  iapply (Rounds.cell_open ER (rd B) (g := recvCell c j) (Set.mem_univ (K (recvCell c j))))
  isplitr; · iapply (inv_recv B K c j); iexact HI
  isplitl [Ho] <;> iassumption

theorem hopen (c : Dev nD) : iprop(Tk B c ∗ Pipeline.ownSems0 osem c ∗ levAts L lv) ⊢ (|={Set.univ}=> Xk B c : sProp 𝕄) := by
  rw [ownSems_eq]
  unfold Tk Xk dealt credit ready opens
  iintro ⟨⟨⟨%K, #HI, #Hr, #Hl, HtL, HtR, HaB, HoS, HoV, HtS, HtV⟩, HcB, HcV⟩, ⟨Hs0, Hv0⟩, #Hlev⟩
  imod (open_sends B K c) $$ [HoS Hs0] with HS
  · isplitr; · iexact HI
    isplitl [HoS] <;> iassumption
  imod (open_recvs B K c) $$ [HoV Hv0] with HV
  · isplitr; · iexact HI
    isplitl [HoV] <;> iassumption
  ihave HS' := (Entails.of_eq (bigSep_sep' Finset.univ (fun j : Hop => (atPos ER (sendCell c j) 0 ∅ 0 : sProp 𝕄)) (fun j : Hop => reached ER (sendCell c j) 0))) $$ HS
  icases HS' with ⟨HaS, #HrS⟩
  ihave HV' := (Entails.of_eq (bigSep_sep' Finset.univ (fun j : Hop => (atPos ER (recvCell c j) 0 ∅ 0 : sProp 𝕄)) (fun j : Hop => reached ER (recvCell c j) 0))) $$ HV
  icases HV' with ⟨HaV, #HrV⟩
  imodintro
  isplitr; · iexists K; iexact HI
  isplitr
  · isplitr
    · rw [bigSep_sep']
      isplitr; · iexact HrS
      iexact HrV
    isplitr; · iexact Hr
    iexact Hl
  isplitr; · iexact Hlev
  isplitl [HtL]; · iexact HtL
  isplitl [HtR]; · iexact HtR
  isplitl [HcB]; · iexact HcB
  isplitl [HaB]; · iexact HaB
  isplitl [HtS HtV HaS]
  · unfold toSend
    rw [bigSep_sep', bigSep_sep']
    isplitl [HtS]; · iexact HtS
    isplitl [HtV] <;> iassumption
  · unfold toRecv
    rw [bigSep_sep']
    isplitl [HcV] <;> iassumption

/-! ## The proof data -/

variable (m : (ℓ : Loc nD τ sig) → Buf (Elt F) ℓ)

/-- Device `c`'s buffers when the kernel is entered. -/
def Vh (c : Dev nD) : Valuation τ sig (Elt F) := V1 m c

/-- Every device's block of the two gathered weights, as the kernel finds them. -/
def blocks : Blocks F where
  wq c := Vh m c main_arg1
  wo c := Vh m c main_arg4

/-- What device `c`'s output window ends at. -/
def result (c : Dev nD) : Vec F S2x256x512 .f32 :=
  outOf (blocks m) c (Vh m c main_arg0) (Vh m c main_v15) (Vh m c main_v16)

/-- Device `c`'s buffers when the kernel is done. -/
def Vf (c : Dev nD) : Valuation τ sig (Elt F) := Function.update (Vh m c) (Proc.devRef .tc main_v17) (result m c)

theorem Vf_out (c : Dev nD) : Vf m c main_v17 = result m c := Function.update_self ..
theorem Vf_of (c : Dev nD) (b : DevRef τ sig) (h : b ≠ Proc.devRef .tc main_v17) : Vf m c b = Vh m c b :=
  Function.update_of_ne h ..

/-- What the kernel leaves at its one point besides the windows. -/
def Yk (c : Dev nD) : sProp (MT nD τ sig Unit (Elt F) ℕ UU ℕ) := semVal (barCell c) 0
def left (c : Dev nD) : sProp (MT nD τ sig Unit (Elt F) ℕ UU ℕ) :=
  iprop(Yk c ∗ ((bigSep Finset.univ fun j : Hop => semVal (sendCell c j) 0) ∗ bigSep Finset.univ fun j : Hop => semVal (recvCell c j) 0)
    ∗ gathers c ∗ ∃ r, prngReg c r)
def entered (c : Dev nD) : sProp 𝕄 := iprop(Xk B c ∗ gathers c ∗ ∃ r, prngReg c r)

/-- The arrays as the kernel finds them; after its point the inputs as staged and the output its result; all its debts
    before the point, none after. -/
def dat0 (c : Dev nD) : Dat τ (Elt F) Unit ℕ UU ℕ cfg0 c where
  A w := Vh m c (Proc.devRef .tc (Pipeline.arrRef spec0 w))
  after w _ := match w with
    | ⟨0, _⟩ => Vh m c main_arg0
    | ⟨1, _⟩ => Vh m c main_arg1
    | ⟨2, _⟩ => Vh m c main_v15
    | ⟨3, _⟩ => Vh m c main_v16
    | ⟨4, _⟩ => Vh m c main_arg4
    | ⟨5, _⟩ => result m c
  Φ t := if t.val = 0 then entered (blocks m) c else left c
  q _ := fullShare
  owed t := if t.val = 0 then O₀ c else 0

def pdats : (p : Fin 1) → (c : Dev nD) → Dat τ (Elt F) Unit ℕ UU ℕ (Pipeline.pin (pcfgs (F := F)) adm p) c
  | 0 => dat0 m

theorem before0 (c : Dev nD) (d) : (dat0 m c).before 0 t0_0 d = Vh m c main_arg0 := by
  unfold Dat.before; rw [if_pos (fetch0_0 _)]
  funext x
  show Vh m c (Proc.devRef .tc main_arg0) (((cfg0.win 0).rect t0_0).emb x) = Vh m c (Proc.devRef .tc main_arg0) x
  congr 1; funext a; apply Fin.ext
  exact Pipeline.Window.rect_emb_val_of_index_zero _ _ _ rfl _
theorem before1 (c : Dev nD) (d) : (dat0 m c).before 1 t0_0 d = Vh m c main_arg1 := by
  unfold Dat.before; rw [if_pos (fetch0_1 _)]
  funext x
  show Vh m c (Proc.devRef .tc main_arg1) (((cfg0.win 1).rect t0_0).emb x) = Vh m c (Proc.devRef .tc main_arg1) x
  congr 1; funext a; apply Fin.ext
  exact Pipeline.Window.rect_emb_val_of_index_zero _ _ _ rfl _
theorem before2 (c : Dev nD) (d) : (dat0 m c).before 2 t0_0 d = Vh m c main_v15 := by
  unfold Dat.before; rw [if_pos (fetch0_2 _)]
  funext x
  show Vh m c (Proc.devRef .tc main_v15) (((cfg0.win 2).rect t0_0).emb x) = Vh m c (Proc.devRef .tc main_v15) x
  congr 1; funext a; apply Fin.ext
  exact Pipeline.Window.rect_emb_val_of_index_zero _ _ _ rfl _
theorem before3 (c : Dev nD) (d) : (dat0 m c).before 3 t0_0 d = Vh m c main_v16 := by
  unfold Dat.before; rw [if_pos (fetch0_3 _)]
  funext x
  show Vh m c (Proc.devRef .tc main_v16) (((cfg0.win 3).rect t0_0).emb x) = Vh m c (Proc.devRef .tc main_v16) x
  congr 1; funext a; apply Fin.ext
  exact Pipeline.Window.rect_emb_val_of_index_zero _ _ _ rfl _
theorem before4 (c : Dev nD) (d) : (dat0 m c).before 4 t0_0 d = Vh m c main_arg4 := by
  unfold Dat.before; rw [if_pos (fetch0_4 _)]
  funext x
  show Vh m c (Proc.devRef .tc main_arg4) (((cfg0.win 4).rect t0_0).emb x) = Vh m c (Proc.devRef .tc main_arg4) x
  congr 1; funext a; apply Fin.ext
  exact Pipeline.Window.rect_emb_val_of_index_zero _ _ _ rfl _

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owed_zero (c : Dev nD) : (pdats (F := F) m 0 c).owed 0 = O₀ c := by
  show (if ((0 : Fin (cfg0.N + 1)).val = 0) then O₀ c else 0) = O₀ c; exact if_pos rfl
theorem owed_first (c : Dev nD) : (dat0 (F := F) m c).owed (Fin.castSucc (n := cfg0.N) t0_0) = O₀ c := by
  show (if (Fin.castSucc (n := cfg0.N) t0_0).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

/-- What the device owes, as the pipeline holds it at a point, and back. -/
theorem owesAt_of (c : Dev nD) (t : Fin (cfg0.N + 1)) (O : CellTallies nD τ sig Unit) (h0 : (dat0 m c).owed t = O)
    (W : Waits sig Unit) : (owes (c : Thread nD τ) O W : sProp 𝕄) ⊢ ((dat0 m c).owesAt () t : sProp 𝕄) := by
  unfold Dat.owesAt Pipeline.owesWithin Dat.bound
  rw [h0, show (dat0 m c).recorded t = Set.univ from rfl]
  iintro HO; iexists W; isplitr; · ipureintro; exact fun _ _ => Or.inl trivial
  iexact HO
theorem of_owesAt (c : Dev nD) (t : Fin (cfg0.N + 1)) (O : CellTallies nD τ sig Unit) (h0 : (dat0 m c).owed t = O) :
    ((dat0 m c).owesAt () t : sProp 𝕄) ⊢ iprop(∃ W, owes (c : Thread nD τ) O W) := by
  unfold Dat.owesAt Pipeline.owesWithin; rw [h0]
  iintro ⟨%W, -, HO⟩; iexists W; iexact HO

set_option maxRecDepth 4000 in
/-- The body's obligation at the one point. -/
theorem body0 (c : Dev nD) : BodyObligation (dat0 (F := F) m c) (defs₀ (F := F)) 𝒱₀ () Set.univ := fun t => by
  obtain rfl := fin_N0 t
  rw [bigSep_W0, bigSep_W0]
  simp only [owns_whole_eq]
  rw [show (dat0 m c).Φ t0_0.castSucc = entered (blocks m) c from rfl, show (dat0 m c).Φ t0_0.succ = left c from rfl]
  unfold entered left Xk ready Yk
  iintro ⟨⟨⟨⟨%K, #HI⟩, #Hop, #Hlev, HtL, HtR, HcB, HaB, HtS, HtV⟩, Hg, Hreg⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before0] at hf0; rw [before1] at hf1; rw [before2] at hf2; rw [before3] at hf3; rw [before4] at hf4
  subst hf0 hf1 hf2 hf3 hf4
  ihave HO' := (of_owesAt m c _ (O₀ c) (owed_first m c)) $$ HO
  icases HO' with ⟨%W, HO⟩
  iapply (body_run (blocks m) K c (Vh m c main_arg0) (Vh m c main_v15) (Vh m c main_v16) f5 W)
    $$ [HtL HtR HcB HaB HtS HtV Hg HO H0 H1 H2 H3 H4 H5]
  · isplitr; · iexact HI
    isplitr; · iexact Hop
    isplitr; · iexact Hlev
    isplitl [HO]; · iexact HO
    isplitl [HtL HtR HcB HaB HtS HtV Hg]
    · unfold bodyPre
      isplitl [HtL]; · iexact HtL
      isplitl [HtR]; · iexact HtR
      isplitl [HcB]; · iexact HcB
      isplitl [HaB]; · iexact HaB
      isplitl [HtS]; · iexact HtS
      isplitl [HtV]; · iexact HtV
      iapply (gathers_slots c); iexact Hg
    isplitl [H0]; · iexact H0
    isplitl [H1]; · iexact H1
    isplitl [H2]; · iexact H2
    isplitl [H3]; · iexact H3
    isplitl [H4]; · iexact H4
    iexact H5
  unfold bodyPost owing
  iintro ⟨⟨%W', HO⟩, ⟨Hb0, Hs0, Hv0, Hsl⟩, H0, H1, H2, H3, H4, H5⟩
  isplitl [Hb0 Hs0 Hv0 Hsl Hreg]
  · isplitl [Hb0]; · iexact Hb0
    isplitl [Hs0 Hv0]; · isplitl [Hs0] <;> iassumption
    isplitl [Hsl]; · iapply (slots_gathers (blocks m) c); iexact Hsl
    iexact Hreg
  isplitl [HO]; · iapply (owesAt_of m c t0_0.succ 0 (owed_last m c) W'); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

end Cert.KernelIdeal
end
-- ==== Proof.Entry.lean ====
/-
  The kernel's region among the program's segments, and the buffers around it.
-/
module

public import proofs.«01_k».proof.Proof.Region
public import proofs.«01_k».proof.Proof.Gen.KernelIdeal.Regions
public import Idealize.ShloMosaic.Lib.Pipeline.RegionTalk

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ)

/-! ## Levels -/

/-- Whatever a device owes at launch is at a cell above the staging semaphores. -/
theorem owed_above (c : Dev nD) (g : GSem nD τ sig) (u : Unit) (h : 0 < O₀ c g u) : u ∈ L g ∧ 0 < lv g u := by
  cases u
  unfold O₀ at h
  rw [Pi.add_apply, Pi.add_apply, Finsupp.add_apply, Finsupp.add_apply, tallyAt_apply, tallyAt_apply] at h
  by_cases h1 : g = barCell (rt c)
  · subst h1; exact ⟨by rw [L_tc]; exact Finset.mem_singleton_self _, by rw [lv_bar]; exact Nat.one_pos⟩
  by_cases h2 : g = barCell (lf c)
  · subst h2; exact ⟨by rw [L_tc]; exact Finset.mem_singleton_self _, by rw [lv_bar]; exact Nat.one_pos⟩
  rw [if_neg fun e => h1 e.1, if_neg fun e => h2 e.1] at h
  obtain ⟨j, -, rfl⟩ := owedL_pos c order g () h
  exact ⟨by rw [L_tc]; exact Finset.mem_singleton_self _, by rw [lv_recv]; omega⟩

theorem owed_above_at (c : Dev nD) (t : Fin (cfg0.N + 1)) (g : GSem nD τ sig) (u : Unit)
    (h : 0 < (dat0 m c).owed t g u) : u ∈ L g ∧ 0 < lv g u := by
  have e : (dat0 m c).owed t = if t.val = 0 then O₀ c else 0 := rfl
  rw [e] at h
  split at h
  · exact owed_above c g u h
  · exact absurd h (Nat.lt_irrefl 0)

theorem lv_staging (c : Dev nD) (w : Fin 6) (s : Fin (spec0 w).nbuf) :
    lv ((c : Thread nD τ), .dma ((spec0 w).sem s)) () = 0 := by
  dsimp only [lv]; rw [role_staging]

/-! ## The arrays before and after -/

theorem share_full (c : Dev nD) (w : Fin cfg0.W) : (dat0 m c).share w = fullShare := by
  unfold Dat.share; split <;> rfl

/-- The output array ends at what the body left in its staging buffer. -/
theorem final_out (c : Dev nD) : (dat0 m c).arrAt 5 cfg0.N = result m c := by
  refine (dat0 m c).arrAt_eq_of_after_last 5 t0_0 (by decide +kernel) _ fun j => ?_
  rfl

theorem final_arrays (c : Dev nD) : ∀ w : Fin cfg0.W,
    (dat0 m c).arrAt w cfg0.N = Vf m c (Proc.devRef .tc (Pipeline.arrRef spec0 w))
  | ⟨0, _⟩ => ((dat0 m c).arrAt_in 0 rfl _).trans (Vf_of m c (Proc.devRef .tc main_arg0) (StableHlo.devRef_ne_of_ne (by decide))).symm
  | ⟨1, _⟩ => ((dat0 m c).arrAt_in 1 rfl _).trans (Vf_of m c (Proc.devRef .tc main_arg1) (StableHlo.devRef_ne_of_ne (by decide))).symm
  | ⟨2, _⟩ => ((dat0 m c).arrAt_in 2 rfl _).trans (Vf_of m c (Proc.devRef .tc main_v15) (StableHlo.devRef_ne_of_ne (by decide))).symm
  | ⟨3, _⟩ => ((dat0 m c).arrAt_in 3 rfl _).trans (Vf_of m c (Proc.devRef .tc main_v16) (StableHlo.devRef_ne_of_ne (by decide))).symm
  | ⟨4, _⟩ => ((dat0 m c).arrAt_in 4 rfl _).trans (Vf_of m c (Proc.devRef .tc main_arg4) (StableHlo.devRef_ne_of_ne (by decide))).symm
  | ⟨5, _⟩ => (final_out m c).trans (Vf_out m c).symm

/-! ## Entry and exit of the one point -/

theorem hin (c : Dev nD) : iprop(Pipeline.scopedRest spec0 c ∗ (∃ r, prngReg c r) ∗ StableHlo.held (c.tc : Thread nD τ) ∅ (Vh m c) ∗ Xk (blocks m) c)
    ⊢ (dat0 m c).Φ 0 := by
  rw [show (dat0 m c).Φ 0 = entered (blocks m) c from rfl, scopedRest0_eq]
  unfold entered gathers
  iintro ⟨Hs, Hp, -, HX⟩
  isplitl [HX]; · iexact HX
  isplitl [Hs]; · iexact Hs
  iexact Hp

theorem Φ_last (c : Dev nD) : (dat0 m c).Φ (Fin.last cfg0.N) = left c := by
  show (if (Fin.last cfg0.N).val = 0 then entered (blocks m) c else left c) = left c
  rw [Fin.val_last, if_neg (by rw [show cfg0.N = 1 from N_0]; decide)]

theorem hout (c : Dev nD) : (dat0 m c).Φ (Fin.last cfg0.N)
    ⊢ iprop(Pipeline.scopedRest spec0 c ∗ (∃ r, prngReg c r) ∗ StableHlo.held (c.tc : Thread nD τ) ∅ (Vf m c) ∗ Pipeline.ownSems0 osem c ∗ Yk c) := by
  rw [Φ_last, scopedRest0_eq, ownSems_eq]
  unfold left gathers
  iintro ⟨HY, Hss, Hs, Hp⟩
  isplitl [Hs]; · iexact Hs
  isplitl [Hp]; · iexact Hp
  isplitr; · unfold StableHlo.held; rw [BI.bigSep_empty]; iempintro
  isplitl [Hss]; · iexact Hss
  iexact HY

/-! ## The segment -/

/-- The buffers no window stages. -/
abbrev others : Finset (DevRef τ sig) := Pipeline.ucRefs τ sig \ Pipeline.arrRefs spec0

theorem others_eq (c : Dev nD) (b : DevRef τ sig) (hb : b ∈ others \ ∅) : Vf m c b = Vh m c b := by
  refine Vf_of m c b fun e => ?_
  subst e
  exact (Finset.mem_sdiff.mp (Finset.mem_sdiff.mp hb).1).2
    (Finset.mem_map_of_mem _ (Finset.mem_image.mpr ⟨(5 : Fin 6), Finset.mem_univ _, rfl⟩))

set_option backward.isDefEq.respectTransparency.types false in
/-- The kernel's region: entered with everything the launch dealt, left with the barrier's counter at zero. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others (Finset.empty_subset _) launch0.toP rfl (fun c => (body0 m c).loose)
    (fun _ => 0) O₀ (fun c => (owed_zero m c).trans (zero_add _).symm) (owed_last m) (fun _ => rfl) (share_full m)
    (Vh m) (Vf m) (others_eq m)
    (Tk (blocks m)) Yk (Xk (blocks m)) Yk (hopen (blocks m)) (hin m) (hout m)
    (fun c => by iintro H; imodintro; iexact H)
    (fun _ => 0)
    ⟨fun c w s => by rw [L_tc]; exact Finset.mem_singleton_self _, fun c w s => (lv_staging c w s).le,
      fun c t g i h => owed_above_at m c t g i h⟩
    (fun _ => iprop(emp))
    (fun _ _ => rfl) (final_arrays m)

/-- What rides along with the host's operations. -/
def before (c : Dev nD) : sProp 𝕄 := iprop((∃ r, prngReg c r) ∗ Tk (blocks m) c ∗ ∃ W, owes (c : Thread nD τ) (O₀ c) W)
/-- What is left with the buffers at the end. -/
def after (c : Dev nD) : sProp (MT nD τ sig Unit (Elt F) ℕ UU ℕ) :=
  iprop(semVal (barCell c) 0 ∗ ∃ W, owes (c : Thread nD τ) (0 : CellTallies nD τ sig Unit) W)

theorem arr_unscoped : ∀ w, (Pipeline.arrRef spec0 w).isScoped = false := by decide

theorem reg0_pre (c : Dev nD) : iprop(StableHlo.held (c : Thread nD τ) (Pipeline.ucRefs τ sig) (V1 m c) ∗ before m c) ⊢ (reg0 m).pre c := by
  show _ ⊢ iprop(StableHlo.held (c.tc : Thread nD τ) (Pipeline.arrRefs (τ := τ) spec0) (Vh m c) ∗ (∃ r, prngReg c r)
    ∗ (StableHlo.held (c.tc : Thread nD τ) others (Vh m c) ∗ emp) ∗ Tk (blocks m) c ∗ ∃ Wd, owes (c : Thread nD τ) (0 + O₀ c) Wd)
  rw [zero_add, show V1 m c = Vh m c from rfl,
    StableHlo.held_sub_split (c.tc : Thread nD τ) (Pipeline.arrRefs_sub_ucRefs spec0 arr_unscoped) (Vh m c)]
  unfold before
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem reg0_post (c : Dev nD) : (reg0 m).post c ⊢ iprop(StableHlo.held (c : Thread nD τ) (Pipeline.ucRefs τ sig) (Vf m c) ∗ after c) := by
  show iprop(StableHlo.held (c.tc : Thread nD τ) (Pipeline.arrRefs (τ := τ) spec0) (Vf m c) ∗ (∃ r, prngReg c r)
    ∗ (StableHlo.held (c.tc : Thread nD τ) others (Vf m c) ∗ emp) ∗ Yk c ∗ ∃ Wd, owes (c : Thread nD τ) (0 : CellTallies nD τ sig Unit) Wd) ⊢ _
  rw [StableHlo.held_sub_split (c.tc : Thread nD τ) (Pipeline.arrRefs_sub_ucRefs spec0 arr_unscoped) (Vf m c)]
  unfold after Yk
  iintro ⟨Ha, -, ⟨Hr, -⟩, Hb, HO⟩
  isplitl [Ha Hr]; · isplitl [Ha] <;> iassumption
  isplitl [Hb]; · iexact Hb
  iexact HO

end Cert.KernelIdeal
end
-- ==== Proof.Launch.lean ====
/-
  The launch: every cell's invariant made at once, the rights dealt round the ring, and the run of the whole program.
-/
module

public import proofs.«01_k».proof.Proof.Entry
public import Idealize.ShloMosaic.Lib.Quiescent

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation Seg)

variable {F : FTy → Type} [FloatOps F]

local notation "𝕄" => MT nD τ sig Unit (Elt F) ℕ UU ℕ

variable (B : Blocks F)

/-! ## The ring as permutations -/

def toRight : Dev nD ≃ Dev nD := ⟨rt, lf, lf_rt, rt_lf⟩
def toLeft : Dev nD ≃ Dev nD := ⟨lf, rt, rt_lf, lf_rt⟩
def along (s : Fin 7) : Dev nD ≃ Dev nD := ⟨dest s, orig s, orig_dest s, dest_orig s⟩

/-! ## Cells and tokens at launch -/

theorem osem_ne_bar (k : Hop ⊕ Hop) : osem k ≠ .reg barS := fun h => by
  rcases k with j | j <;> cases h

def barEmb : Dev nD ↪ GSem nD τ sig := ⟨fun c => barCell c, fun _ _ h => congrArg (fun g : GSem nD τ sig => g.1.1) h⟩
def hopEmb : Dev nD × (Hop ⊕ Hop) ↪ GSem nD τ sig :=
  ⟨fun p => ((p.1 : Thread nD τ), osem p.2), fun _ _ h =>
    Prod.ext (congrArg (fun g : GSem nD τ sig => g.1.1) h) (osem_inj (congrArg Prod.snd h))⟩

/-- The barriers, funded with their counters; the hops' semaphores, funded without. -/
abbrev barCells : Finset (GSem nD τ sig) := Finset.univ.map barEmb
abbrev hopCells : Finset (GSem nD τ sig) := Finset.univ.map hopEmb

theorem disjoint_cells : Disjoint (barCells : Finset (GSem nD τ sig)) hopCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- A duty of one device: a signal of its barrier, or a hop at one of its ends. -/
abbrev Duty : Type := Bool ⊕ (Hop ⊕ Hop)
def dutySem : Duty → SemLoc sig := Sum.elim (fun _ => .reg barS) osem
def dutyTag : Duty → Bool := Sum.elim id (fun _ => false)
theorem duty_inj : Function.Injective fun k : Duty => (dutySem k, dutyTag k) := fun k k' h => by
  have h1 : dutySem k = dutySem k' := congrArg Prod.fst h
  have h2 : dutyTag k = dutyTag k' := congrArg Prod.snd h
  rcases k with b | j <;> rcases k' with b' | j'
  · exact congrArg Sum.inl h2
  · exact absurd h1.symm (osem_ne_bar j')
  · exact absurd h1 (osem_ne_bar j)
  · exact congrArg Sum.inr (osem_inj h1)

def tokEmb : Dev nD × Duty ↪ GSem nD τ sig × ℕ × Bool :=
  ⟨fun p => (((p.1 : Thread nD τ), dutySem p.2), 0, dutyTag p.2), fun _ _ h =>
    Prod.ext (congrArg (fun t : GSem nD τ sig × ℕ × Bool => t.1.1.1) h)
      (duty_inj (Prod.ext (congrArg (fun t : GSem nD τ sig × ℕ × Bool => t.1.2) h) (congrArg (fun t : GSem nD τ sig × ℕ × Bool => t.2.2) h)))⟩
abbrev toks : Finset (GSem nD τ sig × ℕ × Bool) := Finset.univ.map tokEmb

/-- The launch element: the pipeline's at its staging cells, the ring's at its own. -/
def u₀ : UU :=
  (initOf (Pipeline.cells (Pipeline.pin (pcfgs (F := F)) adm) cellOf_inj) (Pipeline.launchToks (Pipeline.pin (pcfgs (F := F)) adm) cellOf_inj),
    launchOf barCells hopCells toks)

/-- A resource held by device 0 alone. -/
def onFirst (X : sProp 𝕄) (c : Dev nD) : sProp 𝕄 := if c = 0 then X else iprop(emp)
theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp
def G : Dev nD → sProp 𝕄 := onFirst (BI.own (ER (launchOf barCells hopCells toks)))

/-! ## What every device may consult, and what is its own -/

def records (K : GSem nD τ sig → ℕ) : sProp 𝕄 := iprop(invs B K ∗ bigSep Finset.univ fun c : Dev nD => reached ER (barCell c) 0)
instance records_persistent (K : GSem nD τ sig → ℕ) : BI.Persistent (records B K) := by unfold records; infer_instance

theorem invs_of (K : GSem nD τ sig → ℕ) : (bigSep (barCells ∪ hopCells) fun g => (cellInv ER (rd B) (K g) g : sProp 𝕄)) ⊢ invs B K := by
  refine Entails.of_eq ?_
  rw [bigSep_union disjoint_cells, bigSep_map, bigSep_map, bigSep_univ_prod]
  unfold invs
  rw [bigSep_sep']
  congr 1
  refine bigSep_congr fun c _ => ?_
  rw [bigSep_univ_sum]
  rfl

/-- A device's own: its place at its barrier, the rights to open its hops' semaphores, the tokens of what it pays. -/
def own (c : Dev nD) : sProp (MT nD τ sig Unit (Elt F) ℕ UU ℕ) :=
  iprop(atPos ER (barCell c) 0 ∅ 0
    ∗ ((bigSep Finset.univ fun j : Hop => openTok ER (sendCell c j)) ∗ bigSep Finset.univ fun j : Hop => openTok ER (recvCell c j))
    ∗ dutyTok ER (barCell (lf c)) 0 true ∗ dutyTok ER (barCell (rt c)) 0 false
    ∗ (bigSep Finset.univ fun j : Hop => dutyTok ER (sendCell c j) 0 false)
    ∗ bigSep Finset.univ fun j : Hop => dutyTok ER (recvCell (dest j.2 c) j) 0 false)

theorem dealt_of (K : GSem nD τ sig → ℕ) (c : Dev nD) : iprop(records B K ∗ own c) ⊢ dealt B K c := by
  have hr (d : Dev nD) : (bigSep Finset.univ fun c : Dev nD => (reached ER (barCell c) 0 : sProp 𝕄)) ⊢ reached ER (barCell d) 0 :=
    bigSep_elim (Finset.mem_univ d)
  unfold records own dealt
  iintro ⟨⟨#HI, #HR⟩, HaB, ⟨HoS, HoV⟩, HtL, HtR, HtS, HtV⟩
  isplitr; · iexact HI
  isplitr; · iapply (hr (rt c)); iexact HR
  isplitr; · iapply (hr (lf c)); iexact HR
  isplitl [HtL]; · iexact HtL
  isplitl [HtR]; · iexact HtR
  isplitl [HaB]; · iexact HaB
  isplitl [HoS]; · iexact HoS
  isplitl [HoV]; · iexact HoV
  isplitl [HtS] <;> iassumption

/-- The tokens as made, by the cell's owner, are the tokens as used, by who pays. -/
theorem toks_dealt : (bigSep toks fun x => (dutyTok ER x.1 x.2.1 x.2.2 : sProp 𝕄))
    ⊢ iprop((bigSep Finset.univ fun c : Dev nD => dutyTok ER (barCell (lf c)) 0 true)
      ∗ (bigSep Finset.univ fun c : Dev nD => dutyTok ER (barCell (rt c)) 0 false)
      ∗ (bigSep Finset.univ fun c : Dev nD => bigSep Finset.univ fun j : Hop => dutyTok ER (sendCell c j) 0 false)
      ∗ bigSep Finset.univ fun c : Dev nD => bigSep Finset.univ fun j : Hop => dutyTok ER (recvCell (dest j.2 c) j) 0 false) := by
  have hrow (c : Dev nD) : (bigSep Finset.univ fun k : Duty => (dutyTok ER (tokEmb (c, k)).1 (tokEmb (c, k)).2.1 (tokEmb (c, k)).2.2 : sProp 𝕄))
      = iprop((dutyTok ER (barCell c) 0 true ∗ dutyTok ER (barCell c) 0 false)
        ∗ (bigSep Finset.univ fun j : Hop => dutyTok ER (sendCell c j) 0 false) ∗ bigSep Finset.univ fun j : Hop => dutyTok ER (recvCell c j) 0 false) := by
    rw [bigSep_univ_sum, bigSep_univ_sum, bigSep_univ_eq_bigSepL [true, false] (by decide) (by decide)]
    rfl
  have hrecv : (bigSep Finset.univ fun c : Dev nD => bigSep Finset.univ fun j : Hop => (dutyTok ER (recvCell c j) 0 false : sProp 𝕄))
      = bigSep Finset.univ fun c : Dev nD => bigSep Finset.univ fun j : Hop => dutyTok ER (recvCell (dest j.2 c) j) 0 false := by
    rw [bigSep_univ_comm, bigSep_univ_comm fun (c : Dev nD) (j : Hop) => (dutyTok ER (recvCell (dest j.2 c) j) 0 false : sProp 𝕄)]
    exact bigSep_congr fun j _ => bigSep_univ_equiv (along j.2) fun c : Dev nD => (dutyTok ER (recvCell c j) 0 false : sProp 𝕄)
  rw [bigSep_map, bigSep_univ_prod, bigSep_congr fun c _ => hrow c, bigSep_sep', bigSep_sep', bigSep_sep', hrecv,
    bigSep_univ_equiv toLeft fun c : Dev nD => (dutyTok ER (barCell c) 0 true : sProp 𝕄),
    bigSep_univ_equiv toRight fun c : Dev nD => (dutyTok ER (barCell c) 0 false : sProp 𝕄)]
  iintro ⟨⟨HtL, HtR⟩, HtS, HtV⟩
  isplitl [HtL]; · iexact HtL
  isplitl [HtR]; · iexact HtR
  isplitl [HtS] <;> iassumption

/-! ## The credit dealt at launch -/

theorem barCell_ne_recv (c d : Dev nD) (j : Hop) : barCell c ≠ recvCell d j := fun h => by
  have h' : SemLoc.reg barS = SemLoc.dma (recvS j) := congrArg Prod.snd h
  cases h'

theorem owedL_bar (d c : Dev nD) (l : List Hop) : owedL d l (barCell c) () = 0 := by
  by_contra h
  obtain ⟨j, -, e⟩ := owedL_pos d l (barCell c) () (Nat.pos_of_ne_zero h)
  exact barCell_ne_recv _ _ _ e

theorem owed_bar (d c : Dev nD) : O₀ d (barCell c) () = (if d = lf c then 1 else 0) + (if d = rt c then 1 else 0) := by
  have e1 : barCell c = barCell (rt d) ↔ d = lf c :=
    ⟨fun h => by rw [show c = rt d from congrArg (fun g : GSem nD τ sig => g.1.1) h, lf_rt], fun h => by rw [h, rt_lf]⟩
  have e2 : barCell c = barCell (lf d) ↔ d = rt c :=
    ⟨fun h => by rw [show c = lf d from congrArg (fun g : GSem nD τ sig => g.1.1) h, rt_lf], fun h => by rw [h, lf_rt]⟩
  unfold O₀
  rw [Pi.add_apply, Pi.add_apply, Finsupp.add_apply, Finsupp.add_apply, owedL_bar, Nat.zero_add, tallyAt_apply, tallyAt_apply]
  simp only [e1, e2, and_true]

theorem recvCell_eq_iff (c d : Dev nD) (j j' : Hop) : recvCell c j = recvCell (dest j'.2 d) j' ↔ j' = j ∧ d = orig j.2 c := by
  constructor
  · intro h
    have hc : c = dest j'.2 d := congrArg (fun g : GSem nD τ sig => g.1.1) h
    have hs : role (.dma (recvS j)) = role (.dma (recvS j')) := congrArg (fun g : GSem nD τ sig => role g.2) h
    rw [role_recv, role_recv] at hs
    injection hs with hj
    subst hj
    exact ⟨rfl, by rw [hc, orig_dest]⟩
  · rintro ⟨rfl, rfl⟩; rw [dest_orig]

theorem owedL_recv (d c : Dev nD) (j : Hop) (l : List Hop) :
    owedL d l (recvCell c j) () = l.count j * (if d = orig j.2 c then amt j.1 else 0) := by
  induction l with
  | nil => rw [List.count_nil, Nat.zero_mul]; rfl
  | cons j' l ih =>
    have h : owedL d (j' :: l) (recvCell c j) () = owedL d l (recvCell c j) () + tallyAt (recvCell (dest j'.2 d) j') () (amt j'.1) (recvCell c j) () := rfl
    rw [h, ih, tallyAt_apply, List.count_cons, Nat.add_mul]
    congr 1
    simp only [recvCell_eq_iff, and_true, beq_iff_eq]
    by_cases hj : j' = j
    · subst hj; simp
    · simp [hj]

theorem order_once : ∀ j : Hop, order.count j = 1 := by decide

theorem owed_recv (d c : Dev nD) (j : Hop) : O₀ d (recvCell c j) () = if d = orig j.2 c then amt j.1 else 0 := by
  have hne (e : Dev nD) : ¬(recvCell c j = barCell e ∧ () = ()) := fun h => barCell_ne_recv _ _ _ h.1.symm
  unfold O₀
  rw [Pi.add_apply, Pi.add_apply, Finsupp.add_apply, Finsupp.add_apply, owedL_recv, order_once, Nat.one_mul, tallyAt_apply, tallyAt_apply,
    if_neg (hne (rt d)), if_neg (hne (lf d))]
  rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lf c) fun _ => 1, Finset.sum_ite_eq' Finset.univ (rt c) fun _ => 1,
    if_pos (Finset.mem_univ _), if_pos (Finset.mem_univ _)]

theorem launch_recv (c : Dev nD) (j : Hop) :
    tallyOn (recvCell c j) (launchCredit (Pipeline.owing O₀) 0 (recvCell c j)) = (tallyAt (recvCell c j) () (amt j.1) : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (orig j.2 c) fun _ => amt j.1, if_pos (Finset.mem_univ _)]

def recvEmb : Hop ↪ SemLoc sig := ⟨fun j => .dma (recvS j), fun j j' h => Sum.inr_injective (osem_inj (a₁ := Sum.inr j) (a₂ := Sum.inr j') h)⟩

theorem credit_of (c : Dev nD) : (Pipeline.launchCred O₀ c : sProp 𝕄) ⊢ credit c := by
  have hsub : Finset.univ.map recvEmb ⊆ (Finset.univ : Finset (SemLoc sig)).erase (.reg barS) := fun sm hsm => by
    obtain ⟨j, -, rfl⟩ := Finset.mem_map.mp hsm
    exact Finset.mem_erase.mpr ⟨osem_ne_bar (Sum.inr j), Finset.mem_univ _⟩
  unfold Pipeline.launchCred credit
  rw [bigSep_univ_at _ (SemLoc.reg barS), launch_bar]
  refine sep_mono_right ((bigSep_subset hsub).trans ?_)
  rw [bigSep_map]
  exact bigSep_mono fun j _ => Entails.of_eq (congrArg cred (launch_recv c j))

/-! ## The launch -/

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

variable (m : (ℓ : Loc nD τ sig) → Buf (Elt F) ℓ) (ρ : Dev nD → PrngReg)

/-- What a core holds at launch that is not of the ring. -/
def bundle (c : Dev nD) : sProp 𝕄 :=
  iprop(StableHlo.held (c : Thread nD τ) (Pipeline.ucRefs τ sig) (V0 m c) ∗ credit c ∗ owes (c : Thread nD τ) (O₀ c) ∅ ∗ ∃ r, prngReg c r)

abbrev T₀ (c : Dev nD) : sProp 𝕄 := iprop(StableHlo.held (c : Thread nD τ) (Pipeline.ucRefs τ sig) (V0 m c) ∗ before m c)
abbrev Tₙ (c : Dev nD) : sProp 𝕄 := iprop(StableHlo.held (c : Thread nD τ) (Pipeline.ucRefs τ sig) (Vf m c) ∗ semVal (barCell c) 0)

theorem T₀_of (K : GSem nD τ sig → ℕ) (c : Dev nD) : iprop(records (blocks m) K ∗ (own c ∗ bundle m c)) ⊢ T₀ m c := by
  unfold bundle T₀ before Tk
  iintro ⟨#HR, Hown, Hh, Hcr, HO, Hp⟩
  isplitl [Hh]; · iexact Hh
  isplitl [Hp]; · iexact Hp
  isplitr [HO]
  · isplitl [Hown]
    · iexists K
      iapply (dealt_of (blocks m) K c)
      isplitr; · iexact HR
      iexact Hown
    iexact Hcr
  · iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (V0 m c) from
        Pipeline.unscopedBufs_held c (V0 m c), unscopedSems0_eq]
    unfold bundle
    iintro ⟨Hh, Hus, HO, Hcr, Hp, HG⟩
    isplitl [Hh HO Hcr Hp]
    · isplitl [Hh]; · iexact Hh
      isplitl [Hcr]; · iapply (credit_of c); iexact Hcr
      isplitl [HO]; · iexact HO
      iexists (ρ c); iexact Hp
    isplitl [Hus] <;> iassumption
  have hv : (bigSep Finset.univ fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hr : bigSep barCells (fun g => (reached ER g 0 : sProp 𝕄)) ⊢ bigSep Finset.univ fun c : Dev nD => reached ER (barCell c) 0 :=
    Entails.of_eq (bigSep_map (s := Finset.univ) barEmb (Φ := fun g : GSem nD τ sig => (reached ER g 0 : sProp 𝕄)))
  have hat : bigSep barCells (fun g => (atPos ER g 0 ∅ 0 : sProp 𝕄)) ⊢ bigSep Finset.univ fun c : Dev nD => atPos ER (barCell c) 0 ∅ 0 :=
    Entails.of_eq (bigSep_map (s := Finset.univ) barEmb (Φ := fun g : GSem nD τ sig => (atPos ER g 0 ∅ 0 : sProp 𝕄)))
  have hopens : bigSep hopCells (fun g => (openTok ER g : sProp 𝕄))
      ⊢ iprop((bigSep Finset.univ fun c : Dev nD => bigSep Finset.univ fun j : Hop => openTok ER (sendCell c j))
        ∗ bigSep Finset.univ fun c : Dev nD => bigSep Finset.univ fun j : Hop => openTok ER (recvCell c j)) :=
    Entails.of_eq (by
      rw [bigSep_map, bigSep_univ_prod, ← bigSep_sep']
      refine bigSep_congr fun c _ => ?_
      rw [bigSep_univ_sum]; rfl)
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ iprop((bigSep Finset.univ (bundle m)) ∗ (bigSep Finset.univ fun c : Dev nD => (semVal (barCell c) 0 : sProp 𝕄))
        ∗ BI.own (ER (launchOf barCells hopCells toks))) := by
    have e : (bigSep Finset.univ fun c : Dev nD => (iprop(bundle m c ∗ (semVal (barCell c) 0 ∗ G c)) : sProp 𝕄))
        = iprop((bigSep Finset.univ (bundle m)) ∗ (bigSep Finset.univ fun c : Dev nD => (semVal (barCell c) 0 : sProp 𝕄))
          ∗ BI.own (ER (launchOf barCells hopCells toks))) := by
      rw [bigSep_sep', bigSep_sep', show bigSep Finset.univ G = BI.own (ER (launchOf barCells hopCells toks)) from bigSep_onFirst _]
    rw [← e]
    exact bigSep_mono fun c _ => hcore c
  iintro ⟨H, -⟩
  ihave H' := hall $$ H
  icases H' with ⟨HB, Hv, Hu⟩
  imod (Rounds.fund_launch ER (rd (blocks m)) disjoint_cells (fun g _ h => h) toks) $$ [Hv Hu] with ⟨%K, -, #Hinv, #Hr, Hat, Hopen, Htok⟩
  · isplitl [Hv]
    · iapply hv $$ Hv
    · iexact Hu
  ihave Ht := (toks_dealt (F := F)) $$ Htok
  icases Ht with ⟨HtL, HtR, HtS, HtV⟩
  imodintro
  iapply (bigSep_with_persistent (R := records (blocks m) K) (Φ := fun c => iprop(own c ∗ bundle m c)) fun c _ => T₀_of m K c)
  isplitr
  · unfold records
    isplitr; · iapply (invs_of (blocks m) K); iexact Hinv
    iapply hr; iexact Hr
  unfold own
  simp only [bigSep_sep']
  isplitr [HB]
  · isplitl [Hat]; · iapply hat $$ Hat
    isplitl [Hopen]; · iapply hopens $$ Hopen
    isplitl [HtL]; · iexact HtL
    isplitl [HtR]; · iexact HtR
    isplitl [HtS] <;> iassumption
  · iexact HB

/-! ## The run -/

theorem unscoped_eq : ∀ sm : SemLoc sig, sm.isScoped .tc = false → sm = .reg barS := by decide

theorem Vf_arg (c : Dev nD) (r : Ref sig .tc) (h : r ∉ hostOps0_W) (h' : r ≠ main_v17) :
    Vf m c r = m ((c : Thread nD τ).loc r) :=
  (Vf_of m c (Proc.devRef .tc r) (StableHlo.devRef_ne_of_ne h')).trans (V1_of m c r h)

/-- What is said of one device's final memory. -/
def ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_v17) = result m c

set_option backward.isDefEq.respectTransparency.types false in
/-- From any memory with zero counters every fair execution ends, the arguments as they were, the result as computed, and
    every counter at zero again. -/
theorem run_main : θ_run defs (onTc (τ := τ) (main (F := F))) ⟨m, fun _ => 0, ρ⟩
    (fun r => (∀ c : Dev nD, ends m c r.2) ∧ r.2.sem = fun _ => 0) := by
  refine Pipeline.θ_run_regions_kit_dev_sems (pcfgs (F := F)) adm (pdats m) () cellOf_inj EP defs₀ 𝒱₀ L lv m ρ main
    (segs m 𝒱₀ L lv (fun i => if i = 0 then before m else after) () (pdats m) (reg0 m))
    (fun c Q => by
      rewrite [main_chain c, Seg.run_eq_chain,
        show (segs m 𝒱₀ L lv (fun i => if i = 0 then before m else after) () (pdats m) (reg0 m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G u₀
    (by
      unfold u₀ G
      iintro Hu
      ihave H := (ownU_pair _ _) $$ Hu
      icases H with ⟨HP, HX⟩
      imodintro
      isplitl [HP]; · iexact HP
      rw [bigSep_onFirst]; iexact HX)
    (T₀ m) (Tₙ m)
    (hch := fun c => ⟨.rfl, reg0_pre m c, (reg0_post m c).trans ?_⟩)
    (hinit := init m ρ)
    (QY := fun c s => ends m c s ∧ s.sem (barCell c) = 0)
    (hfin := fun c s' => ?_) (hQ := fun s h hs => ?_)
  · unfold after
    iintro ⟨Hh, Hb, HO⟩
    isplitr [HO]
    · isplitl [Hh] <;> iassumption
    · iexact HO
  · dsimp only [Tₙ]
    unfold StableHlo.held
    iintro ⟨⟨Hh, Hb⟩, HSI⟩
    icombine HSI Hb gives %hb
    ihave Hr := (pointsTo_read_all (Pipeline.ucRefs τ sig) (fun b => ((c : Thread nD τ).1, b)) (Vf m c) s') $$ [Hh HSI]
    · isplitl [Hh] <;> iassumption
    icases Hr with ⟨%h, HSI⟩
    imodintro
    isplitr
    · ipureintro
      have hr (r : Ref sig .tc) (hu : r.isScoped = false) : s'.mem.mem ((c : Thread nD τ).loc r) = Vf m c r :=
        h (Proc.devRef .tc r) (Finset.mem_filter.mpr ⟨StableHlo.devRef_mem_tcRefs r, fun e => Bool.false_ne_true (hu.symm.trans e)⟩)
      exact ⟨⟨(hr main_arg0 (by decide)).trans (Vf_arg m c main_arg0 (by decide) (by decide)),
        (hr main_arg1 (by decide)).trans (Vf_arg m c main_arg1 (by decide) (by decide)),
        (hr main_arg2 (by decide)).trans (Vf_arg m c main_arg2 (by decide) (by decide)),
        (hr main_arg3 (by decide)).trans (Vf_arg m c main_arg3 (by decide) (by decide)),
        (hr main_arg4 (by decide)).trans (Vf_arg m c main_arg4 (by decide) (by decide)),
        (hr main_v17 (by decide)).trans (Vf_out m c)⟩, by simpa using hb⟩
    · iexact HSI
  · exact ⟨fun c => (h c).1, sem_eq_zero hs fun c sm hsm => by
      obtain rfl := unscoped_eq sm hsm
      exact (h c).2⟩

end Cert.KernelIdeal
end
-- ==== Proof.Reads.lean ====
/-
  What the kernel's body reads, at an index: the batches of the input, the heads of the keys and values, and what the host
  line before the region makes of the keys and values.
-/
module

public import proofs.«01_k».proof.Proof.Launch
public import proofs.«01_k».proof.Proof.Contrib
public import Idealize.ShloMosaic.Lib.StableHlo.ReadAt
public import Idealize.ShloMosaic.Lib.StableHlo.RunClose

@[expose] public section

noncomputable section

namespace Cert.KernelIdeal

open Cert.KernelIdeal.Gen
open Idealize.ShloMosaic Idealize.ShloMosaic.TcCoe

variable {F : FTy → Type} [FloatOps F]

theorem xB_apply (b : Fin 2) (X : Vec F S2x256x512 .bf16) (i : Fin 256) (l : Fin 512) :
    xB b X (ix3 0 i l) = X (ix3 b i l) := by
  refine congrArg X (funext fun a => Fin.ext ?_)
  fin_cases a
  · show b.val + 1 * 0 = b.val; omega
  · show 0 + 1 * i.val = i.val; omega
  · show 0 + 1 * l.val = l.val; omega

theorem xMat0_apply (X : Vec Ideal S2x256x512 .bf16) (i : Fin 256) (l : Fin 512) : xMat0 (F := Ideal) X (ix2 i l) = X (ix3 0 i l) := by
  pointwise [xMat0, k0_pay6, xB_apply]
theorem xMat1_apply (X : Vec Ideal S2x256x512 .bf16) (i : Fin 256) (l : Fin 512) : xMat1 (F := Ideal) X (ix2 i l) = X (ix3 1 i l) := by
  pointwise [xMat1, k0_pay7, xB_apply]

theorem heads0_apply (c : Dev nD) (r : Fin 8) (X : Vec F S2x32x256x64 .bf16) (h : Fin 4) (j : Fin 256) (d : Fin 64) :
    heads0 c r X (ix4 0 h j d) = X (ix4 0 ⟨4 * (back r c).val + h.val, by have : (back r c).val < 8 := (back r c).isLt; have := h.isLt; omega⟩ j d) := by
  have e := k0_off1_eq c r
  refine congrArg X (funext fun a => Fin.ext ?_)
  fin_cases a
  · show k0_off1 c (BitVec.ofNat 32 r.val) 0 + 1 * 0 = 0; rw [e]; rfl
  · show k0_off1 c (BitVec.ofNat 32 r.val) 1 + 1 * h.val = 4 * (back r c).val + h.val; rw [e, Nat.one_mul]; rfl
  · show k0_off1 c (BitVec.ofNat 32 r.val) 2 + 1 * j.val = j.val; rw [e, Nat.one_mul]; exact Nat.zero_add _
  · show k0_off1 c (BitVec.ofNat 32 r.val) 3 + 1 * d.val = d.val; rw [e, Nat.one_mul]; exact Nat.zero_add _

theorem heads1_apply (c : Dev nD) (r : Fin 8) (X : Vec F S2x32x256x64 .bf16) (h : Fin 4) (j : Fin 256) (d : Fin 64) :
    heads1 c r X (ix4 0 h j d) = X (ix4 1 ⟨4 * (back r c).val + h.val, by have : (back r c).val < 8 := (back r c).isLt; have := h.isLt; omega⟩ j d) := by
  have e := k0_off2_eq c r
  refine congrArg X (funext fun a => Fin.ext ?_)
  fin_cases a
  · show k0_off2 c (BitVec.ofNat 32 r.val) 0 + 1 * 0 = 1; rw [e]; rfl
  · show k0_off2 c (BitVec.ofNat 32 r.val) 1 + 1 * h.val = 4 * (back r c).val + h.val; rw [e, Nat.one_mul]; rfl
  · show k0_off2 c (BitVec.ofNat 32 r.val) 2 + 1 * j.val = j.val; rw [e, Nat.one_mul]; exact Nat.zero_add _
  · show k0_off2 c (BitVec.ofNat 32 r.val) 3 + 1 * d.val = d.val; rw [e, Nat.one_mul]; exact Nat.zero_add _

variable (m : (ℓ : Loc nD τ sig) → Buf (Elt F) ℓ) (c : Dev nD)

/-- A device's slice of the keys or values, with the heads before the positions, at an index. -/
theorem slice_apply {α : Type} (x : S16x256x32x64.Idx → α) (start : Fin 4 → Int)
    (hs : ∀ k, start k = ((![c.val * 2, 0, 0, 0] : Fin 4 → ℕ) k : ℕ)) (b : Fin 2) (h : Fin 32) (j : Fin 256) (d : Fin 64) :
    transpose S2x32x256x64 [0, 2, 1, 3] (Host.dynamicSlice S2x256x32x64 x start sliceFits_S16x256x32x64_S2x256x32x64)
        transposes_S2x256x32x64_S2x32x256x64_0_2_1_3 (ix4 b h j d)
      = x (ix4 ⟨c.val * 2 + b.val, by have : c.val < 8 := c.isLt; have := b.isLt; omega⟩ j h d) := by
  have hc : c.val < 8 := c.isLt
  pointwise
  have h0 := Host.clampedStart_of_le (s := S16x256x32x64) (t := S2x256x32x64) rfl start 0 (c.val * 2) (hs 0) (by show c.val * 2 + 2 ≤ 16; omega)
  have h1 := Host.clampedStart_of_le (s := S16x256x32x64) (t := S2x256x32x64) rfl start 1 0 (hs 1) (by decide)
  have h2 := Host.clampedStart_of_le (s := S16x256x32x64) (t := S2x256x32x64) rfl start 2 0 (hs 2) (by decide)
  have h3 := Host.clampedStart_of_le (s := S16x256x32x64) (t := S2x256x32x64) rfl start 3 0 (hs 3) (by decide)
  refine congrArg x (funext fun a => Fin.ext ?_)
  fin_cases a
  · exact congrArg (· + b.val) h0
  · exact (congrArg (· + j.val) h1).trans (Nat.zero_add _)
  · exact (congrArg (· + h.val) h2).trans (Nat.zero_add _)
  · exact (congrArg (· + d.val) h3).trans (Nat.zero_add _)

/-- The word of a device's first batch. -/
theorem first_batch : ∀ c : Dev nD, BitVec.toInt (Scalar.select
      (IntOp.cmpi .slt (IntOp.muli (IntOp.remui .host (IntOp.divui .host (Dev.word c) 1#32) 8#32) 2#32) 0#32)
      (IntOp.addi (IntOp.muli (IntOp.remui .host (IntOp.divui .host (Dev.word c) 1#32) 8#32) 2#32) 16#32)
      (IntOp.muli (IntOp.remui .host (IntOp.divui .host (Dev.word c) 1#32) 8#32) 2#32)) = ((c.val * 2 : ℕ) : Int) := by
  decide

theorem keys_apply (b : Fin 2) (h : Fin 32) (j : Fin 256) (d : Fin 64) :
    Vh m c main_v15 (ix4 b h j d)
      = m ((c : Thread nD τ).loc main_arg2) (ix4 ⟨c.val * 2 + b.val, by have : c.val < 8 := c.isLt; have := b.isLt; omega⟩ j h d) := by
  unfold Vh V1
  after_results_simp_entrywise
  refine slice_apply c _ _ (fun k => ?_) b h j d
  fin_cases k
  · exact first_batch c
  · rfl
  · rfl
  · rfl

theorem values_apply (b : Fin 2) (h : Fin 32) (j : Fin 256) (d : Fin 64) :
    Vh m c main_v16 (ix4 b h j d)
      = m ((c : Thread nD τ).loc main_arg3) (ix4 ⟨c.val * 2 + b.val, by have : c.val < 8 := c.isLt; have := b.isLt; omega⟩ j h d) := by
  unfold Vh V1
  after_results_simp_entrywise
  refine slice_apply c _ _ (fun k => ?_) b h j d
  fin_cases k
  · exact first_batch c
  · rfl
  · rfl
  · rfl

end Cert.KernelIdeal
end
-- ==== Proof.Softmax.lean ====
/-
  A row of attention weights at real scores, two ways: the exponentials over their sum, and the exponentials below the row's
  maximum over theirs.
-/
module

public import Idealize.ShloMosaic.PureOps.Ideal
public import Idealize.ShloMosaic.PureOps.Ideal.Laws

@[expose] public section

noncomputable section

namespace Cert.Softmax

open Idealize.ShloMosaic

theorem bits_eighth : Ideal.ofBits .f32 0x3E000000#32 = ((1 / 8 : ℝ) : EReal) := by
  simp [Ideal.ofBits, Ideal.ieee, -EReal.coe_mul]; norm_num
theorem bits_bot : Ideal.ofBits .f32 0xFF800000#32 = ⊥ := by
  simp [Ideal.ofBits, Ideal.ieee]

/-- A finite sum of reals is real. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The running maximum from `⊥` of terms one of which is real, none of them `⊤`, is real. -/
theorem fold_max_real {ι : Type} [Fintype ι] (t : ι → EReal) (ht : ∀ j, t j ≠ ⊤) (i : ι) (hi : t i ≠ ⊥) :
    ∃ μ : ℝ, (Finset.univ : Finset ι).fold max ⊥ t = (μ : EReal) := by
  have hlt : (Finset.univ : Finset ι).fold max ⊥ t < ⊤ :=
    (Finset.fold_max_lt _).2 ⟨bot_lt_top, fun j _ => lt_top_iff_ne_top.2 (ht j)⟩
  have hgt : ⊥ < (Finset.univ : Finset ι).fold max ⊥ t :=
    (Finset.lt_fold_max _).2 (.inr ⟨i, Finset.mem_univ i, bot_lt_iff_ne_bot.2 hi⟩)
  exact ⟨_, (EReal.coe_toReal hlt.ne hgt.ne').symm⟩

variable {n : ℕ} (p : Fin n → Prop) [DecidablePred p] (r : Fin n → ℝ)

/-- The two rows of weights are the same. -/
theorem weights_eq (i : Fin n) (hi : p i) (j : Fin n) :
    (if p j then Ideal.exp (r j : EReal) else 0) * Ideal.div 1 (∑ j' : Fin n, if p j' then Ideal.exp (r j' : EReal) else 0)
      = Ideal.div (Ideal.exp ((if p j then (r j : EReal) else ⊥) - (Finset.univ : Finset (Fin n)).fold max ⊥ (fun j' => if p j' then (r j' : EReal) else ⊥)))
          (∑ j'' : Fin n, Ideal.exp ((if p j'' then (r j'' : EReal) else ⊥)
            - (Finset.univ : Finset (Fin n)).fold max ⊥ (fun j' => if p j' then (r j' : EReal) else ⊥))) := by
  obtain ⟨μ, hμ⟩ := fold_max_real (fun j' => if p j' then (r j' : EReal) else ⊥)
    (fun j' => by by_cases h : p j' <;> simp [h]) i (by simp [hi])
  rw [hμ]
  let e : Fin n → ℝ := fun j' => if p j' then Real.exp (r j') else 0
  have hk : ∀ j', (if p j' then Ideal.exp (r j' : EReal) else 0) = (e j' : EReal) := fun j' => by
    by_cases h : p j' <;> simp [h, e]
  have hr : ∀ j', Ideal.exp ((if p j' then (r j' : EReal) else ⊥) - (μ : EReal)) = ((e j' * Real.exp (-μ) : ℝ) : EReal) := fun j' => by
    by_cases h : p j'
    · simp only [h, e, if_true]
      rw [← EReal.coe_sub, Ideal.exp_coe, sub_eq_add_neg, Real.exp_add]
    · simp [h, e]
  simp only [hk, hr, sum_coe]
  have hpos : 0 < ∑ j', e j' := Finset.sum_pos' (fun j' _ => by by_cases h : p j' <;> simp [h, e, Real.exp_nonneg])
    ⟨i, Finset.mem_univ i, by simp [e, hi, Real.exp_pos]⟩
  have hμp := Real.exp_pos (-μ)
  have hpos' : 0 < ∑ j', e j' * Real.exp (-μ) := by rw [← Finset.sum_mul]; positivity
  rw [Ideal.div_coe hpos.ne', Ideal.div_coe hpos'.ne', one_mul, ← EReal.coe_mul, ← EReal.coe_mul, EReal.coe_eq_coe_iff, ← Finset.sum_mul]
  field_simp

end Cert.Softmax
end
-- ==== Proof.Attention.lean ====
/-
  Both programs compute the same attention: the kernel's sum over the devices' blocks of heads, and the reference's over all
  the heads, at an index, from the whole arrays.
-/
module

public import proofs.«01_k».proof.Proof.Masks
public import proofs.«01_k».proof.Proof.Reads
public import proofs.«01_k».proof.Proof.Softmax

@[expose] public section

noncomputable section

open Idealize.ShloMosaic

namespace Cert.Attention

/-- The arrays, whole. -/
abbrev X := FVec Ideal ⟨3, ![16, 256, 512]⟩ .bf16
abbrev Wq := FVec Ideal ⟨2, ![512, 2048]⟩ .bf16
abbrev Kv := FVec Ideal ⟨4, ![16, 256, 32, 64]⟩ .bf16
abbrev Wo := FVec Ideal ⟨2, ![2048, 512]⟩ .bf16

/-- Entry `d` of head `h`, among all the heads' entries. -/
abbrev col (h : Fin 32) (d : Fin 64) : Fin 2048 := ⟨h.val * 64 + d.val, by have := h.isLt; have := d.isLt; omega⟩
/-- Head `h` of device `g`. -/
abbrev headOf (g : Fin 8) (h : Fin 4) : Fin 32 := ⟨g.val * 4 + h.val, by have := g.isLt; have := h.isLt; omega⟩

variable (x : X) (wq : Wq) (k v : Kv) (wo : Wo) (b : Fin 16) (h : Fin 32) (i j : Fin 256)

/-- A score, before it is scaled. -/
def score : EReal :=
  ∑ d : Fin 64, (∑ l : Fin 512, x (ix3 b i l) * wq (ix2 l (col h d))) * k (ix4 b j h d)
/-- The scaled score's exponential, zero where the query does not see the key. -/
def expo : EReal := if sees i j then Ideal.exp (score x wq k b h i j * ((1 / 8 : ℝ) : EReal)) else 0
/-- The attention weight. -/
def weight : EReal := expo x wq k b h i j * Ideal.div 1 (∑ j' : Fin 256, expo x wq k b h i j')
/-- What one head adds to an entry of the result. -/
def headTerm (n : Fin 512) : EReal :=
  ∑ d : Fin 64, (∑ j : Fin 256, weight x wq k b h i j * v (ix4 b j h d)) * wo (ix2 (col h d) n)
/-- An entry of the result. -/
def out (n : Fin 512) : EReal := ∑ h : Fin 32, headTerm x wq k v wo b h i n

/-! ## The reference -/

/-- The score is real where the arrays are. -/
theorem score_real (hx : ∀ i, ∃ r : ℝ, x i = (r : EReal)) (hwq : ∀ i, ∃ r : ℝ, wq i = (r : EReal)) (hk : ∀ i, ∃ r : ℝ, k i = (r : EReal)) :
    ∃ s : Fin 256 → ℝ, ∀ j, score x wq k b h i j * ((1 / 8 : ℝ) : EReal) = (s j : EReal) := by
  choose xr hxr using hx
  choose wr hwr using hwq
  choose kr hkr using hk
  refine ⟨fun j => (∑ d : Fin 64, (∑ l : Fin 512, xr (ix3 b i l) * wr (ix2 l (col h d))) * kr (ix4 b j h d)) * (1 / 8), fun j => ?_⟩
  unfold score
  simp only [hxr, hwr, hkr, ← EReal.coe_mul, Softmax.sum_coe]

open Cert.ReferenceIdeal in
theorem reference_weight (hx : ∀ i, ∃ r : ℝ, x i = (r : EReal)) (hwq : ∀ i, ∃ r : ℝ, wq i = (r : EReal)) (hk : ∀ i, ∃ r : ℝ, k i = (r : EReal)) :
    weights (anyKey mask) (expos (masked mask (scaled (queries x wq) k))) (ix4 b h i j) = weight x wq k b h i j := by
  obtain ⟨s, hs⟩ := score_real x wq k b h i hx hwq hk
  have hany : anyKey mask (ix1 i) = 1#1 := anyKey_apply mask i (by rw [mask_apply]; simp)
  have hm : ∀ j, masked mask (scaled (queries x wq) k) (ix4 b h i j) = if sees i j then (s j : EReal) else ⊥ := fun j => by
    rw [masked_apply, mask_apply, scaled_apply, Softmax.bits_eighth, Softmax.bits_bot, ← hs j]
    simp only [queries_apply, score]
    by_cases hij : sees i j <;> simp [hij, Scalar.select]
  rw [weights_apply, rowSum_apply, hany]
  simp only [expos_apply, rowMax_apply, hm, Softmax.bits_bot]
  unfold weight expo
  simp only [hs]
  exact (Softmax.weights_eq (fun j => sees i j) s i (le_refl _) j).symm

open Cert.ReferenceIdeal in
theorem reference_out (hx : ∀ i, ∃ r : ℝ, x i = (r : EReal)) (hwq : ∀ i, ∃ r : ℝ, wq i = (r : EReal)) (hk : ∀ i, ∃ r : ℝ, k i = (r : EReal))
    (n : Fin 512) :
    output (context v (weights (anyKey mask) (expos (masked mask (scaled (queries x wq) k))))) wo (ix3 b i n) = out x wq k v wo b i n := by
  rw [output_apply, Fin.sum_univ_tiles 32 64 rfl]
  refine Finset.sum_congr rfl fun h _ => Finset.sum_congr rfl fun d _ => ?_
  rw [context_apply]
  refine Ideal.mul_congr (Finset.sum_congr rfl fun j _ => ?_) rfl
  rw [reference_weight x wq k b h i j hx hwq hk, mul_comm]

/-! ## The kernel -/

open Cert.KernelIdeal

/-- One device's contribution is its four heads' terms. -/
theorem contrib_out (g : Fin 8) (xb : FVec Ideal S256x512 .bf16) (wqB : Vec Ideal S512x256 .bf16) (kB vB : Vec Ideal S1x4x256x64 .bf16)
    (woB : Vec Ideal S256x512 .bf16) (hx : ∀ i l, xb (ix2 i l) = x (ix3 b i l))
    (hwq : ∀ l (e : Fin 256), wqB (ix2 l e) = wq (ix2 l ⟨g.val * 256 + e.val, by have := g.isLt; have := e.isLt; omega⟩))
    (hk : ∀ h j d, kB (ix4 0 h j d) = k (ix4 b j (headOf g h) d)) (hv : ∀ h j d, vB (ix4 0 h j d) = v (ix4 b j (headOf g h) d))
    (hwo : ∀ (e : Fin 256) n, woB (ix2 e n) = wo (ix2 ⟨g.val * 256 + e.val, by have := g.isLt; have := e.isLt; omega⟩ n)) (n : Fin 512) :
    contrib maskW xb wqB kB vB woB (ix2 i n) = ∑ h : Fin 4, headTerm x wq k v wo b (headOf g h) i n := by
  have hcol : ∀ (h : Fin 4) (d : Fin 64) (H : g.val * 256 + (h.val * 64 + d.val) < 2048),
      (⟨g.val * 256 + (h.val * 64 + d.val), H⟩ : Fin 2048) = col (headOf g h) d := fun h d H => Fin.ext (by show _ = (g.val * 4 + h.val) * 64 + d.val; ring)
  have he : ∀ h i j, KernelIdeal.expo maskW xb wqB kB h i j = expo x wq k b (headOf g h) i j := fun h i j => by
    unfold KernelIdeal.expo expo score
    rw [maskW_apply, Softmax.bits_eighth]
    simp only [hx, hwq, hk, hcol]
    by_cases hij : sees i j <;> simp [hij, Scalar.select]
  rw [contrib_apply]
  refine Finset.sum_congr rfl fun h _ => ?_
  unfold headTerm weight
  refine Finset.sum_congr rfl fun d _ => ?_
  simp only [he, hv, hwo, hcol]

theorem sumParts_apply (p : Fin 8 → FVec Ideal S256x512 .f32) (n : Fin 512) :
    sumParts p (ix3 0 i n) = ∑ r : Fin 8, p r (ix2 i n) := by
  pointwise [sumParts, addPart, startPart]
  rw [Fin.sum_univ_eight]
  ac_rfl

theorem back_bijective (c : Dev nD) : Function.Bijective fun r : Fin 8 => (back r c : Fin 8) := by
  revert c; decide

/-- The devices' contributions are all the heads' terms. -/
theorem sum_heads (c : Dev nD) (f : Fin 32 → EReal) : ∑ r : Fin 8, ∑ h : Fin 4, f (headOf (back r c) h) = ∑ h : Fin 32, f h := by
  rw [Fin.sum_univ_tiles 8 4 rfl f]
  exact Fintype.sum_bijective _ (back_bijective c) _ _ fun r => rfl

theorem kernel_out (B : Blocks Ideal) (c : Dev nD) (Xc : Vec Ideal S2x256x512 .bf16) (Kc Vc : Vec Ideal S2x32x256x64 .bf16)
    (bat : Fin 2 → Fin 16)
    (hx : ∀ q i l, Xc (ix3 q i l) = x (ix3 (bat q) i l))
    (hwq : ∀ (g : Fin 8) l (e : Fin 256), B.wq g (ix2 l e) = wq (ix2 l ⟨g.val * 256 + e.val, by have := g.isLt; have := e.isLt; omega⟩))
    (hk : ∀ q h j d, Kc (ix4 q h j d) = k (ix4 (bat q) j h d)) (hv : ∀ q h j d, Vc (ix4 q h j d) = v (ix4 (bat q) j h d))
    (hwo : ∀ (g : Fin 8) (e : Fin 256) n, B.wo g (ix2 e n) = wo (ix2 ⟨g.val * 256 + e.val, by have := g.isLt; have := e.isLt; omega⟩ n))
    (q : Fin 2) (n : Fin 512) :
    outOf B c Xc Kc Vc (ix3 q i n) = out x wq k v wo (bat q) i n := by
  have hh : ∀ (g : Fin 8) (h : Fin 4) H, (⟨4 * g.val + h.val, H⟩ : Fin 32) = headOf g h := fun g h H => Fin.ext (by show _ = g.val * 4 + h.val; ring)
  unfold outOf out
  fin_cases q
  · show sumParts (contrib0 B c Xc Kc Vc) (ix3 0 i n) = _
    rw [sumParts_apply, ← sum_heads c]
    refine Finset.sum_congr rfl fun r _ => contrib_out x wq k v wo _ i (back r c) _ _ _ _ _ (fun i l => ?_) (hwq _) (fun h j d => ?_) (fun h j d => ?_) (hwo _) n
    · rw [xMat0_apply, hx]; rfl
    · rw [heads0_apply, hk, hh]; rfl
    · rw [heads0_apply, hv, hh]; rfl
  · show sumParts (contrib1 B c Xc Kc Vc) (ix3 0 i n) = _
    rw [sumParts_apply, ← sum_heads c]
    refine Finset.sum_congr rfl fun r _ => contrib_out x wq k v wo _ i (back r c) _ _ _ _ _ (fun i l => ?_) (hwq _) (fun h j d => ?_) (fun h j d => ?_) (hwo _) n
    · rw [xMat1_apply, hx]; rfl
    · rw [heads1_apply, hk, hh]; rfl
    · rw [heads1_apply, hv, hh]; rfl

end Cert.Attention
end
-- ==== Proof.Finite.lean ====
/-
  What the precondition says: no entry of a device's block of the input, of its block of the query weights, or of the keys
  is an infinity, so each is a real number; and then so is each entry of the whole arrays.
-/
module

public import proofs.«01_k».proof.Defs
public import proofs.«01_k».proof.Proof.Gen.KernelIdeal
public import Idealize.ShloMosaic.Lib.ReduceAll
public import Idealize.ShloMosaic.Lib.Pointwise

@[expose] public section

noncomputable section

open Idealize.ShloMosaic Idealize.ShloMosaic.TcCoe

namespace Cert.Finite

open Cert.Pre_finite_inputs_KernelIdeal

/-- The shape facts the precondition takes at a device's blocks, -/
theorem facts : Cert.Pre_finite_inputs_KernelIdeal.Facts :=
  ⟨by decide, by decide, by decide, by decide, by decide, by decide, by decide⟩
/-- and at the whole arrays. -/
theorem facts_whole : Cert.Pre_finite_inputs_ReferenceIdeal.Facts :=
  ⟨by decide, by decide, by decide, by decide, by decide, by decide, by decide⟩

/-- The bound's word is the top. -/
theorem bits_top : Ideal.ofBits .bf16 0x7F80#16 = ⊤ := by simp [Ideal.ofBits, Ideal.ieee]

/-- An extended real whose absolute value is below the top is a real number. -/
theorem real_of_abs {x : EReal} (h : max x (-x) < ⊤) : ∃ r : ℝ, x = (r : EReal) := by
  induction x using EReal.rec with
  | bot => simp at h
  | top => simp at h
  | coe r => exact ⟨r, rfl⟩

/-- One array's test: the conjunction over its entries is 1, so every entry is a real number. -/
theorem real_of_all {S : Shape} {dims : List (Fin S.rank)} (x : FVec Ideal S .bf16) (hb : S_.BroadcastsInDim S (![] : Fin 0 → Fin S.rank))
    (hr : S.ReducesTo dims S_) (hn : 0 < S_.numel)
    (e : Host.reduce IntOp.andi (cmpf .olt (Host.absf x) (broadcastInDim S ![] hb (constant S_ .bf16 0x7F80#16))) (constantI S_ 1 1#1) hr hn ix0 = 1#1)
    (i : S.Idx) : ∃ r : ℝ, x i = (r : EReal) := by
  have h := (Ideal.cmp_olt_eq_one (max (x i) (-x i)) (Ideal.ofBits .bf16 0x7F80#16)).1 (Host.reduce_andi_all _ _ _ _ ix0 e i)
  rw [bits_top] at h
  exact real_of_abs h

instance : Subsingleton S_.Idx := ⟨fun a b => funext fun k => k.elim0⟩

/-- The precondition of one device's blocks. -/
theorem real_of_fn [Cert.Pre_finite_inputs_KernelIdeal.Facts] {a0 : FVec Ideal S2x256x512 .bf16} {a1 : FVec Ideal S512x256 .bf16}
    {a2 a3 : FVec Ideal S16x256x32x64 .bf16} {a4 : FVec Ideal S256x512 .bf16}
    (e : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) := by
  have h := congrFun e ix0
  unfold fn at h
  have h2 := IntOp.andi_eq_one.1 h
  have h1 := IntOp.andi_eq_one.1 h2.1
  exact ⟨real_of_all a0 _ Facts.reducesTo_S2x256x512_S_d0_1_2 _ h1.1, real_of_all a1 _ Facts.reducesTo_S512x256_S_d0_1 _ h1.2,
    real_of_all a2 _ Facts.reducesTo_S16x256x32x64_S_d0_1_2_3 _ h2.2⟩

/-- The input whole: batch `b` is on device `b / 2`. -/
theorem whole_input (x : FVec Ideal ⟨3, ![16, 256, 512]⟩ .bf16)
    (h : ∀ (c : Fin 8) i, ∃ r : ℝ, (Layout.block ⟨3, ![2, 256, 512]⟩ ⟨3, ![16, 256, 512]⟩ 0 8 c x) i = (r : EReal)) :
    ∀ i, ∃ r : ℝ, x i = (r : EReal) := by
  intro i
  have hb : (i 0).val < 16 := (i 0).isLt
  obtain ⟨r, hr⟩ := h ⟨(i 0).val / 2, by omega⟩ (ix3 ⟨(i 0).val % 2, by omega⟩ (i 1) (i 2))
  refine ⟨r, ?_⟩
  rw [← hr, Layout.block_apply]
  refine congrArg x (funext fun a => Fin.ext ?_)
  rw [Layout.Tiles.idx_val]
  fin_cases a
  · show (i 0).val = (i 0).val / 2 * 2 + (i 0).val % 2
    omega
  · rfl
  · rfl

/-- The query weights whole: column `e` is on device `e / 256`. -/
theorem whole_weights (w : FVec Ideal ⟨2, ![512, 2048]⟩ .bf16)
    (h : ∀ (c : Fin 8) i, ∃ r : ℝ, (Layout.block ⟨2, ![512, 256]⟩ ⟨2, ![512, 2048]⟩ 1 8 c w) i = (r : EReal)) :
    ∀ i, ∃ r : ℝ, w i = (r : EReal) := by
  intro i
  have hb : (i 1).val < 2048 := (i 1).isLt
  obtain ⟨r, hr⟩ := h ⟨(i 1).val / 256, by omega⟩ (ix2 (i 0) ⟨(i 1).val % 256, by omega⟩)
  refine ⟨r, ?_⟩
  rw [← hr, Layout.block_apply]
  refine congrArg w (funext fun a => Fin.ext ?_)
  rw [Layout.Tiles.idx_val]
  fin_cases a
  · rfl
  · show (i 1).val = (i 1).val / 256 * 256 + (i 1).val % 256
    omega

end Cert.Finite

end
-- ==== Proof.Frames.lean ====
/- The frames of the three programs, and the idealization's side: the kernel's run at its native words and at the ideal
   instance is one run over any float values (Launch), and the reference is host code that declares no semaphore. -/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem Cert.KernelIdeal

/-- The kernel's run with its result's contents dropped. -/
theorem run_frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c).1, (h.1 c).2.1, (h.1 c).2.2.1, (h.1 c).2.2.2.1, (h.1 c).2.2.2.2.1⟩, h.2⟩)
    (run_main m ρ)

set_option maxRecDepth 100000 in
/-- The kernel's body is the same text in both programs. -/
theorem body_same :
    @Cert.Kernel.cc0_body Bits _ Cert.Kernel.Gen.facts = @Cert.KernelIdeal.cc0_body Bits _ Cert.KernelIdeal.Gen.facts :=
  rfl

/-- The two programs have the same table of kernel bodies, -/
theorem bodies_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) =>
    show Cert.Kernel.cc0_body _ _ _ _ _ _ _ _ _ _ _ _ _ _ _ _ _ =
      Cert.KernelIdeal.cc0_body _ _ _ _ _ _ _ _ _ _ _ _ _ _ _ _ _
    rw [body_same]
  | ⟨_ + 1, h⟩, _ => exact absurd h (Nat.not_lt.2 (Nat.le_add_left _ _))

/-- and so the same table of regions and bodies. -/
theorem tables_same : Cert.Kernel.defs (F := Bits) = Cert.KernelIdeal.defs (F := Bits) := by
  unfold Cert.Kernel.defs Cert.KernelIdeal.defs
  rw [bodies_same]
  rfl

/-- The kernel at its native words: the two programs have the same text. -/
theorem frame_kernel : Cert.quiescent_Kernel := fun m ρ _ => by
  have h := run_frame (F := Bits) m ρ
  rw [← tables_same] at h
  exact h

/-- The kernel at the ideal instance. -/
theorem frame_ideal : Cert.quiescent_KernelIdeal := fun m ρ _ => run_frame (F := Ideal) m ρ

/-- The reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Value.lean ====
/-
  The value claim: each device's result is its block of the reference's, over the reals.
-/
module

public import proofs.«01_k».proof.Defs
public import proofs.«01_k».proof.Proof.Attention
public import proofs.«01_k».proof.Proof.Finite
public import proofs.«01_k».proof.Proof.Frames

@[expose] public section

noncomputable section

open Idealize.ShloMosaic Idealize.ShloMosaic.TcCoe Idealize.SL.Sem

namespace Cert.Proof

open Cert.KernelIdeal Cert.KernelIdeal.Gen Cert.Attention

/-- The batch of the whole input that is device `c`'s batch `q`. -/
abbrev batchOf (c : Dev nD) (q : Fin 2) : Fin 16 :=
  ⟨c.val * 2 + q.val, by have : c.val < 8 := c.isLt; have := q.isLt; omega⟩

/-! The host lines before the kernel leave these arguments as they are. -/

theorem input0 (m : (ℓ : Loc nD τ sig) → Buf (Elt Ideal) ℓ) (c : Dev nD) : Vh m c main_arg0 = m ((c.tc : Thread nD τ).loc main_arg0) :=
  (V1_of m c _ (by decide)).trans rfl
theorem input1 (m : (ℓ : Loc nD τ sig) → Buf (Elt Ideal) ℓ) (c : Dev nD) : Vh m c main_arg1 = m ((c.tc : Thread nD τ).loc main_arg1) :=
  (V1_of m c _ (by decide)).trans rfl
theorem input4 (m : (ℓ : Loc nD τ sig) → Buf (Elt Ideal) ℓ) (c : Dev nD) : Vh m c main_arg4 = m ((c.tc : Thread nD τ).loc main_arg4) :=
  (V1_of m c _ (by decide)).trans rfl

/-- The kernel's result on device `c`, from the whole arrays. -/
theorem result_apply (m : (ℓ : Loc nD τ sig) → Buf (Elt Ideal) ℓ) (x : X) (wq : Wq) (k v : Kv) (wo : Wo)
    (hx : ∀ c : Dev nD, m ((c.tc : Thread nD τ).loc main_arg0) = Layout.block ⟨3, ![2, 256, 512]⟩ ⟨3, ![16, 256, 512]⟩ 0 8 c x)
    (hwq : ∀ c : Dev nD, m ((c.tc : Thread nD τ).loc main_arg1) = Layout.block ⟨2, ![512, 256]⟩ ⟨2, ![512, 2048]⟩ 1 8 c wq)
    (hk : ∀ c : Dev nD, m ((c.tc : Thread nD τ).loc main_arg2) = k)
    (hv : ∀ c : Dev nD, m ((c.tc : Thread nD τ).loc main_arg3) = v)
    (hwo : ∀ c : Dev nD, m ((c.tc : Thread nD τ).loc main_arg4) = Layout.block ⟨2, ![256, 512]⟩ ⟨2, ![2048, 512]⟩ 0 8 c wo)
    (c : Dev nD) (q : Fin 2) (i : Fin 256) (n : Fin 512) :
    result m c (ix3 q i n) = out x wq k v wo (batchOf c q) i n := by
  refine kernel_out x wq k v wo i (blocks m) c _ _ _ (batchOf c) (fun q i l => ?_) (fun g l e => ?_) (fun q h j d => ?_) (fun q h j d => ?_)
    (fun g e n => ?_) q n
  · rw [input0 m c, hx, Layout.block_apply]
    refine congrArg x (funext fun a => Fin.ext ?_)
    rw [Layout.Tiles.idx_val]
    fin_cases a <;> rfl
  · rw [show (blocks m).wq g = _ from input1 m g, hwq, Layout.block_apply]
    refine congrArg wq (funext fun a => Fin.ext ?_)
    rw [Layout.Tiles.idx_val]
    fin_cases a <;> rfl
  · rw [keys_apply, hk]
  · rw [values_apply, hv]
  · rw [show (blocks m).wo g = _ from input4 m g, hwo, Layout.block_apply]
    refine congrArg wo (funext fun a => Fin.ext ?_)
    rw [Layout.Tiles.idx_val]
    fin_cases a <;> rfl

/-- A rank-3 array of a device's batches that agrees with the whole one at each entry is that device's block. -/
theorem block_of_apply (c : Dev nD) (y : Vec Ideal S2x256x512 .f32) (z : FVec Ideal ⟨3, ![16, 256, 512]⟩ .f32)
    (h : ∀ q i n, y (ix3 q i n) = z (ix3 (batchOf c q) i n)) :
    y = Layout.block ⟨3, ![2, 256, 512]⟩ ⟨3, ![16, 256, 512]⟩ 0 8 c z := by
  funext j
  have hj : j = ix3 (j 0) (j 1) (j 2) := by funext a; fin_cases a <;> rfl
  rw [Layout.block_apply]
  refine (congrArg y hj).trans ((h (j 0) (j 1) (j 2)).trans ?_)
  refine congrArg z (funext fun a => Fin.ext ?_)
  rw [Layout.Tiles.idx_val]
  fin_cases a <;> rfl

/-- The value claim. -/
theorem value [Cert.Pre_finite_inputs_KernelIdeal.Facts] :
    Cert.algebraic_KernelIdeal_ReferenceIdeal_pre_finite_inputs_KernelIdeal := by
  intro m g m' g' hpre hm
  have hfin := fun c => Finite.real_of_fn (hpre c)
  have hx := Finite.whole_input _ fun c i => by
    have := (hfin c).1 i
    rwa [(hm c).1] at this
  have hwq := Finite.whole_weights _ fun c i => by
    have := (hfin c).2.1 i
    rwa [(hm c).2.1] at this
  have hk := fun i => by
    have := (hfin 0).2.2 i
    rwa [(hm 0).2.2.1] at this
  refine ⟨Cert.ReferenceIdeal.Value.res_main_v38 m' 0, ?_, ?_⟩
  · refine (θ_run defs _ _).mono (fun r h c => ?_) (run_main (F := Ideal) m g)
    have e := h.1 c
    refine ⟨e.2.2.2.2.2.trans ?_, e.1, e.2.1, e.2.2.1, e.2.2.2.1, e.2.2.2.2.1⟩
    refine block_of_apply c _ _ fun q i n => ?_
    rw [Cert.ReferenceIdeal.result_eq]
    exact (result_apply m _ _ _ _ _ (fun c => (hm c).1) (fun c => (hm c).2.1) (fun c => (hm c).2.2.1) (fun c => (hm c).2.2.2.1)
      (fun c => (hm c).2.2.2.2) c q i n).trans (reference_out _ _ _ _ _ _ _ hx hwq hk n).symm
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Value

@[expose] public section

noncomputable section

namespace Cert.Proof

theorem claim : Cert.Claim := ⟨Cert.Kernel.Gen.facts, Cert.KernelIdeal.Gen.facts, Cert.ReferenceIdeal.Gen.facts,
  Cert.Finite.facts, Cert.Finite.facts_whole, frame_kernel, frame_ideal, fun m g _ => frame_ideal m g trivial,
  frame_reference, fun m g _ => frame_reference m g trivial, trivial,
  letI := Cert.Finite.facts; value⟩

end Cert.Proof

end
